-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S16384x128 : Shape := ⟨2, ![16384, 128]⟩
abbrev S16384x99 : Shape := ⟨2, ![16384, 99]⟩
abbrev S99x128 : Shape := ⟨2, ![99, 128]⟩
abbrev S128 : Shape := ⟨1, ![128]⟩
abbrev S128x128 : Shape := ⟨2, ![128, 128]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x33 : Shape := ⟨2, ![128, 33]⟩
abbrev S33 : Shape := ⟨1, ![33]⟩
abbrev S6x16384x33 : Shape := ⟨3, ![6, 16384, 33]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x99 : S_.BroadcastsInDim S16384x99 (![] : Fin 0 → Fin S16384x99.rank)
  reducesTo_S16384x99_S_d0_1 : S16384x99.ReducesTo [0, 1] S_
  bcast_S_S99x128 : S_.BroadcastsInDim S99x128 (![] : Fin 0 → Fin S99x128.rank)
  reducesTo_S99x128_S_d0_1 : S99x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x33 : S_.BroadcastsInDim S128x33 (![] : Fin 0 → Fin S128x33.rank)
  reducesTo_S128x33_S_d0_1 : S128x33.ReducesTo [0, 1] S_
  bcast_S_S33 : S_.BroadcastsInDim S33 (![] : Fin 0 → Fin S33.rank)
  reducesTo_S33_S_d0 : S33.ReducesTo [0] S_
  bcast_S_S6x16384x33 : S_.BroadcastsInDim S6x16384x33 (![] : Fin 0 → Fin S6x16384x33.rank)
  reducesTo_S6x16384x33_S_d0_1_2 : S6x16384x33.ReducesTo [0, 1, 2] S_

variable [Facts]

def fn_part5 {F : FTy → Type} [FloatOps F] (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) (main_v67 : IVec S_ 1) (main_v71 : IVec S_ 1) (main_v75 : IVec S_ 1) (main_v81 : IVec S_ 1) : IVec S_ 1 :=
  let main_v82 : IVec S_ 1 := andi main_v81 main_v31
  let main_v83 : IVec S_ 1 := andi main_v82 main_v35
  let main_v84 : IVec S_ 1 := andi main_v83 main_v39
  let main_v85 : IVec S_ 1 := andi main_v84 main_v43
  let main_v86 : IVec S_ 1 := andi main_v85 main_v47
  let main_v87 : IVec S_ 1 := andi main_v86 main_v51
  let main_v88 : IVec S_ 1 := andi main_v87 main_v55
  let main_v89 : IVec S_ 1 := andi main_v88 main_v59
  let main_v90 : IVec S_ 1 := andi main_v89 main_v63
  let main_v91 : IVec S_ 1 := andi main_v90 main_v67
  let main_v92 : IVec S_ 1 := andi main_v91 main_v71
  let main_v93 : IVec S_ 1 := andi main_v92 main_v75
  main_v93

def fn_part4 {F : FTy → Type} [FloatOps F] (main_arg16 : FVec F S128x33 .f32) (main_arg17 : FVec F S33 .f32) (main_arg18 : FVec F S6x16384x33 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) : IVec S_ 1 :=
  let main_v64 : FVec F S128x33 .f32 := Host.absf main_arg16
  let main_cst_30 : FVec F S_ .f32 := constant S_ .f32 0x7F800000#32
  let main_v65 : FVec F S128x33 .f32 := broadcastInDim S128x33 ![] bcast_S_S128x33 main_cst_30
  let main_v66 : IVec S128x33 1 := cmpf .olt main_v64 main_v65
  let main_c_31 : IVec S_ 1 := constantI S_ 1 1#1
  let main_v67 : IVec S_ 1 := (fun x v => Host.reduce IntOp.andi x v reducesTo_S128x33_S_d0_1 h_S_) main_v66 main_c_31
  let main_v68 : FVec F S33 .f32 := Host.absf main_arg17
  let main_cst_32 : FVec F S_ .f32 := constant S_ .f32 0x7F800000#32
  let main_v69 : FVec F S33 .f32 := broadcastInDim S33 ![] bcast_S_S33 main_cst_32
  let main_v70 : IVec S33 1 := cmpf .olt main_v68 main_v69
  let main_c_33 : IVec S_ 1 := constantI S_ 1 1#1
  let main_v71 : IVec S_ 1 := (fun x v => Host.reduce IntOp.andi x v reducesTo_S33_S_d0 h_S_) main_v70 main_c_33
  let main_v72 : FVec F S6x16384x33 .f32 := Host.absf main_arg18
  let main_cst_34 : FVec F S_ .f32 := constant S_ .f32 0x7F800000#32
  let main_v73 : FVec F S6x16384x33 .f32 := broadcastInDim S6x16384x33 ![] bcast_S_S6x16384x33 main_cst_34
  let main_v74 : IVec S6x16384x33 1 := cmpf .olt main_v72 main_v73
  let main_c_35 : IVec S_ 1 := constantI S_ 1 1#1
  let main_v75 : IVec S_ 1 := (fun x v => Host.reduce IntOp.andi x v reducesTo_S6x16384x33_S_d0_1_2 h_S_) main_v74 main_c_35
  let main_v76 : IVec S_ 1 := andi main_v3 main_v7
  let main_v77 : IVec S_ 1 := andi main_v76 main_v11
  let main_v78 : IVec S_ 1 := andi main_v77 main_v15
  let main_v79 : IVec S_ 1 := andi main_v78 main_v19
  let main_v80 : IVec S_ 1 := andi main_v79 main_v23
  let main_v81 : IVec S_ 1 := andi main_v80 main_v27
  fn_part5 (F := F) main_v31 main_v35 main_v39 main_v43 main_v47 main_v51 main_v55 main_v59 main_v63 main_v67 main_v71 main_v75 main_v81

def fn_part3 {F : FTy → Type} [FloatOps F] (main_arg12 : FVec F S256 .f32) (main_arg13 : FVec F S256 .f32) (main_arg14 : FVec F S256x128 .f32) (main_arg15 : FVec F S128 .f32) (main_arg16 : FVec F S128x33 .f32) (main_arg17 : FVec F S33 .f32) (main_arg18 : FVec F S6x16384x33 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S256 .f32 := Host.absf main_arg12
  let main_cst_22 : FVec F S_ .f32 := constant S_ .f32 0x7F800000#32
  let main_v49 : FVec F S256 .f32 := broadcastInDim S256 ![] bcast_S_S256 main_cst_22
  let main_v50 : IVec S256 1 := cmpf .olt main_v48 main_v49
  let main_c_23 : IVec S_ 1 := constantI S_ 1 1#1
  let main_v51 : IVec S_ 1 := (fun x v => Host.reduce IntOp.andi x v reducesTo_S256_S_d0 h_S_) main_v50 main_c_23
  let main_v52 : FVec F S256 .f32 := Host.absf main_arg13
  let main_cst_24 : FVec F S_ .f32 := constant S_ .f32 0x7F800000#32
  let main_v53 : FVec F S256 .f32 := broadcastInDim S256 ![] bcast_S_S256 main_cst_24
  let main_v54 : IVec S256 1 := cmpf .olt main_v52 main_v53
  let main_c_25 : IVec S_ 1 := constantI S_ 1 1#1
  let main_v55 : IVec S_ 1 := (fun x v => Host.reduce IntOp.andi x v reducesTo_S256_S_d0 h_S_) main_v54 main_c_25
  let main_v56 : FVec F S256x128 .f32 := Host.absf main_arg14
  let main_cst_26 : FVec F S_ .f32 := constant S_ .f32 0x7F800000#32
  let main_v57 : FVec F S256x128 .f32 := broadcastInDim S256x128 ![] bcast_S_S256x128 main_cst_26
  let main_v58 : IVec S256x128 1 := cmpf .olt main_v56 main_v57
  let main_c_27 : IVec S_ 1 := constantI S_ 1 1#1
  let main_v59 : IVec S_ 1 := (fun x v => Host.reduce IntOp.andi x v reducesTo_S256x128_S_d0_1 h_S_) main_v58 main_c_27
  let main_v60 : FVec F S128 .f32 := Host.absf main_arg15
  let main_cst_28 : FVec F S_ .f32 := constant S_ .f32 0x7F800000#32
  let main_v61 : FVec F S128 .f32 := broadcastInDim S128 ![] bcast_S_S128 main_cst_28
  let main_v62 : IVec S128 1 := cmpf .olt main_v60 main_v61
  let main_c_29 : IVec S_ 1 := constantI S_ 1 1#1
  let main_v63 : IVec S_ 1 := (fun x v => Host.reduce IntOp.andi x v reducesTo_S128_S_d0 h_S_) main_v62 main_c_29
  fn_part4 (F := F) main_arg16 main_arg17 main_arg18 main_v3 main_v7 main_v11 main_v15 main_v19 main_v23 main_v27 main_v31 main_v35 main_v39 main_v43 main_v47 main_v51 main_v55 main_v59 main_v63

def fn_part2 {F : FTy → Type} [FloatOps F] (main_arg8 : FVec F S512 .f32) (main_arg9 : FVec F S512 .f32) (main_arg10 : FVec F S512x256 .f32) (main_arg11 : FVec F S256 .f32) (main_arg12 : FVec F S256 .f32) (main_arg13 : FVec F S256 .f32) (main_arg14 : FVec F S256x128 .f32) (main_arg15 : FVec F S128 .f32) (main_arg16 : FVec F S128x33 .f32) (main_arg17 : FVec F S33 .f32) (main_arg18 : FVec F S6x16384x33 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S512 .f32 := Host.absf main_arg8
  let main_cst_14 : FVec F S_ .f32 := constant S_ .f32 0x7F800000#32
  let main_v33 : FVec F S512 .f32 := broadcastInDim S512 ![] bcast_S_S512 main_cst_14
  let main_v34 : IVec S512 1 := cmpf .olt main_v32 main_v33
  let main_c_15 : IVec S_ 1 := constantI S_ 1 1#1
  let main_v35 : IVec S_ 1 := (fun x v => Host.reduce IntOp.andi x v reducesTo_S512_S_d0 h_S_) main_v34 main_c_15
  let main_v36 : FVec F S512 .f32 := Host.absf main_arg9
  let main_cst_16 : FVec F S_ .f32 := constant S_ .f32 0x7F800000#32
  let main_v37 : FVec F S512 .f32 := broadcastInDim S512 ![] bcast_S_S512 main_cst_16
  let main_v38 : IVec S512 1 := cmpf .olt main_v36 main_v37
  let main_c_17 : IVec S_ 1 := constantI S_ 1 1#1
  let main_v39 : IVec S_ 1 := (fun x v => Host.reduce IntOp.andi x v reducesTo_S512_S_d0 h_S_) main_v38 main_c_17
  let main_v40 : FVec F S512x256 .f32 := Host.absf main_arg10
  let main_cst_18 : FVec F S_ .f32 := constant S_ .f32 0x7F800000#32
  let main_v41 : FVec F S512x256 .f32 := broadcastInDim S512x256 ![] bcast_S_S512x256 main_cst_18
  let main_v42 : IVec S512x256 1 := cmpf .olt main_v40 main_v41
  let main_c_19 : IVec S_ 1 := constantI S_ 1 1#1
  let main_v43 : IVec S_ 1 := (fun x v => Host.reduce IntOp.andi x v reducesTo_S512x256_S_d0_1 h_S_) main_v42 main_c_19
  let main_v44 : FVec F S256 .f32 := Host.absf main_arg11
  let main_cst_20 : FVec F S_ .f32 := constant S_ .f32 0x7F800000#32
  let main_v45 : FVec F S256 .f32 := broadcastInDim S256 ![] bcast_S_S256 main_cst_20
  let main_v46 : IVec S256 1 := cmpf .olt main_v44 main_v45
  let main_c_21 : IVec S_ 1 := constantI S_ 1 1#1
  let main_v47 : IVec S_ 1 := (fun x v => Host.reduce IntOp.andi x v reducesTo_S256_S_d0 h_S_) main_v46 main_c_21
  fn_part3 (F := F) main_arg12 main_arg13 main_arg14 main_arg15 main_arg16 main_arg17 main_arg18 main_v3 main_v7 main_v11 main_v15 main_v19 main_v23 main_v27 main_v31 main_v35 main_v39 main_v43 main_v47

def fn_part1 {F : FTy → Type} [FloatOps F] (main_arg4 : FVec F S128x128 .f32) (main_arg5 : FVec F S128 .f32) (main_arg6 : FVec F S256x512 .f32) (main_arg7 : FVec F S512 .f32) (main_arg8 : FVec F S512 .f32) (main_arg9 : FVec F S512 .f32) (main_arg10 : FVec F S512x256 .f32) (main_arg11 : FVec F S256 .f32) (main_arg12 : FVec F S256 .f32) (main_arg13 : FVec F S256 .f32) (main_arg14 : FVec F S256x128 .f32) (main_arg15 : FVec F S128 .f32) (main_arg16 : FVec F S128x33 .f32) (main_arg17 : FVec F S33 .f32) (main_arg18 : FVec F S6x16384x33 .f32) (main_v3 : IVec S_ 1) (main_v7 : IVec S_ 1) (main_v11 : IVec S_ 1) (main_v15 : IVec S_ 1) : IVec S_ 1 :=
  let main_v16 : FVec F S128x128 .f32 := Host.absf main_arg4
  let main_cst_6 : FVec F S_ .f32 := constant S_ .f32 0x7F800000#32
  let main_v17 : FVec F S128x128 .f32 := broadcastInDim S128x128 ![] bcast_S_S128x128 main_cst_6
  let main_v18 : IVec S128x128 1 := cmpf .olt main_v16 main_v17
  let main_c_7 : IVec S_ 1 := constantI S_ 1 1#1
  let main_v19 : IVec S_ 1 := (fun x v => Host.reduce IntOp.andi x v reducesTo_S128x128_S_d0_1 h_S_) main_v18 main_c_7
  let main_v20 : FVec F S128 .f32 := Host.absf main_arg5
  let main_cst_8 : FVec F S_ .f32 := constant S_ .f32 0x7F800000#32
  let main_v21 : FVec F S128 .f32 := broadcastInDim S128 ![] bcast_S_S128 main_cst_8
  let main_v22 : IVec S128 1 := cmpf .olt main_v20 main_v21
  let main_c_9 : IVec S_ 1 := constantI S_ 1 1#1
  let main_v23 : IVec S_ 1 := (fun x v => Host.reduce IntOp.andi x v reducesTo_S128_S_d0 h_S_) main_v22 main_c_9
  let main_v24 : FVec F S256x512 .f32 := Host.absf main_arg6
  let main_cst_10 : FVec F S_ .f32 := constant S_ .f32 0x7F800000#32
  let main_v25 : FVec F S256x512 .f32 := broadcastInDim S256x512 ![] bcast_S_S256x512 main_cst_10
  let main_v26 : IVec S256x512 1 := cmpf .olt main_v24 main_v25
  let main_c_11 : IVec S_ 1 := constantI S_ 1 1#1
  let main_v27 : IVec S_ 1 := (fun x v => Host.reduce IntOp.andi x v reducesTo_S256x512_S_d0_1 h_S_) main_v26 main_c_11
  let main_v28 : FVec F S512 .f32 := Host.absf main_arg7
  let main_cst_12 : FVec F S_ .f32 := constant S_ .f32 0x7F800000#32
  let main_v29 : FVec F S512 .f32 := broadcastInDim S512 ![] bcast_S_S512 main_cst_12
  let main_v30 : IVec S512 1 := cmpf .olt main_v28 main_v29
  let main_c_13 : IVec S_ 1 := constantI S_ 1 1#1
  let main_v31 : IVec S_ 1 := (fun x v => Host.reduce IntOp.andi x v reducesTo_S512_S_d0 h_S_) main_v30 main_c_13
  fn_part2 (F := F) main_arg8 main_arg9 main_arg10 main_arg11 main_arg12 main_arg13 main_arg14 main_arg15 main_arg16 main_arg17 main_arg18 main_v3 main_v7 main_v11 main_v15 main_v19 main_v23 main_v27 main_v31

def fn {F : FTy → Type} [FloatOps F] (main_arg0 : FVec F S16384x128 .f32) (main_arg1 : FVec F S16384x99 .f32) (main_arg2 : FVec F S99x128 .f32) (main_arg3 : FVec F S128 .f32) (main_arg4 : FVec F S128x128 .f32) (main_arg5 : FVec F S128 .f32) (main_arg6 : FVec F S256x512 .f32) (main_arg7 : FVec F S512 .f32) (main_arg8 : FVec F S512 .f32) (main_arg9 : FVec F S512 .f32) (main_arg10 : FVec F S512x256 .f32) (main_arg11 : FVec F S256 .f32) (main_arg12 : FVec F S256 .f32) (main_arg13 : FVec F S256 .f32) (main_arg14 : FVec F S256x128 .f32) (main_arg15 : FVec F S128 .f32) (main_arg16 : FVec F S128x33 .f32) (main_arg17 : FVec F S33 .f32) (main_arg18 : FVec F S6x16384x33 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x99 .f32 := Host.absf main_arg1
  let main_cst_0 : FVec F S_ .f32 := constant S_ .f32 0x7F800000#32
  let main_v5 : FVec F S16384x99 .f32 := broadcastInDim S16384x99 ![] bcast_S_S16384x99 main_cst_0
  let main_v6 : IVec S16384x99 1 := cmpf .olt main_v4 main_v5
  let main_c_1 : IVec S_ 1 := constantI S_ 1 1#1
  let main_v7 : IVec S_ 1 := (fun x v => Host.reduce IntOp.andi x v reducesTo_S16384x99_S_d0_1 h_S_) main_v6 main_c_1
  let main_v8 : FVec F S99x128 .f32 := Host.absf main_arg2
  let main_cst_2 : FVec F S_ .f32 := constant S_ .f32 0x7F800000#32
  let main_v9 : FVec F S99x128 .f32 := broadcastInDim S99x128 ![] bcast_S_S99x128 main_cst_2
  let main_v10 : IVec S99x128 1 := cmpf .olt main_v8 main_v9
  let main_c_3 : IVec S_ 1 := constantI S_ 1 1#1
  let main_v11 : IVec S_ 1 := (fun x v => Host.reduce IntOp.andi x v reducesTo_S99x128_S_d0_1 h_S_) main_v10 main_c_3
  let main_v12 : FVec F S128 .f32 := Host.absf main_arg3
  let main_cst_4 : FVec F S_ .f32 := constant S_ .f32 0x7F800000#32
  let main_v13 : FVec F S128 .f32 := broadcastInDim S128 ![] bcast_S_S128 main_cst_4
  let main_v14 : IVec S128 1 := cmpf .olt main_v12 main_v13
  let main_c_5 : IVec S_ 1 := constantI S_ 1 1#1
  let main_v15 : IVec S_ 1 := (fun x v => Host.reduce IntOp.andi x v reducesTo_S128_S_d0 h_S_) main_v14 main_c_5
  fn_part1 (F := F) main_arg4 main_arg5 main_arg6 main_arg7 main_arg8 main_arg9 main_arg10 main_arg11 main_arg12 main_arg13 main_arg14 main_arg15 main_arg16 main_arg17 main_arg18 main_v3 main_v7 main_v11 main_v15
-- ==== Kernel.lean ====
abbrev S16384x128 : Shape := ⟨2, ![16384, 128]⟩
abbrev S16384x99 : Shape := ⟨2, ![16384, 99]⟩
abbrev S99x128 : Shape := ⟨2, ![99, 128]⟩
abbrev S128 : Shape := ⟨1, ![128]⟩
abbrev S128x128 : Shape := ⟨2, ![128, 128]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x33 : Shape := ⟨2, ![128, 33]⟩
abbrev S33 : Shape := ⟨1, ![33]⟩
abbrev S6x16384x33 : Shape := ⟨3, ![6, 16384, 33]⟩
abbrev S6x33x16384 : Shape := ⟨3, ![6, 33, 16384]⟩
abbrev S1x128 : Shape := ⟨2, ![1, 128]⟩
abbrev S1x512 : Shape := ⟨2, ![1, 512]⟩
abbrev S1x256 : Shape := ⟨2, ![1, 256]⟩
abbrev S1x33 : Shape := ⟨2, ![1, 33]⟩
abbrev S16384x6 : Shape := ⟨2, ![16384, 6]⟩
abbrev S4096x128 : Shape := ⟨2, ![4096, 128]⟩
abbrev S4096x99 : Shape := ⟨2, ![4096, 99]⟩
abbrev S6x33x4096 : Shape := ⟨3, ![6, 33, 4096]⟩
abbrev S4096x6 : Shape := ⟨2, ![4096, 6]⟩
abbrev S16384x512 : Shape := ⟨2, ![16384, 512]⟩
abbrev S2x512 : Shape := ⟨2, ![2, 512]⟩
abbrev S2x256 : Shape := ⟨2, ![2, 256]⟩
abbrev S4096x256 : Shape := ⟨2, ![4096, 256]⟩
abbrev S4096x512 : Shape := ⟨2, ![4096, 512]⟩
abbrev S256x4096 : Shape := ⟨2, ![256, 4096]⟩
abbrev S128x256 : Shape := ⟨2, ![128, 256]⟩
abbrev S128x4096 : Shape := ⟨2, ![128, 4096]⟩
abbrev S128x1 : Shape := ⟨2, ![128, 1]⟩
abbrev S33x128 : Shape := ⟨2, ![33, 128]⟩
abbrev S33x4096 : Shape := ⟨2, ![33, 4096]⟩
abbrev S33x1 : Shape := ⟨2, ![33, 1]⟩
abbrev S4096 : Shape := ⟨1, ![4096]⟩
abbrev S1x4096 : Shape := ⟨2, ![1, 4096]⟩
abbrev S1x33x4096 : Shape := ⟨3, ![1, 33, 4096]⟩
abbrev S2x4096 : Shape := ⟨2, ![2, 4096]⟩
abbrev S8x4096 : Shape := ⟨2, ![8, 4096]⟩
abbrev S4096x8 : Shape := ⟨2, ![4096, 8]⟩

abbrev nBuf : Space → Nat
  | .hbm => 32
  | .vmem => 27
  | .smem => 0
  | _ => 0

abbrev bufTy : (tb : Table) → Fin (tcTables nBuf tb) → BufTy
  | .hbm, ⟨0, _⟩ => ⟨S16384x128, .f32⟩
  | .hbm, ⟨1, _⟩ => ⟨S16384x99, .f32⟩
  | .hbm, ⟨2, _⟩ => ⟨S99x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S128x33, .f32⟩
  | .hbm, ⟨17, _⟩ => ⟨S33, .f32⟩
  | .hbm, ⟨18, _⟩ => ⟨S6x16384x33, .f32⟩
  | .hbm, ⟨19, _⟩ => ⟨S6x16384x33, .f32⟩
  | .hbm, ⟨20, _⟩ => ⟨S6x33x16384, .f32⟩
  | .hbm, ⟨21, _⟩ => ⟨S1x128, .f32⟩
  | .hbm, ⟨22, _⟩ => ⟨S1x128, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x128, .f32⟩
  | .hbm, ⟨30, _⟩ => ⟨S1x33, .f32⟩
  | .hbm, ⟨31, _⟩ => ⟨S16384x6, .i32⟩
  | .local _ .vmem, ⟨0, _⟩ => ⟨S4096x128, .f32⟩
  | .local _ .vmem, ⟨1, _⟩ => ⟨S4096x128, .f32⟩
  | .local _ .vmem, ⟨2, _⟩ => ⟨S4096x99, .f32⟩
  | .local _ .vmem, ⟨3, _⟩ => ⟨S4096x99, .f32⟩
  | .local _ .vmem, ⟨4, _⟩ => ⟨S99x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S256x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S256x128, .f32⟩
  | .local _ .vmem, ⟨17, _⟩ => ⟨S1x128, .f32⟩
  | .local _ .vmem, ⟨18, _⟩ => ⟨S128x33, .f32⟩
  | .local _ .vmem, ⟨19, _⟩ => ⟨S1x33, .f32⟩
  | .local _ .vmem, ⟨20, _⟩ => ⟨S6x33x4096, .f32⟩
  | .local _ .vmem, ⟨21, _⟩ => ⟨S6x33x4096, .f32⟩
  | .local _ .vmem, ⟨22, _⟩ => ⟨S4096x6, .i32⟩
  | .local _ .vmem, ⟨23, _⟩ => ⟨S4096x6, .i32⟩
  | .local _ .vmem, ⟨24, _⟩ => ⟨S16384x512, .f32⟩
  | .local _ .vmem, ⟨25, _⟩ => ⟨S2x512, .f32⟩
  | .local _ .vmem, ⟨26, _⟩ => ⟨S2x256, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c4096_i32 : BitVec 32 := 4096#32
  let v0 : BitVec 32 := Scalar.muli arg1 c4096_i32
  let v40 : Index := Scalar.indexCast v0
  let c0_23 : Index := 0#32
  ![v40.toNat, 0]
def k0_cond4 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_off2 (i : grid0.Coords) : Fin 2 → Nat :=
  let arg1 : BitVec 32 := BitVec.ofNat 32 (i 1).val
  let c4096_i32 : BitVec 32 := 4096#32
  let v0 : BitVec 32 := Scalar.muli arg1 c4096_i32
  let v28 : Index := Scalar.indexCast v0
  let c0_11 : Index := 0#32
  ![v28.toNat, 0]
def k0_off3 (i : grid0.Coords) : Fin 2 → Nat :=
  let arg1 : BitVec 32 := BitVec.ofNat 32 (i 1).val
  let c4096_i32 : BitVec 32 := 4096#32
  let v0 : BitVec 32 := Scalar.muli arg1 c4096_i32
  let v43 : Index := Scalar.indexCast v0
  let c0_18 : Index := 0#32
  ![v43.toNat, 0]
def k0_cond7 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_off4 (i : grid0.Coords) : Fin 2 → Nat :=
  let arg1 : BitVec 32 := BitVec.ofNat 32 (i 1).val
  let c4096_i32 : BitVec 32 := 4096#32
  let v0 : BitVec 32 := Scalar.muli arg1 c4096_i32
  let v28 : Index := Scalar.indexCast v0
  let c0_11 : Index := 0#32
  ![v28.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, c0_i32_1.toNat, v1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x99 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S99x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x33 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x33 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S6x33x4096 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S4096x6 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]
-- ==== ReferenceIdeal.lean ====
abbrev S16384x128 : Shape := ⟨2, ![16384, 128]⟩
abbrev S16384x99 : Shape := ⟨2, ![16384, 99]⟩
abbrev S99x128 : Shape := ⟨2, ![99, 128]⟩
abbrev S128 : Shape := ⟨1, ![128]⟩
abbrev S128x128 : Shape := ⟨2, ![128, 128]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x33 : Shape := ⟨2, ![128, 33]⟩
abbrev S33 : Shape := ⟨1, ![33]⟩
abbrev S6x16384x33 : Shape := ⟨3, ![6, 16384, 33]⟩
abbrev S1x128 : Shape := ⟨2, ![1, 128]⟩
abbrev S_ : Shape := ⟨0, ![]⟩
abbrev S16384x256 : Shape := ⟨2, ![16384, 256]⟩
abbrev S16384x512 : Shape := ⟨2, ![16384, 512]⟩
abbrev S1x512 : Shape := ⟨2, ![1, 512]⟩
abbrev S1x256 : Shape := ⟨2, ![1, 256]⟩
abbrev S16384x33 : Shape := ⟨2, ![16384, 33]⟩
abbrev S1x33 : Shape := ⟨2, ![1, 33]⟩
abbrev S16384 : Shape := ⟨1, ![16384]⟩
abbrev S16384x1 : Shape := ⟨2, ![16384, 1]⟩
abbrev S1x16384x33 : Shape := ⟨3, ![1, 16384, 33]⟩
abbrev S16384x6 : Shape := ⟨2, ![16384, 6]⟩

abbrev nBuf : Space → Nat
  | .hbm => 377
  | .vmem => 0
  | .smem => 0
  | _ => 0

abbrev hbmTy0_0 (i : Nat) : BufTy := match i % 128 with
  | 0 => ⟨S16384x128, .f32⟩
  | 1 => ⟨S16384x99, .f32⟩
  | 2 => ⟨S99x128, .f32⟩
  | 3 => ⟨S128, .f32⟩
  | 4 => ⟨S128x128, .f32⟩
  | 5 => ⟨S128, .f32⟩
  | 6 => ⟨S256x512, .f32⟩
  | 7 => ⟨S512, .f32⟩
  | 8 => ⟨S512, .f32⟩
  | 9 => ⟨S512, .f32⟩
  | 10 => ⟨S512x256, .f32⟩
  | 11 => ⟨S256, .f32⟩
  | 12 => ⟨S256, .f32⟩
  | 13 => ⟨S256, .f32⟩
  | 14 => ⟨S256x128, .f32⟩
  | 15 => ⟨S128, .f32⟩
  | 16 => ⟨S128x33, .f32⟩
  | 17 => ⟨S33, .f32⟩
  | 18 => ⟨S6x16384x33, .f32⟩
  | 19 => ⟨S16384x128, .f32⟩
  | 20 => ⟨S1x128, .f32⟩
  | 21 => ⟨S16384x128, .f32⟩
  | 22 => ⟨S16384x128, .f32⟩
  | 23 => ⟨S_, .f32⟩
  | 24 => ⟨S16384x128, .f32⟩
  | 25 => ⟨S16384x128, .i1⟩
  | 26 => ⟨S_, .f32⟩
  | 27 => ⟨S16384x128, .f32⟩
  | 28 => ⟨S16384x128, .f32⟩
  | 29 => ⟨S16384x128, .f32⟩
  | 30 => ⟨S16384x128, .f32⟩
  | 31 => ⟨S1x128, .f32⟩
  | 32 => ⟨S16384x128, .f32⟩
  | 33 => ⟨S16384x128, .f32⟩
  | 34 => ⟨S_, .f32⟩
  | 35 => ⟨S16384x128, .f32⟩
  | 36 => ⟨S16384x128, .i1⟩
  | 37 => ⟨S_, .f32⟩
  | 38 => ⟨S16384x128, .f32⟩
  | 39 => ⟨S16384x128, .f32⟩
  | 40 => ⟨S16384x128, .f32⟩
  | 41 => ⟨S16384x256, .f32⟩
  | 42 => ⟨S16384x512, .f32⟩
  | 43 => ⟨S1x512, .f32⟩
  | 44 => ⟨S16384x512, .f32⟩
  | 45 => ⟨S16384x512, .f32⟩
  | 46 => ⟨S_, .f32⟩
  | 47 => ⟨S16384x512, .f32⟩
  | 48 => ⟨S16384x512, .i1⟩
  | 49 => ⟨S_, .f32⟩
  | 50 => ⟨S16384x512, .f32⟩
  | 51 => ⟨S16384x512, .f32⟩
  | 52 => ⟨S16384x512, .f32⟩
  | 53 => ⟨S_, .f32⟩
  | 54 => ⟨S512, .f32⟩
  | 55 => ⟨S1x512, .f32⟩
  | 56 => ⟨S_, .f32⟩
  | 57 => ⟨S1x512, .f32⟩
  | 58 => ⟨S1x512, .f32⟩
  | 59 => ⟨S_, .i32⟩
  | 60 => ⟨S_, .f32⟩
  | 61 => ⟨S512, .f32⟩
  | 62 => ⟨S1x512, .f32⟩
  | 63 => ⟨S_, .f32⟩
  | 64 => ⟨S1x512, .f32⟩
  | 65 => ⟨S1x512, .f32⟩
  | 66 => ⟨S16384x512, .f32⟩
  | 67 => ⟨S16384x512, .f32⟩
  | 68 => ⟨S16384x512, .f32⟩
  | 69 => ⟨S_, .f32⟩
  | 70 => ⟨S_, .f32⟩
  | 71 => ⟨S_, .f32⟩
  | 72 => ⟨S_, .f32⟩
  | 73 => ⟨S512, .f32⟩
  | 74 => ⟨S1x512, .f32⟩
  | 75 => ⟨S1x512, .f32⟩
  | 76 => ⟨S1x512, .f32⟩
  | 77 => ⟨S_, .f32⟩
  | 78 => ⟨S_, .i1⟩
  | 79 => ⟨S_, .f32⟩
  | 80 => ⟨S_, .f32⟩
  | 81 => ⟨S1x512, .f32⟩
  | 82 => ⟨S1x512, .f32⟩
  | 83 => ⟨S16384x512, .f32⟩
  | 84 => ⟨S16384x512, .f32⟩
  | 85 => ⟨S1x512, .f32⟩
  | 86 => ⟨S16384x512, .f32⟩
  | 87 => ⟨S16384x512, .f32⟩
  | 88 => ⟨S_, .f32⟩
  | 89 => ⟨S1x512, .f32⟩
  | 90 => ⟨S1x512, .f32⟩
  | 91 => ⟨S1x512, .f32⟩
  | 92 => ⟨S16384x512, .f32⟩
  | 93 => ⟨S16384x512, .f32⟩
  | 94 => ⟨S1x512, .f32⟩
  | 95 => ⟨S16384x512, .f32⟩
  | 96 => ⟨S16384x512, .f32⟩
  | 97 => ⟨S16384x256, .f32⟩
  | 98 => ⟨S1x256, .f32⟩
  | 99 => ⟨S16384x256, .f32⟩
  | 100 => ⟨S16384x256, .f32⟩
  | 101 => ⟨S_, .f32⟩
  | 102 => ⟨S16384x256, .f32⟩
  | 103 => ⟨S16384x256, .i1⟩
  | 104 => ⟨S_, .f32⟩
  | 105 => ⟨S16384x256, .f32⟩
  | 106 => ⟨S16384x256, .f32⟩
  | 107 => ⟨S16384x256, .f32⟩
  | 108 => ⟨S_, .f32⟩
  | 109 => ⟨S256, .f32⟩
  | 110 => ⟨S1x256, .f32⟩
  | 111 => ⟨S_, .f32⟩
  | 112 => ⟨S1x256, .f32⟩
  | 113 => ⟨S1x256, .f32⟩
  | 114 => ⟨S_, .i32⟩
  | 115 => ⟨S_, .f32⟩
  | 116 => ⟨S256, .f32⟩
  | 117 => ⟨S1x256, .f32⟩
  | 118 => ⟨S_, .f32⟩
  | 119 => ⟨S1x256, .f32⟩
  | 120 => ⟨S1x256, .f32⟩
  | 121 => ⟨S16384x256, .f32⟩
  | 122 => ⟨S16384x256, .f32⟩
  | 123 => ⟨S16384x256, .f32⟩
  | 124 => ⟨S_, .f32⟩
  | 125 => ⟨S_, .f32⟩
  | 126 => ⟨S_, .f32⟩
  | 127 => ⟨S_, .f32⟩
  | _ => ⟨S16384x128, .f32⟩

abbrev hbmTy0_1 (i : Nat) : BufTy := match i % 128 with
  | 0 => ⟨S256, .f32⟩
  | 1 => ⟨S1x256, .f32⟩
  | 2 => ⟨S1x256, .f32⟩
  | 3 => ⟨S1x256, .f32⟩
  | 4 => ⟨S_, .f32⟩
  | 5 => ⟨S_, .i1⟩
  | 6 => ⟨S_, .f32⟩
  | 7 => ⟨S_, .f32⟩
  | 8 => ⟨S1x256, .f32⟩
  | 9 => ⟨S1x256, .f32⟩
  | 10 => ⟨S16384x256, .f32⟩
  | 11 => ⟨S16384x256, .f32⟩
  | 12 => ⟨S1x256, .f32⟩
  | 13 => ⟨S16384x256, .f32⟩
  | 14 => ⟨S16384x256, .f32⟩
  | 15 => ⟨S_, .f32⟩
  | 16 => ⟨S1x256, .f32⟩
  | 17 => ⟨S1x256, .f32⟩
  | 18 => ⟨S1x256, .f32⟩
  | 19 => ⟨S16384x256, .f32⟩
  | 20 => ⟨S16384x256, .f32⟩
  | 21 => ⟨S1x256, .f32⟩
  | 22 => ⟨S16384x256, .f32⟩
  | 23 => ⟨S16384x256, .f32⟩
  | 24 => ⟨S16384x128, .f32⟩
  | 25 => ⟨S1x128, .f32⟩
  | 26 => ⟨S16384x128, .f32⟩
  | 27 => ⟨S16384x128, .f32⟩
  | 28 => ⟨S_, .f32⟩
  | 29 => ⟨S16384x128, .f32⟩
  | 30 => ⟨S16384x128, .i1⟩
  | 31 => ⟨S_, .f32⟩
  | 32 => ⟨S16384x128, .f32⟩
  | 33 => ⟨S16384x128, .f32⟩
  | 34 => ⟨S16384x128, .f32⟩
  | 35 => ⟨S16384x33, .f32⟩
  | 36 => ⟨S1x33, .f32⟩
  | 37 => ⟨S16384x33, .f32⟩
  | 38 => ⟨S16384x33, .f32⟩
  | 39 => ⟨S_, .f32⟩
  | 40 => ⟨S16384x33, .f32⟩
  | 41 => ⟨S16384x33, .f32⟩
  | 42 => ⟨S_, .f32⟩
  | 43 => ⟨S16384, .f32⟩
  | 44 => ⟨S_, .f32⟩
  | 45 => ⟨S16384, .f32⟩
  | 46 => ⟨S16384, .f32⟩
  | 47 => ⟨S16384x1, .f32⟩
  | 48 => ⟨S16384x33, .f32⟩
  | 49 => ⟨S16384x33, .f32⟩
  | 50 => ⟨S16384x33, .f32⟩
  | 51 => ⟨S_, .f32⟩
  | 52 => ⟨S16384, .f32⟩
  | 53 => ⟨S16384x1, .f32⟩
  | 54 => ⟨S16384x33, .f32⟩
  | 55 => ⟨S16384x33, .f32⟩
  | 56 => ⟨S_, .f32⟩
  | 57 => ⟨S16384, .f32⟩
  | 58 => ⟨S16384x1, .f32⟩
  | 59 => ⟨S_, .f32⟩
  | 60 => ⟨S_, .f32⟩
  | 61 => ⟨S16384x1, .f32⟩
  | 62 => ⟨S16384x1, .f32⟩
  | 63 => ⟨S16384x33, .f32⟩
  | 64 => ⟨S16384x33, .f32⟩
  | 65 => ⟨S_, .f32⟩
  | 66 => ⟨S16384x33, .f32⟩
  | 67 => ⟨S16384x33, .f32⟩
  | 68 => ⟨S16384x33, .f32⟩
  | 69 => ⟨S1x16384x33, .f32⟩
  | 70 => ⟨S16384x33, .f32⟩
  | 71 => ⟨S16384x33, .f32⟩
  | 72 => ⟨S16384x33, .i32⟩
  | 73 => ⟨S_, .f32⟩
  | 74 => ⟨S_, .i32⟩
  | 75 => ⟨S16384, .f32⟩
  | 76 => ⟨S16384, .i32⟩
  | 77 => ⟨S16384x1, .i32⟩
  | 78 => ⟨S1x33, .i32⟩
  | 79 => ⟨S16384x33, .i32⟩
  | 80 => ⟨S16384x33, .i32⟩
  | 81 => ⟨S16384x33, .i1⟩
  | 82 => ⟨S16384x33, .f32⟩
  | 83 => ⟨S_, .f32⟩
  | 84 => ⟨S16384x33, .f32⟩
  | 85 => ⟨S16384x33, .f32⟩
  | 86 => ⟨S16384x33, .f32⟩
  | 87 => ⟨S_, .f32⟩
  | 88 => ⟨S16384, .f32⟩
  | 89 => ⟨S16384x1, .f32⟩
  | 90 => ⟨S_, .f32⟩
  | 91 => ⟨S_, .f32⟩
  | 92 => ⟨S16384x1, .f32⟩
  | 93 => ⟨S16384x1, .f32⟩
  | 94 => ⟨S16384x33, .f32⟩
  | 95 => ⟨S16384x33, .f32⟩
  | 96 => ⟨S_, .f32⟩
  | 97 => ⟨S16384x33, .f32⟩
  | 98 => ⟨S16384x33, .f32⟩
  | 99 => ⟨S16384x33, .f32⟩
  | 100 => ⟨S1x16384x33, .f32⟩
  | 101 => ⟨S16384x33, .f32⟩
  | 102 => ⟨S16384x33, .f32⟩
  | 103 => ⟨S16384x33, .i32⟩
  | 104 => ⟨S_, .f32⟩
  | 105 => ⟨S_, .i32⟩
  | 106 => ⟨S16384, .f32⟩
  | 107 => ⟨S16384, .i32⟩
  | 108 => ⟨S16384x1, .i32⟩
  | 109 => ⟨S1x33, .i32⟩
  | 110 => ⟨S16384x33, .i32⟩
  | 111 => ⟨S16384x33, .i32⟩
  | 112 => ⟨S16384x33, .i1⟩
  | 113 => ⟨S16384x33, .f32⟩
  | 114 => ⟨S_, .f32⟩
  | 115 => ⟨S16384x33, .f32⟩
  | 116 => ⟨S16384x33, .f32⟩
  | 117 => ⟨S16384x33, .f32⟩
  | 118 => ⟨S_, .f32⟩
  | 119 => ⟨S16384, .f32⟩
  | 120 => ⟨S16384x1, .f32⟩
  | 121 => ⟨S_, .f32⟩
  | 122 => ⟨S_, .f32⟩
  | 123 => ⟨S16384x1, .f32⟩
  | 124 => ⟨S16384x1, .f32⟩
  | 125 => ⟨S16384x33, .f32⟩
  | 126 => ⟨S16384x33, .f32⟩
  | 127 => ⟨S_, .f32⟩
  | _ => ⟨S16384x128, .f32⟩

abbrev hbmTy0_2 (i : Nat) : BufTy := match i % 128 with
  | 0 => ⟨S16384x33, .f32⟩
  | 1 => ⟨S16384x33, .f32⟩
  | 2 => ⟨S16384x33, .f32⟩
  | 3 => ⟨S1x16384x33, .f32⟩
  | 4 => ⟨S16384x33, .f32⟩
  | 5 => ⟨S16384x33, .f32⟩
  | 6 => ⟨S16384x33, .i32⟩
  | 7 => ⟨S_, .f32⟩
  | 8 => ⟨S_, .i32⟩
  | 9 => ⟨S16384, .f32⟩
  | 10 => ⟨S16384, .i32⟩
  | 11 => ⟨S16384x1, .i32⟩
  | 12 => ⟨S1x33, .i32⟩
  | 13 => ⟨S16384x33, .i32⟩
  | 14 => ⟨S16384x33, .i32⟩
  | 15 => ⟨S16384x33, .i1⟩
  | 16 => ⟨S16384x33, .f32⟩
  | 17 => ⟨S_, .f32⟩
  | 18 => ⟨S16384x33, .f32⟩
  | 19 => ⟨S16384x33, .f32⟩
  | 20 => ⟨S16384x33, .f32⟩
  | 21 => ⟨S_, .f32⟩
  | 22 => ⟨S16384, .f32⟩
  | 23 => ⟨S16384x1, .f32⟩
  | 24 => ⟨S_, .f32⟩
  | 25 => ⟨S_, .f32⟩
  | 26 => ⟨S16384x1, .f32⟩
  | 27 => ⟨S16384x1, .f32⟩
  | 28 => ⟨S16384x33, .f32⟩
  | 29 => ⟨S16384x33, .f32⟩
  | 30 => ⟨S_, .f32⟩
  | 31 => ⟨S16384x33, .f32⟩
  | 32 => ⟨S16384x33, .f32⟩
  | 33 => ⟨S16384x33, .f32⟩
  | 34 => ⟨S1x16384x33, .f32⟩
  | 35 => ⟨S16384x33, .f32⟩
  | 36 => ⟨S16384x33, .f32⟩
  | 37 => ⟨S16384x33, .i32⟩
  | 38 => ⟨S_, .f32⟩
  | 39 => ⟨S_, .i32⟩
  | 40 => ⟨S16384, .f32⟩
  | 41 => ⟨S16384, .i32⟩
  | 42 => ⟨S16384x1, .i32⟩
  | 43 => ⟨S1x33, .i32⟩
  | 44 => ⟨S16384x33, .i32⟩
  | 45 => ⟨S16384x33, .i32⟩
  | 46 => ⟨S16384x33, .i1⟩
  | 47 => ⟨S16384x33, .f32⟩
  | 48 => ⟨S_, .f32⟩
  | 49 => ⟨S16384x33, .f32⟩
  | 50 => ⟨S16384x33, .f32⟩
  | 51 => ⟨S16384x33, .f32⟩
  | 52 => ⟨S_, .f32⟩
  | 53 => ⟨S16384, .f32⟩
  | 54 => ⟨S16384x1, .f32⟩
  | 55 => ⟨S_, .f32⟩
  | 56 => ⟨S_, .f32⟩
  | 57 => ⟨S16384x1, .f32⟩
  | 58 => ⟨S16384x1, .f32⟩
  | 59 => ⟨S16384x33, .f32⟩
  | 60 => ⟨S16384x33, .f32⟩
  | 61 => ⟨S_, .f32⟩
  | 62 => ⟨S16384x33, .f32⟩
  | 63 => ⟨S16384x33, .f32⟩
  | 64 => ⟨S16384x33, .f32⟩
  | 65 => ⟨S1x16384x33, .f32⟩
  | 66 => ⟨S16384x33, .f32⟩
  | 67 => ⟨S16384x33, .f32⟩
  | 68 => ⟨S16384x33, .i32⟩
  | 69 => ⟨S_, .f32⟩
  | 70 => ⟨S_, .i32⟩
  | 71 => ⟨S16384, .f32⟩
  | 72 => ⟨S16384, .i32⟩
  | 73 => ⟨S16384x1, .i32⟩
  | 74 => ⟨S1x33, .i32⟩
  | 75 => ⟨S16384x33, .i32⟩
  | 76 => ⟨S16384x33, .i32⟩
  | 77 => ⟨S16384x33, .i1⟩
  | 78 => ⟨S16384x33, .f32⟩
  | 79 => ⟨S_, .f32⟩
  | 80 => ⟨S16384x33, .f32⟩
  | 81 => ⟨S16384x33, .f32⟩
  | 82 => ⟨S16384x33, .f32⟩
  | 83 => ⟨S_, .f32⟩
  | 84 => ⟨S16384, .f32⟩
  | 85 => ⟨S16384x1, .f32⟩
  | 86 => ⟨S_, .f32⟩
  | 87 => ⟨S_, .f32⟩
  | 88 => ⟨S16384x1, .f32⟩
  | 89 => ⟨S16384x1, .f32⟩
  | 90 => ⟨S16384x33, .f32⟩
  | 91 => ⟨S16384x33, .f32⟩
  | 92 => ⟨S_, .f32⟩
  | 93 => ⟨S16384x33, .f32⟩
  | 94 => ⟨S16384x33, .f32⟩
  | 95 => ⟨S16384x33, .f32⟩
  | 96 => ⟨S1x16384x33, .f32⟩
  | 97 => ⟨S16384x33, .f32⟩
  | 98 => ⟨S16384x33, .f32⟩
  | 99 => ⟨S16384x33, .i32⟩
  | 100 => ⟨S_, .f32⟩
  | 101 => ⟨S_, .i32⟩
  | 102 => ⟨S16384, .f32⟩
  | 103 => ⟨S16384, .i32⟩
  | 104 => ⟨S16384x1, .i32⟩
  | 105 => ⟨S1x33, .i32⟩
  | 106 => ⟨S16384x33, .i32⟩
  | 107 => ⟨S16384x33, .i32⟩
  | 108 => ⟨S16384x33, .i1⟩
  | 109 => ⟨S16384x33, .f32⟩
  | 110 => ⟨S_, .f32⟩
  | 111 => ⟨S16384x33, .f32⟩
  | 112 => ⟨S16384x33, .f32⟩
  | 113 => ⟨S16384x33, .f32⟩
  | 114 => ⟨S16384x1, .i32⟩
  | 115 => ⟨S16384x1, .i32⟩
  | 116 => ⟨S16384x1, .i32⟩
  | 117 => ⟨S16384x1, .i32⟩
  | 118 => ⟨S16384x1, .i32⟩
  | 119 => ⟨S16384x1, .i32⟩
  | 120 => ⟨S16384x6, .i32⟩
  | _ => ⟨S16384x128, .f32⟩

abbrev hbmTy (i : Nat) : BufTy := match i / 128 with
  | 0 => hbmTy0_0 i
  | 1 => hbmTy0_1 i
  | 2 => hbmTy0_2 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_c : Ref sig .tc := ⟨.hbm, 59, rfl⟩
abbrev main_call3_cst : Ref sig .tc := ⟨.hbm, 60, rfl⟩
abbrev main_call3_v0 : Ref sig .tc := ⟨.hbm, 61, rfl⟩
abbrev main_call3_v1 : Ref sig .tc := ⟨.hbm, 62, rfl⟩
abbrev main_call3_cst_0 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_v7 : Ref sig .tc := ⟨.hbm, 69, rfl⟩
abbrev main_call3_cst_1 : Ref sig .tc := ⟨.hbm, 70, rfl⟩
abbrev main_call3_v8 : Ref sig .tc := ⟨.hbm, 71, rfl⟩
abbrev main_call3_cst_2 : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_v12 : Ref sig .tc := ⟨.hbm, 76, rfl⟩
abbrev main_call3_cst_3 : Ref sig .tc := ⟨.hbm, 77, rfl⟩
abbrev main_call3_v13 : Ref sig .tc := ⟨.hbm, 78, rfl⟩
abbrev main_call3_cst_4 : Ref sig .tc := ⟨.hbm, 79, rfl⟩
abbrev main_call3_call0_v0 : Ref sig .tc := ⟨.hbm, 80, rfl⟩
abbrev main_call3_call0_v1 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_7 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst_8 : Ref sig .tc := ⟨.hbm, 101, rfl⟩
abbrev main_v50 : Ref sig .tc := ⟨.hbm, 102, rfl⟩
abbrev main_v51 : Ref sig .tc := ⟨.hbm, 103, rfl⟩
abbrev main_cst_9 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_cst_10 : Ref sig .tc := ⟨.hbm, 108, rfl⟩
abbrev main_v55 : Ref sig .tc := ⟨.hbm, 109, rfl⟩
abbrev main_v56 : Ref sig .tc := ⟨.hbm, 110, rfl⟩
abbrev main_cst_11 : Ref sig .tc := ⟨.hbm, 111, rfl⟩
abbrev main_v57 : Ref sig .tc := ⟨.hbm, 112, rfl⟩
abbrev main_v58 : Ref sig .tc := ⟨.hbm, 113, rfl⟩
abbrev main_c_12 : Ref sig .tc := ⟨.hbm, 114, rfl⟩
abbrev main_call5_cst : Ref sig .tc := ⟨.hbm, 115, rfl⟩
abbrev main_call5_v0 : Ref sig .tc := ⟨.hbm, 116, rfl⟩
abbrev main_call5_v1 : Ref sig .tc := ⟨.hbm, 117, rfl⟩
abbrev main_call5_cst_0 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_v5 : Ref sig .tc := ⟨.hbm, 122, rfl⟩
abbrev main_call5_v6 : Ref sig .tc := ⟨.hbm, 123, rfl⟩
abbrev main_call5_v7 : Ref sig .tc := ⟨.hbm, 124, rfl⟩
abbrev main_call5_cst_1 : Ref sig .tc := ⟨.hbm, 125, rfl⟩
abbrev main_call5_v8 : Ref sig .tc := ⟨.hbm, 126, rfl⟩
abbrev main_call5_cst_2 : Ref sig .tc := ⟨.hbm, 127, rfl⟩
abbrev main_call5_v9 : Ref sig .tc := ⟨.hbm, 128, rfl⟩
abbrev main_call5_v10 : Ref sig .tc := ⟨.hbm, 129, rfl⟩
abbrev main_call5_v11 : Ref sig .tc := ⟨.hbm, 130, rfl⟩
abbrev main_call5_v12 : Ref sig .tc := ⟨.hbm, 131, rfl⟩
abbrev main_call5_cst_3 : Ref sig .tc := ⟨.hbm, 132, rfl⟩
abbrev main_call5_v13 : Ref sig .tc := ⟨.hbm, 133, rfl⟩
abbrev main_call5_cst_4 : Ref sig .tc := ⟨.hbm, 134, rfl⟩
abbrev main_call5_call0_v0 : Ref sig .tc := ⟨.hbm, 135, rfl⟩
abbrev main_call5_call0_v1 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_cst_13 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_cst_14 : Ref sig .tc := ⟨.hbm, 156, rfl⟩
abbrev main_v77 : Ref sig .tc := ⟨.hbm, 157, rfl⟩
abbrev main_v78 : Ref sig .tc := ⟨.hbm, 158, rfl⟩
abbrev main_cst_15 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_cst_16 : Ref sig .tc := ⟨.hbm, 167, rfl⟩
abbrev main_v86 : Ref sig .tc := ⟨.hbm, 168, rfl⟩
abbrev main_v87 : Ref sig .tc := ⟨.hbm, 169, rfl⟩
abbrev main_cst_17 : Ref sig .tc := ⟨.hbm, 170, rfl⟩
abbrev main_v88 : Ref sig .tc := ⟨.hbm, 171, rfl⟩
abbrev main_cst_18 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_cst_19 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_cst_20 : Ref sig .tc := ⟨.hbm, 184, rfl⟩
abbrev main_v99 : Ref sig .tc := ⟨.hbm, 185, rfl⟩
abbrev main_v100 : Ref sig .tc := ⟨.hbm, 186, rfl⟩
abbrev main_cst_21 : Ref sig .tc := ⟨.hbm, 187, rfl⟩
abbrev main_call7_v0 : Ref sig .tc := ⟨.hbm, 188, rfl⟩
abbrev main_call7_v1 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_cst_22 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_call8_v0 : Ref sig .tc := ⟨.hbm, 200, rfl⟩
abbrev main_call8_cst : Ref sig .tc := ⟨.hbm, 201, rfl⟩
abbrev main_call8_c : Ref sig .tc := ⟨.hbm, 202, rfl⟩
abbrev main_call8_v1_0 : Ref sig .tc := ⟨.hbm, 203, rfl⟩
abbrev main_v110 : Ref sig .tc := ⟨.hbm, 204, rfl⟩
abbrev main_call9_v0 : Ref sig .tc := ⟨.hbm, 205, rfl⟩
abbrev main_call9_v1 : Ref sig .tc := ⟨.hbm, 206, rfl⟩
abbrev main_call9_v2 : Ref sig .tc := ⟨.hbm, 207, rfl⟩
abbrev main_call9_v3 : Ref sig .tc := ⟨.hbm, 208, rfl⟩
abbrev main_call9_v4 : Ref sig .tc := ⟨.hbm, 209, rfl⟩
abbrev main_v111 : Ref sig .tc := ⟨.hbm, 210, rfl⟩
abbrev main_cst_23 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_cst_24 : Ref sig .tc := ⟨.hbm, 215, rfl⟩
abbrev main_v115 : Ref sig .tc := ⟨.hbm, 216, rfl⟩
abbrev main_v116 : Ref sig .tc := ⟨.hbm, 217, rfl⟩
abbrev main_cst_25 : Ref sig .tc := ⟨.hbm, 218, rfl⟩
abbrev main_call10_v0 : Ref sig .tc := ⟨.hbm, 219, rfl⟩
abbrev main_call10_v1 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_cst_26 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_call11_v0 : Ref sig .tc := ⟨.hbm, 231, rfl⟩
abbrev main_call11_cst : Ref sig .tc := ⟨.hbm, 232, rfl⟩
abbrev main_call11_c : Ref sig .tc := ⟨.hbm, 233, rfl⟩
abbrev main_call11_v1_0 : Ref sig .tc := ⟨.hbm, 234, rfl⟩
abbrev main_v126 : Ref sig .tc := ⟨.hbm, 235, rfl⟩
abbrev main_call12_v0 : Ref sig .tc := ⟨.hbm, 236, rfl⟩
abbrev main_call12_v1 : Ref sig .tc := ⟨.hbm, 237, rfl⟩
abbrev main_call12_v2 : Ref sig .tc := ⟨.hbm, 238, rfl⟩
abbrev main_call12_v3 : Ref sig .tc := ⟨.hbm, 239, rfl⟩
abbrev main_call12_v4 : Ref sig .tc := ⟨.hbm, 240, rfl⟩
abbrev main_v127 : Ref sig .tc := ⟨.hbm, 241, rfl⟩
abbrev main_cst_27 : Ref sig .tc := ⟨.hbm, 242, rfl⟩
abbrev main_v128 : Ref sig .tc := ⟨.hbm, 243, rfl⟩
abbrev main_v129 : Ref sig .tc := ⟨.hbm, 244, rfl⟩
abbrev main_v130 : Ref sig .tc := ⟨.hbm, 245, rfl⟩
abbrev main_cst_28 : Ref sig .tc := ⟨.hbm, 246, rfl⟩
abbrev main_v131 : Ref sig .tc := ⟨.hbm, 247, rfl⟩
abbrev main_v132 : Ref sig .tc := ⟨.hbm, 248, rfl⟩
abbrev main_cst_29 : Ref sig .tc := ⟨.hbm, 249, rfl⟩
abbrev main_call13_v0 : Ref sig .tc := ⟨.hbm, 250, rfl⟩
abbrev main_call13_v1 : Ref sig .tc := ⟨.hbm, 251, rfl⟩
abbrev main_v133 : Ref sig .tc := ⟨.hbm, 252, rfl⟩
abbrev main_v134 : Ref sig .tc := ⟨.hbm, 253, rfl⟩
abbrev main_v135 : Ref sig .tc := ⟨.hbm, 254, rfl⟩
abbrev main_cst_30 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_v139 : Ref sig .tc := ⟨.hbm, 259, rfl⟩
abbrev main_v140 : Ref sig .tc := ⟨.hbm, 260, rfl⟩
abbrev main_v141 : Ref sig .tc := ⟨.hbm, 261, rfl⟩
abbrev main_call14_v0 : Ref sig .tc := ⟨.hbm, 262, rfl⟩
abbrev main_call14_cst : Ref sig .tc := ⟨.hbm, 263, rfl⟩
abbrev main_call14_c : Ref sig .tc := ⟨.hbm, 264, rfl⟩
abbrev main_call14_v1_0 : Ref sig .tc := ⟨.hbm, 265, rfl⟩
abbrev main_v142 : Ref sig .tc := ⟨.hbm, 266, rfl⟩
abbrev main_call15_v0 : Ref sig .tc := ⟨.hbm, 267, rfl⟩
abbrev main_call15_v1 : Ref sig .tc := ⟨.hbm, 268, rfl⟩
abbrev main_call15_v2 : Ref sig .tc := ⟨.hbm, 269, rfl⟩
abbrev main_call15_v3 : Ref sig .tc := ⟨.hbm, 270, rfl⟩
abbrev main_call15_v4 : Ref sig .tc := ⟨.hbm, 271, rfl⟩
abbrev main_v143 : Ref sig .tc := ⟨.hbm, 272, rfl⟩
abbrev main_cst_31 : Ref sig .tc := ⟨.hbm, 273, rfl⟩
abbrev main_v144 : Ref sig .tc := ⟨.hbm, 274, rfl⟩
abbrev main_v145 : Ref sig .tc := ⟨.hbm, 275, rfl⟩
abbrev main_v146 : Ref sig .tc := ⟨.hbm, 276, rfl⟩
abbrev main_cst_32 : Ref sig .tc := ⟨.hbm, 277, rfl⟩
abbrev main_v147 : Ref sig .tc := ⟨.hbm, 278, rfl⟩
abbrev main_v148 : Ref sig .tc := ⟨.hbm, 279, rfl⟩
abbrev main_cst_33 : Ref sig .tc := ⟨.hbm, 280, rfl⟩
abbrev main_call16_v0 : Ref sig .tc := ⟨.hbm, 281, rfl⟩
abbrev main_call16_v1 : Ref sig .tc := ⟨.hbm, 282, rfl⟩
abbrev main_v149 : Ref sig .tc := ⟨.hbm, 283, rfl⟩
abbrev main_v150 : Ref sig .tc := ⟨.hbm, 284, rfl⟩
abbrev main_v151 : Ref sig .tc := ⟨.hbm, 285, rfl⟩
abbrev main_cst_34 : Ref sig .tc := ⟨.hbm, 286, rfl⟩
abbrev main_v152 : Ref sig .tc := ⟨.hbm, 287, rfl⟩
abbrev main_v153 : Ref sig .tc := ⟨.hbm, 288, rfl⟩
abbrev main_v154 : Ref sig .tc := ⟨.hbm, 289, rfl⟩
abbrev main_v155 : Ref sig .tc := ⟨.hbm, 290, rfl⟩
abbrev main_v156 : Ref sig .tc := ⟨.hbm, 291, rfl⟩
abbrev main_v157 : Ref sig .tc := ⟨.hbm, 292, rfl⟩
abbrev main_call17_v0 : Ref sig .tc := ⟨.hbm, 293, rfl⟩
abbrev main_call17_cst : Ref sig .tc := ⟨.hbm, 294, rfl⟩
abbrev main_call17_c : Ref sig .tc := ⟨.hbm, 295, rfl⟩
abbrev main_call17_v1_0 : Ref sig .tc := ⟨.hbm, 296, rfl⟩
abbrev main_v158 : Ref sig .tc := ⟨.hbm, 297, rfl⟩
abbrev main_call18_v0 : Ref sig .tc := ⟨.hbm, 298, rfl⟩
abbrev main_call18_v1 : Ref sig .tc := ⟨.hbm, 299, rfl⟩
abbrev main_call18_v2 : Ref sig .tc := ⟨.hbm, 300, rfl⟩
abbrev main_call18_v3 : Ref sig .tc := ⟨.hbm, 301, rfl⟩
abbrev main_call18_v4 : Ref sig .tc := ⟨.hbm, 302, rfl⟩
abbrev main_v159 : Ref sig .tc := ⟨.hbm, 303, rfl⟩
abbrev main_cst_35 : Ref sig .tc := ⟨.hbm, 304, rfl⟩
abbrev main_v160 : Ref sig .tc := ⟨.hbm, 305, rfl⟩
abbrev main_v161 : Ref sig .tc := ⟨.hbm, 306, rfl⟩
abbrev main_v162 : Ref sig .tc := ⟨.hbm, 307, rfl⟩
abbrev main_cst_36 : Ref sig .tc := ⟨.hbm, 308, rfl⟩
abbrev main_v163 : Ref sig .tc := ⟨.hbm, 309, rfl⟩
abbrev main_v164 : Ref sig .tc := ⟨.hbm, 310, rfl⟩
abbrev main_cst_37 : Ref sig .tc := ⟨.hbm, 311, rfl⟩
abbrev main_call19_v0 : Ref sig .tc := ⟨.hbm, 312, rfl⟩
abbrev main_call19_v1 : Ref sig .tc := ⟨.hbm, 313, rfl⟩
abbrev main_v165 : Ref sig .tc := ⟨.hbm, 314, rfl⟩
abbrev main_v166 : Ref sig .tc := ⟨.hbm, 315, rfl⟩
abbrev main_v167 : Ref sig .tc := ⟨.hbm, 316, rfl⟩
abbrev main_cst_38 : Ref sig .tc := ⟨.hbm, 317, rfl⟩
abbrev main_v168 : Ref sig .tc := ⟨.hbm, 318, rfl⟩
abbrev main_v169 : Ref sig .tc := ⟨.hbm, 319, rfl⟩
abbrev main_v170 : Ref sig .tc := ⟨.hbm, 320, rfl⟩
abbrev main_v171 : Ref sig .tc := ⟨.hbm, 321, rfl⟩
abbrev main_v172 : Ref sig .tc := ⟨.hbm, 322, rfl⟩
abbrev main_v173 : Ref sig .tc := ⟨.hbm, 323, rfl⟩
abbrev main_call20_v0 : Ref sig .tc := ⟨.hbm, 324, rfl⟩
abbrev main_call20_cst : Ref sig .tc := ⟨.hbm, 325, rfl⟩
abbrev main_call20_c : Ref sig .tc := ⟨.hbm, 326, rfl⟩
abbrev main_call20_v1_0 : Ref sig .tc := ⟨.hbm, 327, rfl⟩
abbrev main_v174 : Ref sig .tc := ⟨.hbm, 328, rfl⟩
abbrev main_call21_v0 : Ref sig .tc := ⟨.hbm, 329, rfl⟩
abbrev main_call21_v1 : Ref sig .tc := ⟨.hbm, 330, rfl⟩
abbrev main_call21_v2 : Ref sig .tc := ⟨.hbm, 331, rfl⟩
abbrev main_call21_v3 : Ref sig .tc := ⟨.hbm, 332, rfl⟩
abbrev main_call21_v4 : Ref sig .tc := ⟨.hbm, 333, rfl⟩
abbrev main_v175 : Ref sig .tc := ⟨.hbm, 334, rfl⟩
abbrev main_cst_39 : Ref sig .tc := ⟨.hbm, 335, rfl⟩
abbrev main_v176 : Ref sig .tc := ⟨.hbm, 336, rfl⟩
abbrev main_v177 : Ref sig .tc := ⟨.hbm, 337, rfl⟩
abbrev main_v178 : Ref sig .tc := ⟨.hbm, 338, rfl⟩
abbrev main_cst_40 : Ref sig .tc := ⟨.hbm, 339, rfl⟩
abbrev main_v179 : Ref sig .tc := ⟨.hbm, 340, rfl⟩
abbrev main_v180 : Ref sig .tc := ⟨.hbm, 341, rfl⟩
abbrev main_cst_41 : Ref sig .tc := ⟨.hbm, 342, rfl⟩
abbrev main_call22_v0 : Ref sig .tc := ⟨.hbm, 343, rfl⟩
abbrev main_call22_v1 : Ref sig .tc := ⟨.hbm, 344, rfl⟩
abbrev main_v181 : Ref sig .tc := ⟨.hbm, 345, rfl⟩
abbrev main_v182 : Ref sig .tc := ⟨.hbm, 346, rfl⟩
abbrev main_v183 : Ref sig .tc := ⟨.hbm, 347, rfl⟩
abbrev main_cst_42 : Ref sig .tc := ⟨.hbm, 348, rfl⟩
abbrev main_v184 : Ref sig .tc := ⟨.hbm, 349, rfl⟩
abbrev main_v185 : Ref sig .tc := ⟨.hbm, 350, rfl⟩
abbrev main_v186 : Ref sig .tc := ⟨.hbm, 351, rfl⟩
abbrev main_v187 : Ref sig .tc := ⟨.hbm, 352, rfl⟩
abbrev main_v188 : Ref sig .tc := ⟨.hbm, 353, rfl⟩
abbrev main_v189 : Ref sig .tc := ⟨.hbm, 354, rfl⟩
abbrev main_call23_v0 : Ref sig .tc := ⟨.hbm, 355, rfl⟩
abbrev main_call23_cst : Ref sig .tc := ⟨.hbm, 356, rfl⟩
abbrev main_call23_c : Ref sig .tc := ⟨.hbm, 357, rfl⟩
abbrev main_call23_v1_0 : Ref sig .tc := ⟨.hbm, 358, rfl⟩
abbrev main_v190 : Ref sig .tc := ⟨.hbm, 359, rfl⟩
abbrev main_call24_v0 : Ref sig .tc := ⟨.hbm, 360, rfl⟩
abbrev main_call24_v1 : Ref sig .tc := ⟨.hbm, 361, rfl⟩
abbrev main_call24_v2 : Ref sig .tc := ⟨.hbm, 362, rfl⟩
abbrev main_call24_v3 : Ref sig .tc := ⟨.hbm, 363, rfl⟩
abbrev main_call24_v4 : Ref sig .tc := ⟨.hbm, 364, rfl⟩
abbrev main_v191 : Ref sig .tc := ⟨.hbm, 365, rfl⟩
abbrev main_cst_43 : Ref sig .tc := ⟨.hbm, 366, rfl⟩
abbrev main_v192 : Ref sig .tc := ⟨.hbm, 367, rfl⟩
abbrev main_v193 : Ref sig .tc := ⟨.hbm, 368, rfl⟩
abbrev main_v194 : Ref sig .tc := ⟨.hbm, 369, rfl⟩
abbrev main_v195 : Ref sig .tc := ⟨.hbm, 370, rfl⟩
abbrev main_v196 : Ref sig .tc := ⟨.hbm, 371, rfl⟩
abbrev main_v197 : Ref sig .tc := ⟨.hbm, 372, rfl⟩
abbrev main_v198 : Ref sig .tc := ⟨.hbm, 373, rfl⟩
abbrev main_v199 : Ref sig .tc := ⟨.hbm, 374, rfl⟩
abbrev main_v200 : Ref sig .tc := ⟨.hbm, 375, rfl⟩
abbrev main_v201 : Ref sig .tc := ⟨.hbm, 376, rfl⟩

abbrev nD : Nat := 1
abbrev τ : Topo := Topo.v7x

variable {F : FTy → Type} [FloatOps F]
-- ==== Proof.RunI.lean ====
/- The body of the kernel, run case by case. -/
module

public import proofs.«01_k».proof.Proof.Gen.KernelIdeal.Skeleton
public import proofs.«01_k».proof.Proof.Gen.KernelIdeal.Frame
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The row block of the first hidden layer computed from a row block's inputs. -/
abbrev h3of (x2 : Vec F S4096x128 .f32) (x3 : Vec F S4096x99 .f32) (x4 : Vec F S99x128 .f32) (x5 : Vec F S1x128 .f32) (x6 : Vec F S128x128 .f32) (x7 : Vec F S1x128 .f32) (x8 : Vec F S256x512 .f32) (x9 : Vec F S1x512 .f32) : FVec F S4096x512 .f32 := k0_pay8 x3 x4 x5 x6 x7 x2 x8 x9
/-- Its column sums. -/
abbrev s3of (x2 : Vec F S4096x128 .f32) (x3 : Vec F S4096x99 .f32) (x4 : Vec F S99x128 .f32) (x5 : Vec F S1x128 .f32) (x6 : Vec F S128x128 .f32) (x7 : Vec F S1x128 .f32) (x8 : Vec F S256x512 .f32) (x9 : Vec F S1x512 .f32) : FVec F S512 .f32 := k0_pay10 x3 x4 x5 x6 x7 x2 x8 x9
/-- What is stored of it. -/
abbrev w3of (x2 : Vec F S4096x128 .f32) (x3 : Vec F S4096x99 .f32) (x4 : Vec F S99x128 .f32) (x5 : Vec F S1x128 .f32) (x6 : Vec F S128x128 .f32) (x7 : Vec F S1x128 .f32) (x8 : Vec F S256x512 .f32) (x9 : Vec F S1x512 .f32) : FVec F S4096x512 .f32 := k0_pay9 x3 x4 x5 x6 x7 x2 x8 x9

/-- The two rows of the statistics buffers. -/
abbrev row0 (x23 : Vec F S2x512 .f32) : Vec F S1x512 .f32 := VecWindow.window x23 ![0, 0] S1x512.size inb_S2x512_S1x512_0_0
abbrev row1 (x23 : Vec F S2x512 .f32) : Vec F S1x512 .f32 := VecWindow.window x23 ![1, 0] S1x512.size inb_S2x512_S1x512_1_0
abbrev row0' (x24 : Vec F S2x256 .f32) : Vec F S1x256 .f32 := VecWindow.window x24 ![0, 0] S1x256.size inb_S2x256_S1x256_0_0
abbrev row1' (x24 : Vec F S2x256 .f32) : Vec F S1x256 .f32 := VecWindow.window x24 ![1, 0] S1x256.size inb_S2x256_S1x256_1_0

/-- The row block of the second hidden layer, from the statistics `x23` and the row block `h` of the first. -/
abbrev h4of (x10 : Vec F S1x512 .f32) (x11 : Vec F S1x512 .f32) (x12 : Vec F S512x256 .f32) (x13 : Vec F S1x256 .f32) (x23 : Vec F S2x512 .f32) (h : Vec F S4096x512 .f32) : FVec F S4096x256 .f32 :=
  k0_pay11 (row0 x23) (row1 x23) x10 x11 h x12 x13
/-- Its column sums. -/
abbrev s4of (x10 : Vec F S1x512 .f32) (x11 : Vec F S1x512 .f32) (x12 : Vec F S512x256 .f32) (x13 : Vec F S1x256 .f32) (x23 : Vec F S2x512 .f32) (h : Vec F S4096x512 .f32) : FVec F S1x256 .f32 :=
  k0_pay13 (row0 x23) (row1 x23) x10 x11 h x12 x13
/-- What is stored of it. -/
abbrev w4of (x10 : Vec F S1x512 .f32) (x11 : Vec F S1x512 .f32) (x12 : Vec F S512x256 .f32) (x13 : Vec F S1x256 .f32) (x23 : Vec F S2x512 .f32) (h : Vec F S4096x512 .f32) : FVec F S4096x256 .f32 :=
  k0_pay12 (row0 x23) (row1 x23) x10 x11 h x12 x13

/-- The noise table of one round. -/
abbrev gumAt (x20 : Vec F S6x33x4096 .f32) (k : ℕ) (h : ∀ a, (![k, 0, 0] : Fin 3 → ℕ) a + S1x33x4096.size a ≤ S6x33x4096.size a) : Vec F S1x33x4096 .f32 :=
  VecWindow.window x20 ![k, 0, 0] S1x33x4096.size h
/-- The class numbers down the columns. -/
abbrev iotaC : IVec S33x4096 32 := iota .tc S33x4096 32 [0] iota_S33x4096_d0_w32

/-- The logits of a row block, classes down the columns. -/
def logit0 (x14 : Vec F S1x256 .f32) (x15 : Vec F S1x256 .f32) (x16 : Vec F S256x128 .f32) (x17 : Vec F S1x128 .f32) (x18 : Vec F S128x33 .f32) (x24 : Vec F S2x256 .f32) (h : Vec F S4096x256 .f32) : FVec F S33x4096 .f32 :=
  k0_pay14 (row0' x24) (row1' x24) x14 x15 h x16 x17 x18

/-- The six rounds on a row block, from the product `v` with the last weights, the last bias and the noise tables. -/
def rounds (v : FVec F S33x4096 .f32) (x19 : Vec F S1x33 .f32) (g0 g1 g2 g3 g4 g5 : Vec F S1x33x4096 .f32) : Vec F S4096x6 .i32 :=
  k0_pay7 (k0_pay16 v x19) iotaC (k0_pay17 v x19 g0)
    (k0_pay20 iotaC (k0_pay18 v x19 g0) (k0_pay19 v x19 g0) g1)
    (k0_pay22 (k0_pay16 v x19) iotaC (k0_pay18 v x19 g0) (k0_pay19 v x19 g0) g1 g2)
    (k0_pay25 (k0_pay16 v x19) iotaC (k0_pay21 iotaC (k0_pay18 v x19 g0) (k0_pay19 v x19 g0) g1)
      (k0_pay23 (k0_pay16 v x19) iotaC (k0_pay18 v x19 g0) (k0_pay19 v x19 g0) g1 g2) (FloatOps.ofBits .f32 0#32) g3)
    (k0_pay26 (k0_pay16 v x19) iotaC (k0_pay21 iotaC (k0_pay18 v x19 g0) (k0_pay19 v x19 g0) g1)
      (k0_pay23 (k0_pay16 v x19) iotaC (k0_pay18 v x19 g0) (k0_pay19 v x19 g0) g1 g2) (FloatOps.ofBits .f32 0#32) g3)
    (k0_pay27 (k0_pay16 v x19) iotaC (k0_pay21 iotaC (k0_pay18 v x19 g0) (k0_pay19 v x19 g0) g1)
      (k0_pay23 (k0_pay16 v x19) iotaC (k0_pay18 v x19 g0) (k0_pay19 v x19 g0) g1 g2) (FloatOps.ofBits .f32 0#32) g3 g4)
    (k0_pay28 (k0_pay16 v x19) iotaC (k0_pay21 iotaC (k0_pay18 v x19 g0) (k0_pay19 v x19 g0) g1)
      (k0_pay23 (k0_pay16 v x19) iotaC (k0_pay18 v x19 g0) (k0_pay19 v x19 g0) g1 g2) (FloatOps.ofBits .f32 0#32) g3 g4)
    g5

/-- What the last phase leaves of a row block. -/
def outOf (x14 : Vec F S1x256 .f32) (x15 : Vec F S1x256 .f32) (x16 : Vec F S256x128 .f32) (x17 : Vec F S1x128 .f32) (x18 : Vec F S128x33 .f32) (x19 : Vec F S1x33 .f32) (x20 : Vec F S6x33x4096 .f32) (x24 : Vec F S2x256 .f32) (h : Vec F S4096x256 .f32) : Vec F S4096x6 .i32 :=
  rounds (logit0 x14 x15 x16 x17 x18 x24 h) x19 (gumAt x20 0 inb_S6x33x4096_S1x33x4096_0_0_0) (gumAt x20 1 inb_S6x33x4096_S1x33x4096_1_0_0)
    (gumAt x20 2 inb_S6x33x4096_S1x33x4096_2_0_0) (gumAt x20 3 inb_S6x33x4096_S1x33x4096_3_0_0) (gumAt x20 4 inb_S6x33x4096_S1x33x4096_4_0_0)
    (gumAt x20 5 inb_S6x33x4096_S1x33x4096_5_0_0)

/-- A whole load of a whole buffer held at `x` reads `x`. -/
theorem load_whole {s : Shape} {e : EltTy} {arg : Memref sig .tc .vmem s e} (h : arg.IsWhole) (x : Vec F s e) {off : Fin s.rank → ℕ}
    (inb : ∀ a, off a + s.size a ≤ s.size a) :
    arg.view.readAt (Elt F) (Rect.unit off s.size inb).toLoadRect (h.unread x) = x := by
  rw [View.readAt_full, h.read_unread]

/-- A load of a window of a whole buffer held at `x` reads the window of `x`. -/
theorem load_window {s : Shape} {e : EltTy} {arg : Memref sig .tc .vmem s e} (h : arg.IsWhole) (x : Vec F s e) {off size : Fin s.rank → ℕ}
    (inb : ∀ a, off a + size a ≤ s.size a) :
    arg.view.readAt (Elt F) (Rect.unit off size inb).toLoadRect (h.unread x) = VecWindow.window x off size inb := by
  rw [View.readAt_unit arg.view _ inb rfl inb, h.read_unread]

/-- A store over the whole buffer leaves the payload. -/
theorem store_whole {s : Shape} {e : EltTy} {arg : Memref sig .tc .vmem s e} (f : arg.view.ty.Contents (Elt F)) {off : Fin s.rank → ℕ}
    (inb : ∀ a, off a + s.size a ≤ s.size a) (w : Vec F s e) {w' : Vec F s e} (hw : w = w') :
    arg.view.read (Elt F) (arg.view.writes (Elt F) f [⟨Rect.unit off s.size inb, w⟩]) = w' := by
  rw [View.read_writes_full, hw]

/-- A store over a window of a whole buffer held at `x` puts the payload there. -/
theorem store_window {s : Shape} {e : EltTy} {arg : Memref sig .tc .vmem s e} (h : arg.IsWhole) (x : Vec F s e) {off size : Fin s.rank → ℕ}
    (inb : ∀ a, off a + size a ≤ s.size a) (w : (Rect.unit off size inb).shape.Idx → Elt F e) {w' : (Rect.unit off size inb).shape.Idx → Elt F e} (hw : w = w') :
    arg.view.read (Elt F) (arg.view.writes (Elt F) (h.unread x) [⟨Rect.unit off size inb, w⟩]) = VecWindow.put x off size w' := by
  rw [View.read_writes_cons_put arg.view _ inb w [] rfl, View.writes_nil, h.read_unread, hw]

set_option maxHeartbeats 1000000 in
/-- The kernel's body in phase 0, first row block: what it reads stays, and what each buffer it stores into then holds. -/
theorem runA (c : Dev nD) (i : grid0.Coords) (arg2 : Memref sig .tc .vmem S4096x128 .f32) (harg2 : arg2.IsWhole) (arg3 : Memref sig .tc .vmem S4096x99 .f32) (harg3 : arg3.IsWhole) (arg4 : Memref sig .tc .vmem S99x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x33 .f32) (harg18 : arg18.IsWhole) (arg19 : Memref sig .tc .vmem S1x33 .f32) (harg19 : arg19.IsWhole) (arg20 : Memref sig .tc .vmem S6x33x4096 .f32) (harg20 : arg20.IsWhole) (arg21 : Memref sig .tc .vmem S4096x6 .i32) (harg21 : arg21.IsWhole) (arg22 : Memref sig .tc .vmem S16384x512 .f32) (harg22 : arg22.IsWhole) (arg23 : Memref sig .tc .vmem S2x512 .f32) (harg23 : arg23.IsWhole) (arg24 : Memref sig .tc .vmem S2x256 .f32) (harg24 : arg24.IsWhole) (hc0 : k0_cond1 i = 1#1) (hc1 : ¬ (k0_cond4 i = 1#1)) (hc2 : ¬ (k0_cond7 i = 1#1)) (hc3 : (Scalar.cmpi .ne (Scalar.extui (Scalar.cmpi .eq (BitVec.ofNat 32 (i 1).val) 0#32)) 0#32) = 1#1) (hc4 : ¬ ((Scalar.cmpi .ne (Scalar.extui (Scalar.cmpi .ne (BitVec.ofNat 32 (i 1).val) 0#32)) 0#32) = 1#1))
    (x2 : Vec F S4096x128 .f32) (x3 : Vec F S4096x99 .f32) (x4 : Vec F S99x128 .f32) (x5 : Vec F S1x128 .f32) (x6 : Vec F S128x128 .f32) (x7 : Vec F S1x128 .f32) (x8 : Vec F S256x512 .f32) (x9 : Vec F S1x512 .f32) (x22 : Vec F S16384x512 .f32) (x23 : Vec F S2x512 .f32)
    (E : Set ℕ) (K : PUnit → sProp 𝕄) :
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg22 fullShare x22 ∗ owns (c : Thread nD τ) arg23 fullShare x23
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg22 fullShare (VecWindow.put x22 (k0_off1 i) S4096x512.size (w3of x2 x3 x4 x5 x6 x7 x8 x9)) ∗ owns (c : Thread nD τ) arg23 fullShare (k0_pay2 (h3of x2 x3 x4 x5 x6 x7 x8 x9) (s3of x2 x3 x4 x5 x6 x7 x8 x9))) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__fused_kernel_eq_skeleton]; unfold cc0__fused_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f22, %hf22, H22⟩, ⟨%f23, %hf23, H23⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg22.eq_unread hf22; obtain rfl := harg23.eq_unread hf23
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H22]
  · iexists _; isplitr; swap; · iexact H22
    ipureintro
    refine store_window harg22 _ _ _ ?_
    try unfold runA.sl.r_2
    try unfold runA.sl.r_1
    try unfold runA.sl.r
    have e2 : ∀ inb, arg2.view.readAt (Elt F) (Rect.unit ![0, 0] ![4096, 128] inb).toLoadRect (harg2.unread x2) = x2 := fun inb => load_whole harg2 x2 inb
    have e3 : ∀ inb, arg3.view.readAt (Elt F) (Rect.unit ![0, 0] ![4096, 99] inb).toLoadRect (harg3.unread x3) = x3 := fun inb => load_whole harg3 x3 inb
    have e4 : ∀ inb, arg4.view.readAt (Elt F) (Rect.unit ![0, 0] ![99, 128] inb).toLoadRect (harg4.unread x4) = x4 := fun inb => load_whole harg4 x4 inb
    have e5 : ∀ inb, arg5.view.readAt (Elt F) (Rect.unit ![0, 0] ![1, 128] inb).toLoadRect (harg5.unread x5) = x5 := fun inb => load_whole harg5 x5 inb
    have e6 : ∀ inb, arg6.view.readAt (Elt F) (Rect.unit ![0, 0] ![128, 128] inb).toLoadRect (harg6.unread x6) = x6 := fun inb => load_whole harg6 x6 inb
    have e7 : ∀ inb, arg7.view.readAt (Elt F) (Rect.unit ![0, 0] ![1, 128] inb).toLoadRect (harg7.unread x7) = x7 := fun inb => load_whole harg7 x7 inb
    have e8 : ∀ inb, arg8.view.readAt (Elt F) (Rect.unit ![0, 0] ![256, 512] inb).toLoadRect (harg8.unread x8) = x8 := fun inb => load_whole harg8 x8 inb
    have e9 : ∀ inb, arg9.view.readAt (Elt F) (Rect.unit ![0, 0] ![1, 512] inb).toLoadRect (harg9.unread x9) = x9 := fun inb => load_whole harg9 x9 inb
    have e23 : ∀ inb, arg23.view.readAt (Elt F) (Rect.unit ![0, 0] ![2, 512] inb).toLoadRect (harg23.unread x23) = x23 := fun inb => load_whole harg23 x23 inb
    simp only [e2, e3, e4, e5, e6, e7, e8, e9, e23]
    try simp only [load_window]
    try rfl
  iexists _; isplitr; swap; · iexact H23
  ipureintro
  refine store_whole _ _ _ ?_
  try unfold runA.sl.r_2
  try unfold runA.sl.r_1
  try unfold runA.sl.r
  have e2 : ∀ inb, arg2.view.readAt (Elt F) (Rect.unit ![0, 0] ![4096, 128] inb).toLoadRect (harg2.unread x2) = x2 := fun inb => load_whole harg2 x2 inb
  have e3 : ∀ inb, arg3.view.readAt (Elt F) (Rect.unit ![0, 0] ![4096, 99] inb).toLoadRect (harg3.unread x3) = x3 := fun inb => load_whole harg3 x3 inb
  have e4 : ∀ inb, arg4.view.readAt (Elt F) (Rect.unit ![0, 0] ![99, 128] inb).toLoadRect (harg4.unread x4) = x4 := fun inb => load_whole harg4 x4 inb
  have e5 : ∀ inb, arg5.view.readAt (Elt F) (Rect.unit ![0, 0] ![1, 128] inb).toLoadRect (harg5.unread x5) = x5 := fun inb => load_whole harg5 x5 inb
  have e6 : ∀ inb, arg6.view.readAt (Elt F) (Rect.unit ![0, 0] ![128, 128] inb).toLoadRect (harg6.unread x6) = x6 := fun inb => load_whole harg6 x6 inb
  have e7 : ∀ inb, arg7.view.readAt (Elt F) (Rect.unit ![0, 0] ![1, 128] inb).toLoadRect (harg7.unread x7) = x7 := fun inb => load_whole harg7 x7 inb
  have e8 : ∀ inb, arg8.view.readAt (Elt F) (Rect.unit ![0, 0] ![256, 512] inb).toLoadRect (harg8.unread x8) = x8 := fun inb => load_whole harg8 x8 inb
  have e9 : ∀ inb, arg9.view.readAt (Elt F) (Rect.unit ![0, 0] ![1, 512] inb).toLoadRect (harg9.unread x9) = x9 := fun inb => load_whole harg9 x9 inb
  have e23 : ∀ inb, arg23.view.readAt (Elt F) (Rect.unit ![0, 0] ![2, 512] inb).toLoadRect (harg23.unread x23) = x23 := fun inb => load_whole harg23 x23 inb
  simp only [e2, e3, e4, e5, e6, e7, e8, e9, e23]
  try simp only [load_window]
  try rfl

set_option maxHeartbeats 1000000 in
/-- The kernel's body in phase 0, a later row block: what it reads stays, and what each buffer it stores into then holds. -/
theorem runB (c : Dev nD) (i : grid0.Coords) (arg2 : Memref sig .tc .vmem S4096x128 .f32) (harg2 : arg2.IsWhole) (arg3 : Memref sig .tc .vmem S4096x99 .f32) (harg3 : arg3.IsWhole) (arg4 : Memref sig .tc .vmem S99x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x33 .f32) (harg18 : arg18.IsWhole) (arg19 : Memref sig .tc .vmem S1x33 .f32) (harg19 : arg19.IsWhole) (arg20 : Memref sig .tc .vmem S6x33x4096 .f32) (harg20 : arg20.IsWhole) (arg21 : Memref sig .tc .vmem S4096x6 .i32) (harg21 : arg21.IsWhole) (arg22 : Memref sig .tc .vmem S16384x512 .f32) (harg22 : arg22.IsWhole) (arg23 : Memref sig .tc .vmem S2x512 .f32) (harg23 : arg23.IsWhole) (arg24 : Memref sig .tc .vmem S2x256 .f32) (harg24 : arg24.IsWhole) (hc0 : k0_cond1 i = 1#1) (hc1 : ¬ (k0_cond4 i = 1#1)) (hc2 : ¬ (k0_cond7 i = 1#1)) (hc3 : ¬ ((Scalar.cmpi .ne (Scalar.extui (Scalar.cmpi .eq (BitVec.ofNat 32 (i 1).val) 0#32)) 0#32) = 1#1)) (hc4 : (Scalar.cmpi .ne (Scalar.extui (Scalar.cmpi .ne (BitVec.ofNat 32 (i 1).val) 0#32)) 0#32) = 1#1)
    (x2 : Vec F S4096x128 .f32) (x3 : Vec F S4096x99 .f32) (x4 : Vec F S99x128 .f32) (x5 : Vec F S1x128 .f32) (x6 : Vec F S128x128 .f32) (x7 : Vec F S1x128 .f32) (x8 : Vec F S256x512 .f32) (x9 : Vec F S1x512 .f32) (x22 : Vec F S16384x512 .f32) (x23 : Vec F S2x512 .f32)
    (E : Set ℕ) (K : PUnit → sProp 𝕄) :
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg22 fullShare x22 ∗ owns (c : Thread nD τ) arg23 fullShare x23
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg22 fullShare (VecWindow.put x22 (k0_off1 i) S4096x512.size (w3of x2 x3 x4 x5 x6 x7 x8 x9)) ∗ owns (c : Thread nD τ) arg23 fullShare (k0_pay3 (h3of x2 x3 x4 x5 x6 x7 x8 x9) (s3of x2 x3 x4 x5 x6 x7 x8 x9) x23)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__fused_kernel_eq_skeleton]; unfold cc0__fused_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f22, %hf22, H22⟩, ⟨%f23, %hf23, H23⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg22.eq_unread hf22; obtain rfl := harg23.eq_unread hf23
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H22]
  · iexists _; isplitr; swap; · iexact H22
    ipureintro
    refine store_window harg22 _ _ _ ?_
    try unfold runB.sl.r_2
    try unfold runB.sl.r_1
    try unfold runB.sl.r
    have e2 : ∀ inb, arg2.view.readAt (Elt F) (Rect.unit ![0, 0] ![4096, 128] inb).toLoadRect (harg2.unread x2) = x2 := fun inb => load_whole harg2 x2 inb
    have e3 : ∀ inb, arg3.view.readAt (Elt F) (Rect.unit ![0, 0] ![4096, 99] inb).toLoadRect (harg3.unread x3) = x3 := fun inb => load_whole harg3 x3 inb
    have e4 : ∀ inb, arg4.view.readAt (Elt F) (Rect.unit ![0, 0] ![99, 128] inb).toLoadRect (harg4.unread x4) = x4 := fun inb => load_whole harg4 x4 inb
    have e5 : ∀ inb, arg5.view.readAt (Elt F) (Rect.unit ![0, 0] ![1, 128] inb).toLoadRect (harg5.unread x5) = x5 := fun inb => load_whole harg5 x5 inb
    have e6 : ∀ inb, arg6.view.readAt (Elt F) (Rect.unit ![0, 0] ![128, 128] inb).toLoadRect (harg6.unread x6) = x6 := fun inb => load_whole harg6 x6 inb
    have e7 : ∀ inb, arg7.view.readAt (Elt F) (Rect.unit ![0, 0] ![1, 128] inb).toLoadRect (harg7.unread x7) = x7 := fun inb => load_whole harg7 x7 inb
    have e8 : ∀ inb, arg8.view.readAt (Elt F) (Rect.unit ![0, 0] ![256, 512] inb).toLoadRect (harg8.unread x8) = x8 := fun inb => load_whole harg8 x8 inb
    have e9 : ∀ inb, arg9.view.readAt (Elt F) (Rect.unit ![0, 0] ![1, 512] inb).toLoadRect (harg9.unread x9) = x9 := fun inb => load_whole harg9 x9 inb
    have e23 : ∀ inb, arg23.view.readAt (Elt F) (Rect.unit ![0, 0] ![2, 512] inb).toLoadRect (harg23.unread x23) = x23 := fun inb => load_whole harg23 x23 inb
    simp only [e2, e3, e4, e5, e6, e7, e8, e9, e23]
    try simp only [load_window]
    try rfl
  iexists _; isplitr; swap; · iexact H23
  ipureintro
  refine store_whole _ _ _ ?_
  try unfold runB.sl.r_2
  try unfold runB.sl.r_1
  try unfold runB.sl.r
  have e2 : ∀ inb, arg2.view.readAt (Elt F) (Rect.unit ![0, 0] ![4096, 128] inb).toLoadRect (harg2.unread x2) = x2 := fun inb => load_whole harg2 x2 inb
  have e3 : ∀ inb, arg3.view.readAt (Elt F) (Rect.unit ![0, 0] ![4096, 99] inb).toLoadRect (harg3.unread x3) = x3 := fun inb => load_whole harg3 x3 inb
  have e4 : ∀ inb, arg4.view.readAt (Elt F) (Rect.unit ![0, 0] ![99, 128] inb).toLoadRect (harg4.unread x4) = x4 := fun inb => load_whole harg4 x4 inb
  have e5 : ∀ inb, arg5.view.readAt (Elt F) (Rect.unit ![0, 0] ![1, 128] inb).toLoadRect (harg5.unread x5) = x5 := fun inb => load_whole harg5 x5 inb
  have e6 : ∀ inb, arg6.view.readAt (Elt F) (Rect.unit ![0, 0] ![128, 128] inb).toLoadRect (harg6.unread x6) = x6 := fun inb => load_whole harg6 x6 inb
  have e7 : ∀ inb, arg7.view.readAt (Elt F) (Rect.unit ![0, 0] ![1, 128] inb).toLoadRect (harg7.unread x7) = x7 := fun inb => load_whole harg7 x7 inb
  have e8 : ∀ inb, arg8.view.readAt (Elt F) (Rect.unit ![0, 0] ![256, 512] inb).toLoadRect (harg8.unread x8) = x8 := fun inb => load_whole harg8 x8 inb
  have e9 : ∀ inb, arg9.view.readAt (Elt F) (Rect.unit ![0, 0] ![1, 512] inb).toLoadRect (harg9.unread x9) = x9 := fun inb => load_whole harg9 x9 inb
  have e23 : ∀ inb, arg23.view.readAt (Elt F) (Rect.unit ![0, 0] ![2, 512] inb).toLoadRect (harg23.unread x23) = x23 := fun inb => load_whole harg23 x23 inb
  simp only [e2, e3, e4, e5, e6, e7, e8, e9, e23]
  try simp only [load_window]
  try rfl

set_option maxHeartbeats 1000000 in
/-- The kernel's body in phase 1, first row block: what it reads stays, and what each buffer it stores into then holds. -/
theorem runC (c : Dev nD) (i : grid0.Coords) (arg2 : Memref sig .tc .vmem S4096x128 .f32) (harg2 : arg2.IsWhole) (arg3 : Memref sig .tc .vmem S4096x99 .f32) (harg3 : arg3.IsWhole) (arg4 : Memref sig .tc .vmem S99x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x33 .f32) (harg18 : arg18.IsWhole) (arg19 : Memref sig .tc .vmem S1x33 .f32) (harg19 : arg19.IsWhole) (arg20 : Memref sig .tc .vmem S6x33x4096 .f32) (harg20 : arg20.IsWhole) (arg21 : Memref sig .tc .vmem S4096x6 .i32) (harg21 : arg21.IsWhole) (arg22 : Memref sig .tc .vmem S16384x512 .f32) (harg22 : arg22.IsWhole) (arg23 : Memref sig .tc .vmem S2x512 .f32) (harg23 : arg23.IsWhole) (arg24 : Memref sig .tc .vmem S2x256 .f32) (harg24 : arg24.IsWhole) (hc0 : ¬ (k0_cond1 i = 1#1)) (hc1 : k0_cond4 i = 1#1) (hc2 : ¬ (k0_cond7 i = 1#1)) (hc3 : (Scalar.cmpi .ne (Scalar.extui (Scalar.cmpi .eq (BitVec.ofNat 32 (i 1).val) 0#32)) 0#32) = 1#1) (hc4 : ¬ ((Scalar.cmpi .ne (Scalar.extui (Scalar.cmpi .ne (BitVec.ofNat 32 (i 1).val) 0#32)) 0#32) = 1#1))
    (x10 : Vec F S1x512 .f32) (x11 : Vec F S1x512 .f32) (x12 : Vec F S512x256 .f32) (x13 : Vec F S1x256 .f32) (x22 : Vec F S16384x512 .f32) (x23 : Vec F S2x512 .f32) (x24 : Vec F S2x256 .f32)
    (E : Set ℕ) (K : PUnit → sProp 𝕄) :
        iprop(owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg23 fullShare x23 ∗ owns (c : Thread nD τ) arg22 fullShare x22 ∗ owns (c : Thread nD τ) arg24 fullShare x24
            ∗ (iprop(owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg23 fullShare x23 ∗ owns (c : Thread nD τ) arg22 fullShare (VecWindow.put x22 (k0_off3 i) S4096x256.size (w4of x10 x11 x12 x13 x23 (VecWindow.window x22 (k0_off2 i) S4096x512.size (k0_off2_inb i hc1)))) ∗ owns (c : Thread nD τ) arg24 fullShare (k0_pay5 (h4of x10 x11 x12 x13 x23 (VecWindow.window x22 (k0_off2 i) S4096x512.size (k0_off2_inb i hc1))) (s4of x10 x11 x12 x13 x23 (VecWindow.window x22 (k0_off2 i) S4096x512.size (k0_off2_inb i hc1))))) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__fused_kernel_eq_skeleton]; unfold cc0__fused_kernel_skel
  simp only [k0_part2_eq_skeleton]
  unfold owns
  iintro ⟨⟨%f10, %hf10, H10⟩, ⟨%f11, %hf11, H11⟩, ⟨%f12, %hf12, H12⟩, ⟨%f13, %hf13, H13⟩, ⟨%f23, %hf23, H23⟩, ⟨%f22, %hf22, H22⟩, ⟨%f24, %hf24, H24⟩, Hk⟩
  obtain rfl := harg10.eq_unread hf10; obtain rfl := harg11.eq_unread hf11; obtain rfl := harg12.eq_unread hf12; obtain rfl := harg13.eq_unread hf13; obtain rfl := harg23.eq_unread hf23; obtain rfl := harg22.eq_unread hf22; obtain rfl := harg24.eq_unread hf24
  sl_exec (disch := first | sl_exact hc0 | sl_exact hc1 | sl_exact hc2 | sl_exact hc3 | sl_exact hc4)
  sl_step
  iapply Hk
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H23]
  · iexists _; isplitr; · ipureintro; exact harg23.read_unread _
    iexact H23
  isplitl [H22]
  · iexists _; isplitr; swap; · iexact H22
    ipureintro
    refine store_window harg22 _ _ _ ?_
    try unfold runC.sl.r_2
    try unfold runC.sl.r_1
    try unfold runC.sl.r
    have e10 : ∀ inb, arg10.view.readAt (Elt F) (Rect.unit ![0, 0] ![1, 512] inb).toLoadRect (harg10.unread x10) = x10 := fun inb => load_whole harg10 x10 inb
    have e11 : ∀ inb, arg11.view.readAt (Elt F) (Rect.unit ![0, 0] ![1, 512] inb).toLoadRect (harg11.unread x11) = x11 := fun inb => load_whole harg11 x11 inb
    have e12 : ∀ inb, arg12.view.readAt (Elt F) (Rect.unit ![0, 0] ![512, 256] inb).toLoadRect (harg12.unread x12) = x12 := fun inb => load_whole harg12 x12 inb
    have e13 : ∀ inb, arg13.view.readAt (Elt F) (Rect.unit ![0, 0] ![1, 256] inb).toLoadRect (harg13.unread x13) = x13 := fun inb => load_whole harg13 x13 inb
    have e23 : ∀ inb, arg23.view.readAt (Elt F) (Rect.unit ![0, 0] ![2, 512] inb).toLoadRect (harg23.unread x23) = x23 := fun inb => load_whole harg23 x23 inb
    have e24 : ∀ inb, arg24.view.readAt (Elt F) (Rect.unit ![0, 0] ![2, 256] inb).toLoadRect (harg24.unread x24) = x24 := fun inb => load_whole harg24 x24 inb
    simp only [e10, e11, e12, e13, e23, e24]
    try simp only [load_window]
    try rfl
  iexists _; isplitr; swap; · iexact H24
  ipureintro
  refine store_whole _ _ _ ?_
  try unfold runC.sl.r_2
  try unfold runC.sl.r_1
  try unfold runC.sl.r
  have e10 : ∀ inb, arg10.view.readAt (Elt F) (Rect.unit ![0, 0] ![1, 512] inb).toLoadRect (harg10.unread x10) = x10 := fun inb => load_whole harg10 x10 inb
  have e11 : ∀ inb, arg11.view.readAt (Elt F) (Rect.unit ![0, 0] ![1, 512] inb).toLoadRect (harg11.unread x11) = x11 := fun inb => load_whole harg11 x11 inb
  have e12 : ∀ inb, arg12.view.readAt (Elt F) (Rect.unit ![0, 0] ![512, 256] inb).toLoadRect (harg12.unread x12) = x12 := fun inb => load_whole harg12 x12 inb
  have e13 : ∀ inb, arg13.view.readAt (Elt F) (Rect.unit ![0, 0] ![1, 256] inb).toLoadRect (harg13.unread x13) = x13 := fun inb => load_whole harg13 x13 inb
  have e23 : ∀ inb, arg23.view.readAt (Elt F) (Rect.unit ![0, 0] ![2, 512] inb).toLoadRect (harg23.unread x23) = x23 := fun inb => load_whole harg23 x23 inb
  have e24 : ∀ inb, arg24.view.readAt (Elt F) (Rect.unit ![0, 0] ![2, 256] inb).toLoadRect (harg24.unread x24) = x24 := fun inb => load_whole harg24 x24 inb
  simp only [e10, e11, e12, e13, e23, e24]
  try simp only [load_window]
  try rfl

set_option maxHeartbeats 1000000 in
/-- The kernel's body in phase 1, a later row block: what it reads stays, and what each buffer it stores into then holds. -/
theorem runD (c : Dev nD) (i : grid0.Coords) (arg2 : Memref sig .tc .vmem S4096x128 .f32) (harg2 : arg2.IsWhole) (arg3 : Memref sig .tc .vmem S4096x99 .f32) (harg3 : arg3.IsWhole) (arg4 : Memref sig .tc .vmem S99x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x33 .f32) (harg18 : arg18.IsWhole) (arg19 : Memref sig .tc .vmem S1x33 .f32) (harg19 : arg19.IsWhole) (arg20 : Memref sig .tc .vmem S6x33x4096 .f32) (harg20 : arg20.IsWhole) (arg21 : Memref sig .tc .vmem S4096x6 .i32) (harg21 : arg21.IsWhole) (arg22 : Memref sig .tc .vmem S16384x512 .f32) (harg22 : arg22.IsWhole) (arg23 : Memref sig .tc .vmem S2x512 .f32) (harg23 : arg23.IsWhole) (arg24 : Memref sig .tc .vmem S2x256 .f32) (harg24 : arg24.IsWhole) (hc0 : ¬ (k0_cond1 i = 1#1)) (hc1 : k0_cond4 i = 1#1) (hc2 : ¬ (k0_cond7 i = 1#1)) (hc3 : ¬ ((Scalar.cmpi .ne (Scalar.extui (Scalar.cmpi .eq (BitVec.ofNat 32 (i 1).val) 0#32)) 0#32) = 1#1)) (hc4 : (Scalar.cmpi .ne (Scalar.extui (Scalar.cmpi .ne (BitVec.ofNat 32 (i 1).val) 0#32)) 0#32) = 1#1)
    (x10 : Vec F S1x512 .f32) (x11 : Vec F S1x512 .f32) (x12 : Vec F S512x256 .f32) (x13 : Vec F S1x256 .f32) (x22 : Vec F S16384x512 .f32) (x23 : Vec F S2x512 .f32) (x24 : Vec F S2x256 .f32)
    (E : Set ℕ) (K : PUnit → sProp 𝕄) :
        iprop(owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg23 fullShare x23 ∗ owns (c : Thread nD τ) arg22 fullShare x22 ∗ owns (c : Thread nD τ) arg24 fullShare x24
            ∗ (iprop(owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg23 fullShare x23 ∗ owns (c : Thread nD τ) arg22 fullShare (VecWindow.put x22 (k0_off3 i) S4096x256.size (w4of x10 x11 x12 x13 x23 (VecWindow.window x22 (k0_off2 i) S4096x512.size (k0_off2_inb i hc1)))) ∗ owns (c : Thread nD τ) arg24 fullShare (k0_pay6 (h4of x10 x11 x12 x13 x23 (VecWindow.window x22 (k0_off2 i) S4096x512.size (k0_off2_inb i hc1))) (s4of x10 x11 x12 x13 x23 (VecWindow.window x22 (k0_off2 i) S4096x512.size (k0_off2_inb i hc1))) x24)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__fused_kernel_eq_skeleton]; unfold cc0__fused_kernel_skel
  simp only [k0_part2_eq_skeleton]
  unfold owns
  iintro ⟨⟨%f10, %hf10, H10⟩, ⟨%f11, %hf11, H11⟩, ⟨%f12, %hf12, H12⟩, ⟨%f13, %hf13, H13⟩, ⟨%f23, %hf23, H23⟩, ⟨%f22, %hf22, H22⟩, ⟨%f24, %hf24, H24⟩, Hk⟩
  obtain rfl := harg10.eq_unread hf10; obtain rfl := harg11.eq_unread hf11; obtain rfl := harg12.eq_unread hf12; obtain rfl := harg13.eq_unread hf13; obtain rfl := harg23.eq_unread hf23; obtain rfl := harg22.eq_unread hf22; obtain rfl := harg24.eq_unread hf24
  sl_exec (disch := first | sl_exact hc0 | sl_exact hc1 | sl_exact hc2 | sl_exact hc3 | sl_exact hc4)
  sl_step
  iapply Hk
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H23]
  · iexists _; isplitr; · ipureintro; exact harg23.read_unread _
    iexact H23
  isplitl [H22]
  · iexists _; isplitr; swap; · iexact H22
    ipureintro
    refine store_window harg22 _ _ _ ?_
    try unfold runD.sl.r_2
    try unfold runD.sl.r_1
    try unfold runD.sl.r
    have e10 : ∀ inb, arg10.view.readAt (Elt F) (Rect.unit ![0, 0] ![1, 512] inb).toLoadRect (harg10.unread x10) = x10 := fun inb => load_whole harg10 x10 inb
    have e11 : ∀ inb, arg11.view.readAt (Elt F) (Rect.unit ![0, 0] ![1, 512] inb).toLoadRect (harg11.unread x11) = x11 := fun inb => load_whole harg11 x11 inb
    have e12 : ∀ inb, arg12.view.readAt (Elt F) (Rect.unit ![0, 0] ![512, 256] inb).toLoadRect (harg12.unread x12) = x12 := fun inb => load_whole harg12 x12 inb
    have e13 : ∀ inb, arg13.view.readAt (Elt F) (Rect.unit ![0, 0] ![1, 256] inb).toLoadRect (harg13.unread x13) = x13 := fun inb => load_whole harg13 x13 inb
    have e23 : ∀ inb, arg23.view.readAt (Elt F) (Rect.unit ![0, 0] ![2, 512] inb).toLoadRect (harg23.unread x23) = x23 := fun inb => load_whole harg23 x23 inb
    have e24 : ∀ inb, arg24.view.readAt (Elt F) (Rect.unit ![0, 0] ![2, 256] inb).toLoadRect (harg24.unread x24) = x24 := fun inb => load_whole harg24 x24 inb
    simp only [e10, e11, e12, e13, e23, e24]
    try simp only [load_window]
    try rfl
  iexists _; isplitr; swap; · iexact H24
  ipureintro
  refine store_whole _ _ _ ?_
  try unfold runD.sl.r_2
  try unfold runD.sl.r_1
  try unfold runD.sl.r
  have e10 : ∀ inb, arg10.view.readAt (Elt F) (Rect.unit ![0, 0] ![1, 512] inb).toLoadRect (harg10.unread x10) = x10 := fun inb => load_whole harg10 x10 inb
  have e11 : ∀ inb, arg11.view.readAt (Elt F) (Rect.unit ![0, 0] ![1, 512] inb).toLoadRect (harg11.unread x11) = x11 := fun inb => load_whole harg11 x11 inb
  have e12 : ∀ inb, arg12.view.readAt (Elt F) (Rect.unit ![0, 0] ![512, 256] inb).toLoadRect (harg12.unread x12) = x12 := fun inb => load_whole harg12 x12 inb
  have e13 : ∀ inb, arg13.view.readAt (Elt F) (Rect.unit ![0, 0] ![1, 256] inb).toLoadRect (harg13.unread x13) = x13 := fun inb => load_whole harg13 x13 inb
  have e23 : ∀ inb, arg23.view.readAt (Elt F) (Rect.unit ![0, 0] ![2, 512] inb).toLoadRect (harg23.unread x23) = x23 := fun inb => load_whole harg23 x23 inb
  have e24 : ∀ inb, arg24.view.readAt (Elt F) (Rect.unit ![0, 0] ![2, 256] inb).toLoadRect (harg24.unread x24) = x24 := fun inb => load_whole harg24 x24 inb
  simp only [e10, e11, e12, e13, e23, e24]
  try simp only [load_window]
  try rfl

set_option maxHeartbeats 1000000 in
/-- The kernel's body in phase 2: what it reads stays, and what each buffer it stores into then holds. -/
theorem runE (c : Dev nD) (i : grid0.Coords) (arg2 : Memref sig .tc .vmem S4096x128 .f32) (harg2 : arg2.IsWhole) (arg3 : Memref sig .tc .vmem S4096x99 .f32) (harg3 : arg3.IsWhole) (arg4 : Memref sig .tc .vmem S99x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x33 .f32) (harg18 : arg18.IsWhole) (arg19 : Memref sig .tc .vmem S1x33 .f32) (harg19 : arg19.IsWhole) (arg20 : Memref sig .tc .vmem S6x33x4096 .f32) (harg20 : arg20.IsWhole) (arg21 : Memref sig .tc .vmem S4096x6 .i32) (harg21 : arg21.IsWhole) (arg22 : Memref sig .tc .vmem S16384x512 .f32) (harg22 : arg22.IsWhole) (arg23 : Memref sig .tc .vmem S2x512 .f32) (harg23 : arg23.IsWhole) (arg24 : Memref sig .tc .vmem S2x256 .f32) (harg24 : arg24.IsWhole) (hc0 : ¬ (k0_cond1 i = 1#1)) (hc1 : ¬ (k0_cond4 i = 1#1)) (hc2 : k0_cond7 i = 1#1)
    (x14 : Vec F S1x256 .f32) (x15 : Vec F S1x256 .f32) (x16 : Vec F S256x128 .f32) (x17 : Vec F S1x128 .f32) (x18 : Vec F S128x33 .f32) (x19 : Vec F S1x33 .f32) (x20 : Vec F S6x33x4096 .f32) (x21 : Vec F S4096x6 .i32) (x22 : Vec F S16384x512 .f32) (x24 : Vec F S2x256 .f32)
    (E : Set ℕ) (K : PUnit → sProp 𝕄) :
        iprop(owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg22 fullShare x22 ∗ owns (c : Thread nD τ) arg24 fullShare x24 ∗ owns (c : Thread nD τ) arg21 fullShare x21
            ∗ (iprop(owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg22 fullShare x22 ∗ owns (c : Thread nD τ) arg24 fullShare x24 ∗ owns (c : Thread nD τ) arg21 fullShare (outOf x14 x15 x16 x17 x18 x19 x20 x24 (VecWindow.window x22 (k0_off4 i) S4096x256.size (k0_off4_inb i hc2)))) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__fused_kernel_eq_skeleton]; unfold cc0__fused_kernel_skel
  simp only [k0_part3_eq_skeleton, k0_part4_eq_skeleton, k0_part5_eq_skeleton, k0_part6_eq_skeleton]
  unfold owns
  iintro ⟨⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f22, %hf22, H22⟩, ⟨%f24, %hf24, H24⟩, ⟨%f21, %hf21, H21⟩, Hk⟩
  obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg22.eq_unread hf22; obtain rfl := harg24.eq_unread hf24; obtain rfl := harg21.eq_unread hf21
  sl_exec (disch := first | sl_exact hc0 | sl_exact hc1 | sl_exact hc2)
  sl_step
  iapply Hk
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H22]
  · iexists _; isplitr; · ipureintro; exact harg22.read_unread _
    iexact H22
  isplitl [H24]
  · iexists _; isplitr; · ipureintro; exact harg24.read_unread _
    iexact H24
  iexists _; isplitr; swap; · iexact H21
  ipureintro
  refine store_whole _ _ _ ?_
  unfold outOf rounds logit0
  try unfold runE.sl.r_12
  try unfold runE.sl.r_11
  try unfold runE.sl.r_10
  try unfold runE.sl.r_9
  try unfold runE.sl.r_8
  try unfold runE.sl.r_7
  try unfold runE.sl.r_6
  try unfold runE.sl.r_5
  try unfold runE.sl.r_4
  try unfold runE.sl.r_3
  try unfold runE.sl.r_2
  try unfold runE.sl.r_1
  try unfold runE.sl.r
  try unfold runE.sl.v61
  try unfold runE.sl.cst_52
  have e14 : ∀ inb, arg14.view.readAt (Elt F) (Rect.unit ![0, 0] ![1, 256] inb).toLoadRect (harg14.unread x14) = x14 := fun inb => load_whole harg14 x14 inb
  have e15 : ∀ inb, arg15.view.readAt (Elt F) (Rect.unit ![0, 0] ![1, 256] inb).toLoadRect (harg15.unread x15) = x15 := fun inb => load_whole harg15 x15 inb
  have e16 : ∀ inb, arg16.view.readAt (Elt F) (Rect.unit ![0, 0] ![256, 128] inb).toLoadRect (harg16.unread x16) = x16 := fun inb => load_whole harg16 x16 inb
  have e17 : ∀ inb, arg17.view.readAt (Elt F) (Rect.unit ![0, 0] ![1, 128] inb).toLoadRect (harg17.unread x17) = x17 := fun inb => load_whole harg17 x17 inb
  have e18 : ∀ inb, arg18.view.readAt (Elt F) (Rect.unit ![0, 0] ![128, 33] inb).toLoadRect (harg18.unread x18) = x18 := fun inb => load_whole harg18 x18 inb
  have e19 : ∀ inb, arg19.view.readAt (Elt F) (Rect.unit ![0, 0] ![1, 33] inb).toLoadRect (harg19.unread x19) = x19 := fun inb => load_whole harg19 x19 inb
  simp only [e14, e15, e16, e17, e18, e19]
  try simp only [load_window]
  try rfl

end Cert.KernelIdeal.Hand

end
-- ==== Proof.TrackI.lean ====
/- The launch: what the scratch buffers hold before every point, the body's obligation at every point, and the run. -/
module

public import proofs.«01_k».proof.Proof.RunI
public import Idealize.ShloMosaic.Lib.Pipeline.DatRel
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.KernelIdeal Cert.KernelIdeal.Gen

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- What the three scratch buffers hold. -/
structure St (F : FTy → Type) where
  /-- the hidden rows -/
  a : Vec F S16384x512 .f32
  /-- the sums of the first hidden layer -/
  b : Vec F S2x512 .f32
  /-- the sums of the second hidden layer -/
  e : Vec F S2x256 .f32

/-- The first hidden layer's row block at a point, as stored, as kept, and its column sums. -/
abbrev W3 (c : Dev nD) (t : Fin cfg0.N) : FVec F S4096x512 .f32 := w3of (iblk m c 0 t) (iblk m c 1 t) (iblk m c 2 t) (iblk m c 3 t) (iblk m c 4 t) (iblk m c 5 t) (iblk m c 6 t) (iblk m c 7 t)
abbrev H3 (c : Dev nD) (t : Fin cfg0.N) : FVec F S4096x512 .f32 := h3of (iblk m c 0 t) (iblk m c 1 t) (iblk m c 2 t) (iblk m c 3 t) (iblk m c 4 t) (iblk m c 5 t) (iblk m c 6 t) (iblk m c 7 t)
abbrev T3 (c : Dev nD) (t : Fin cfg0.N) : FVec F S512 .f32 := s3of (iblk m c 0 t) (iblk m c 1 t) (iblk m c 2 t) (iblk m c 3 t) (iblk m c 4 t) (iblk m c 5 t) (iblk m c 6 t) (iblk m c 7 t)
/-- The second hidden layer's, from what the scratch buffers hold. -/
abbrev W4 (c : Dev nD) (t : Fin cfg0.N) (x23 : Vec F S2x512 .f32) (h : Vec F S4096x512 .f32) : FVec F S4096x256 .f32 := w4of (iblk m c 8 t) (iblk m c 9 t) (iblk m c 10 t) (iblk m c 11 t) x23 h
abbrev H4 (c : Dev nD) (t : Fin cfg0.N) (x23 : Vec F S2x512 .f32) (h : Vec F S4096x512 .f32) : FVec F S4096x256 .f32 := h4of (iblk m c 8 t) (iblk m c 9 t) (iblk m c 10 t) (iblk m c 11 t) x23 h
abbrev T4 (c : Dev nD) (t : Fin cfg0.N) (x23 : Vec F S2x512 .f32) (h : Vec F S4096x512 .f32) : FVec F S1x256 .f32 := s4of (iblk m c 8 t) (iblk m c 9 t) (iblk m c 10 t) (iblk m c 11 t) x23 h

/-- The row block a point of the second phase reads, and one of the third. -/
abbrev rd3 (t : Fin cfg0.N) (h : k0_cond4 (grid0.coords t) = 1#1) (x : Vec F S16384x512 .f32) : Vec F S4096x512 .f32 :=
  VecWindow.window x (k0_off2 (grid0.coords t)) S4096x512.size (k0_off2_inb (grid0.coords t) h)
abbrev rd4 (t : Fin cfg0.N) (h : k0_cond7 (grid0.coords t) = 1#1) (x : Vec F S16384x512 .f32) : Vec F S4096x256 .f32 :=
  VecWindow.window x (k0_off4 (grid0.coords t)) S4096x256.size (k0_off4_inb (grid0.coords t) h)

/-- What one point makes of the scratch buffers. -/
def step (c : Dev nD) (t : Fin cfg0.N) (s : St F) : St F :=
  if _ : k0_cond1 (grid0.coords t) = 1#1 then
    ⟨VecWindow.put s.a (k0_off1 (grid0.coords t)) S4096x512.size (W3 m c t),
      if (Scalar.cmpi .ne (Scalar.extui (Scalar.cmpi .eq (BitVec.ofNat 32 ((grid0.coords t) 1).val) 0#32)) 0#32) = 1#1 then k0_pay2 (H3 m c t) (T3 m c t) else k0_pay3 (H3 m c t) (T3 m c t) s.b, s.e⟩
  else if h : k0_cond4 (grid0.coords t) = 1#1 then
    ⟨VecWindow.put s.a (k0_off3 (grid0.coords t)) S4096x256.size (W4 m c t s.b (rd3 t h s.a)), s.b,
      if (Scalar.cmpi .ne (Scalar.extui (Scalar.cmpi .eq (BitVec.ofNat 32 ((grid0.coords t) 1).val) 0#32)) 0#32) = 1#1 then k0_pay5 (H4 m c t s.b (rd3 t h s.a)) (T4 m c t s.b (rd3 t h s.a))
      else k0_pay6 (H4 m c t s.b (rd3 t h s.a)) (T4 m c t s.b (rd3 t h s.a)) s.e⟩
  else s

/-- What the scratch buffers hold before point `n`, from what they held at the start. -/
def stAt (c : Dev nD) (d : St F) : ℕ → St F
  | 0 => d
  | n + 1 => if h : n < cfg0.N then step m c ⟨n, h⟩ (stAt c d n) else stAt c d n

theorem stAt_succ (c : Dev nD) (d : St F) (t : Fin cfg0.N) : stAt m c d (t.val + 1) = step m c t (stAt m c d t.val) := by
  rw [stAt, dif_pos t.isLt]

/-- The block a point of the third phase leaves. -/
def outAt (c : Dev nD) (t : Fin cfg0.N) (h : k0_cond7 (grid0.coords t) = 1#1) (s : St F) : Vec F S4096x6 .i32 :=
  outOf (iblk m c 12 t) (iblk m c 13 t) (iblk m c 14 t) (iblk m c 15 t) (iblk m c 16 t) (iblk m c 17 t) (iblk m c 18 t) s.e (rd4 t h s.a)

/-! ## The conditions, point by point -/

theorem co0 (t : Fin cfg0.N) : ((grid0.coords t) 0).val = t.val / 4 % 3 := Pipeline.Grid.coords_val t 0 (by decide) rfl
theorem co1 (t : Fin cfg0.N) : ((grid0.coords t) 1).val = t.val / 1 % 4 := Pipeline.Grid.coords_val t 1 (by decide) rfl
theorem lt12 (t : Fin cfg0.N) : t.val < 12 := Nat.lt_of_lt_of_eq t.isLt N_0

theorem cond1_iff (t : Fin cfg0.N) : k0_cond1 (grid0.coords t) = 1#1 ↔ t.val / 4 = 0 := by
  have h := lt12 t
  rcases (by omega : t.val / 4 = 0 ∨ t.val / 4 = 1 ∨ t.val / 4 = 2) with e | e | e <;>
    · simp only [k0_cond1, co0, e]; decide
theorem cond4_iff (t : Fin cfg0.N) : k0_cond4 (grid0.coords t) = 1#1 ↔ t.val / 4 = 1 := by
  have h := lt12 t
  rcases (by omega : t.val / 4 = 0 ∨ t.val / 4 = 1 ∨ t.val / 4 = 2) with e | e | e <;>
    · simp only [k0_cond4, co0, e]; decide
theorem cond7_iff (t : Fin cfg0.N) : k0_cond7 (grid0.coords t) = 1#1 ↔ t.val / 4 = 2 := by
  have h := lt12 t
  rcases (by omega : t.val / 4 = 0 ∨ t.val / 4 = 1 ∨ t.val / 4 = 2) with e | e | e <;>
    · simp only [k0_cond7, co0, e]; decide
theorem first_iff (t : Fin cfg0.N) : (Scalar.cmpi .ne (Scalar.extui (Scalar.cmpi .eq (BitVec.ofNat 32 ((grid0.coords t) 1).val) 0#32)) 0#32) = 1#1 ↔ t.val % 4 = 0 := by
  rcases (by omega : t.val % 4 = 0 ∨ t.val % 4 = 1 ∨ t.val % 4 = 2 ∨ t.val % 4 = 3) with e | e | e | e <;>
    · simp only [co1, Nat.div_one, e]; decide
theorem later_iff (t : Fin cfg0.N) : (Scalar.cmpi .ne (Scalar.extui (Scalar.cmpi .ne (BitVec.ofNat 32 ((grid0.coords t) 1).val) 0#32)) 0#32) = 1#1 ↔ t.val % 4 ≠ 0 := by
  rcases (by omega : t.val % 4 = 0 ∨ t.val % 4 = 1 ∨ t.val % 4 = 2 ∨ t.val % 4 = 3) with e | e | e | e <;>
    · simp only [co1, Nat.div_one, e]; decide

/-! ## The proof data -/

abbrev sc0 : Memref sig .tc .vmem S16384x512 .f32 := Memref.whole cc0_scratch0
abbrev sc1 : Memref sig .tc .vmem S2x512 .f32 := Memref.whole cc0_scratch1
abbrev sc2 : Memref sig .tc .vmem S2x256 .f32 := Memref.whole cc0_scratch2

/-- Before point `n` the scratch buffers hold what the points below it make of some contents. -/
def Inv (c : Dev nD) (n : ℕ) : sProp 𝕄 :=
  iprop((∃ d : St F, owns (c : Thread nD τ) sc0 fullShare (stAt m c d n).a ∗ owns (c : Thread nD τ) sc1 fullShare (stAt m c d n).b
      ∗ owns (c : Thread nD τ) sc2 fullShare (stAt m c d n).e) ∗ (∃ r, prngReg c r))

/-- Every input's buffer is left at its block; the output's is told by a relation instead. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => fun _ => Classical.arbitrary _
    | ⟨_ + 20, h⟩ => absurd h (Nat.not_lt.2 (Nat.le_add_left _ _))
  Φ n := Inv m c n.val
  q _ := fullShare
  owed _ := 0

/-- The output window is the one told by a relation. -/
def fgt : Fin cfg0.W → Bool := fun w => match w with
  | ⟨19, _⟩ => true
  | _ => false

/-- What the third phase leaves in the output's buffer; of the other points nothing is said. -/
def Rl (c : Dev nD) : (w : Fin cfg0.W) → Fin cfg0.N → ((cfg0.win w).block.Idx → Elt F (cfg0.win w).elt) → Prop := fun w t => match w with
  | ⟨19, _⟩ => fun X => ∀ h : k0_cond7 (grid0.coords t) = 1#1, ∃ d : St F, X = outAt m c t h (stAt m c d t.val)
  | _ => fun _ => True

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (A_eq m c 12) (after_12 m c) t d
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t :=
  before0_13_of m (dats m 0 c) (A_eq m c 13) (after_13 m c) t d
theorem after_14 (c : Dev nD) (t : Fin cfg0.N) : (dats m 0 c).after 14 t = iblk m c 14 t := by dsimp only [dats]
theorem before_14 (c : Dev nD) (t : Fin cfg0.N) (d) : (dats m 0 c).before 14 t d = iblk m c 14 t :=
  before0_14_of m (dats m 0 c) (A_eq m c 14) (after_14 m c) t d
theorem after_15 (c : Dev nD) (t : Fin cfg0.N) : (dats m 0 c).after 15 t = iblk m c 15 t := by dsimp only [dats]
theorem before_15 (c : Dev nD) (t : Fin cfg0.N) (d) : (dats m 0 c).before 15 t d = iblk m c 15 t :=
  before0_15_of m (dats m 0 c) (A_eq m c 15) (after_15 m c) t d
theorem after_16 (c : Dev nD) (t : Fin cfg0.N) : (dats m 0 c).after 16 t = iblk m c 16 t := by dsimp only [dats]
theorem before_16 (c : Dev nD) (t : Fin cfg0.N) (d) : (dats m 0 c).before 16 t d = iblk m c 16 t :=
  before0_16_of m (dats m 0 c) (A_eq m c 16) (after_16 m c) t d
theorem after_17 (c : Dev nD) (t : Fin cfg0.N) : (dats m 0 c).after 17 t = iblk m c 17 t := by dsimp only [dats]
theorem before_17 (c : Dev nD) (t : Fin cfg0.N) (d) : (dats m 0 c).before 17 t d = iblk m c 17 t :=
  before0_17_of m (dats m 0 c) (A_eq m c 17) (after_17 m c) t d
theorem after_18 (c : Dev nD) (t : Fin cfg0.N) : (dats m 0 c).after 18 t = iblk m c 18 t := by dsimp only [dats]
theorem before_18 (c : Dev nD) (t : Fin cfg0.N) (d) : (dats m 0 c).before 18 t d = iblk m c 18 t :=
  before0_18_of m (dats m 0 c) (A_eq m c 18) (after_18 m c) t d

/-- What the body is given at point `t`, and what it owes. -/
def bodyPre (c : Dev nD) (t : Fin cfg0.N) : sProp 𝕄 :=
  iprop((dats m 0 c).Φ t.castSucc ∗ (dats m 0 c).owesAt () t.castSucc ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)) ∗ (∃ d, owns (c : Thread nD τ) ((cfg0.win 7).stage (cfg0.slots t 7)) fullShare ((dats m 0 c).before 7 t d)) ∗ (∃ d, owns (c : Thread nD τ) ((cfg0.win 8).stage (cfg0.slots t 8)) fullShare ((dats m 0 c).before 8 t d)) ∗ (∃ d, owns (c : Thread nD τ) ((cfg0.win 9).stage (cfg0.slots t 9)) fullShare ((dats m 0 c).before 9 t d)) ∗ (∃ d, owns (c : Thread nD τ) ((cfg0.win 10).stage (cfg0.slots t 10)) fullShare ((dats m 0 c).before 10 t d)) ∗ (∃ d, owns (c : Thread nD τ) ((cfg0.win 11).stage (cfg0.slots t 11)) fullShare ((dats m 0 c).before 11 t d)) ∗ (∃ d, owns (c : Thread nD τ) ((cfg0.win 12).stage (cfg0.slots t 12)) fullShare ((dats m 0 c).before 12 t d)) ∗ (∃ d, owns (c : Thread nD τ) ((cfg0.win 13).stage (cfg0.slots t 13)) fullShare ((dats m 0 c).before 13 t d)) ∗ (∃ d, owns (c : Thread nD τ) ((cfg0.win 14).stage (cfg0.slots t 14)) fullShare ((dats m 0 c).before 14 t d)) ∗ (∃ d, owns (c : Thread nD τ) ((cfg0.win 15).stage (cfg0.slots t 15)) fullShare ((dats m 0 c).before 15 t d)) ∗ (∃ d, owns (c : Thread nD τ) ((cfg0.win 16).stage (cfg0.slots t 16)) fullShare ((dats m 0 c).before 16 t d)) ∗ (∃ d, owns (c : Thread nD τ) ((cfg0.win 17).stage (cfg0.slots t 17)) fullShare ((dats m 0 c).before 17 t d)) ∗ (∃ d, owns (c : Thread nD τ) ((cfg0.win 18).stage (cfg0.slots t 18)) fullShare ((dats m 0 c).before 18 t d)) ∗ (∃ Y, ⌜((dats m 0 c).toRRel fgt (Rl m c)).Finds 19 t Y⌝ ∗ owns (c : Thread nD τ) ((cfg0.win 19).stage (cfg0.slots t 19)) fullShare Y))
def bodyPost (c : Dev nD) (t : Fin cfg0.N) : sProp 𝕄 :=
  iprop((dats m 0 c).Φ t.succ ∗ (dats m 0 c).owesAt () t.succ ∗ owns (c : Thread nD τ) ((cfg0.win 0).stage (cfg0.slots t 0)) fullShare (iblk m c 0 t) ∗ owns (c : Thread nD τ) ((cfg0.win 1).stage (cfg0.slots t 1)) fullShare (iblk m c 1 t) ∗ owns (c : Thread nD τ) ((cfg0.win 2).stage (cfg0.slots t 2)) fullShare (iblk m c 2 t) ∗ owns (c : Thread nD τ) ((cfg0.win 3).stage (cfg0.slots t 3)) fullShare (iblk m c 3 t) ∗ owns (c : Thread nD τ) ((cfg0.win 4).stage (cfg0.slots t 4)) fullShare (iblk m c 4 t) ∗ owns (c : Thread nD τ) ((cfg0.win 5).stage (cfg0.slots t 5)) fullShare (iblk m c 5 t) ∗ owns (c : Thread nD τ) ((cfg0.win 6).stage (cfg0.slots t 6)) fullShare (iblk m c 6 t) ∗ owns (c : Thread nD τ) ((cfg0.win 7).stage (cfg0.slots t 7)) fullShare (iblk m c 7 t) ∗ owns (c : Thread nD τ) ((cfg0.win 8).stage (cfg0.slots t 8)) fullShare (iblk m c 8 t) ∗ owns (c : Thread nD τ) ((cfg0.win 9).stage (cfg0.slots t 9)) fullShare (iblk m c 9 t) ∗ owns (c : Thread nD τ) ((cfg0.win 10).stage (cfg0.slots t 10)) fullShare (iblk m c 10 t) ∗ owns (c : Thread nD τ) ((cfg0.win 11).stage (cfg0.slots t 11)) fullShare (iblk m c 11 t) ∗ owns (c : Thread nD τ) ((cfg0.win 12).stage (cfg0.slots t 12)) fullShare (iblk m c 12 t) ∗ owns (c : Thread nD τ) ((cfg0.win 13).stage (cfg0.slots t 13)) fullShare (iblk m c 13 t) ∗ owns (c : Thread nD τ) ((cfg0.win 14).stage (cfg0.slots t 14)) fullShare (iblk m c 14 t) ∗ owns (c : Thread nD τ) ((cfg0.win 15).stage (cfg0.slots t 15)) fullShare (iblk m c 15 t) ∗ owns (c : Thread nD τ) ((cfg0.win 16).stage (cfg0.slots t 16)) fullShare (iblk m c 16 t) ∗ owns (c : Thread nD τ) ((cfg0.win 17).stage (cfg0.slots t 17)) fullShare (iblk m c 17 t) ∗ owns (c : Thread nD τ) ((cfg0.win 18).stage (cfg0.slots t 18)) fullShare (iblk m c 18 t) ∗ (∃ X, ⌜Rl m c 19 t X⌝ ∗ owns (c : Thread nD τ) ((cfg0.win 19).stage (cfg0.slots t 19)) fullShare X))

theorem step_A (c : Dev nD) (t : Fin cfg0.N) (h0 : k0_cond1 (grid0.coords t) = 1#1) (z : (Scalar.cmpi .ne (Scalar.extui (Scalar.cmpi .eq (BitVec.ofNat 32 ((grid0.coords t) 1).val) 0#32)) 0#32) = 1#1) (s : St F) : step m c t s = ⟨VecWindow.put s.a (k0_off1 (grid0.coords t)) S4096x512.size (W3 m c t), k0_pay2 (H3 m c t) (T3 m c t), s.e⟩ := by
  rw [step, dif_pos h0, if_pos z]

theorem step_B (c : Dev nD) (t : Fin cfg0.N) (h0 : k0_cond1 (grid0.coords t) = 1#1) (z : ¬ ((Scalar.cmpi .ne (Scalar.extui (Scalar.cmpi .eq (BitVec.ofNat 32 ((grid0.coords t) 1).val) 0#32)) 0#32) = 1#1)) (s : St F) : step m c t s = ⟨VecWindow.put s.a (k0_off1 (grid0.coords t)) S4096x512.size (W3 m c t), k0_pay3 (H3 m c t) (T3 m c t) s.b, s.e⟩ := by
  rw [step, dif_pos h0, if_neg z]

theorem step_C (c : Dev nD) (t : Fin cfg0.N) (h0 : ¬ (k0_cond1 (grid0.coords t) = 1#1)) (h1 : k0_cond4 (grid0.coords t) = 1#1) (z : (Scalar.cmpi .ne (Scalar.extui (Scalar.cmpi .eq (BitVec.ofNat 32 ((grid0.coords t) 1).val) 0#32)) 0#32) = 1#1) (s : St F) : step m c t s = ⟨VecWindow.put s.a (k0_off3 (grid0.coords t)) S4096x256.size (W4 m c t s.b (rd3 t h1 s.a)), s.b, k0_pay5 (H4 m c t s.b (rd3 t h1 s.a)) (T4 m c t s.b (rd3 t h1 s.a))⟩ := by
  rw [step, dif_neg h0, dif_pos h1, if_pos z]

theorem step_D (c : Dev nD) (t : Fin cfg0.N) (h0 : ¬ (k0_cond1 (grid0.coords t) = 1#1)) (h1 : k0_cond4 (grid0.coords t) = 1#1) (z : ¬ ((Scalar.cmpi .ne (Scalar.extui (Scalar.cmpi .eq (BitVec.ofNat 32 ((grid0.coords t) 1).val) 0#32)) 0#32) = 1#1)) (s : St F) : step m c t s = ⟨VecWindow.put s.a (k0_off3 (grid0.coords t)) S4096x256.size (W4 m c t s.b (rd3 t h1 s.a)), s.b, k0_pay6 (H4 m c t s.b (rd3 t h1 s.a)) (T4 m c t s.b (rd3 t h1 s.a)) s.e⟩ := by
  rw [step, dif_neg h0, dif_pos h1, if_neg z]

theorem step_E (c : Dev nD) (t : Fin cfg0.N) (h0 : ¬ (k0_cond1 (grid0.coords t) = 1#1)) (h1 : ¬ (k0_cond4 (grid0.coords t) = 1#1)) (s : St F) : step m c t s = s := by
  rw [step, dif_neg h0, dif_neg h1]

set_option maxHeartbeats 1000000 in
/-- The body at a point of phase 0, first row block. -/
theorem sound_A (c : Dev nD) (t : Fin cfg0.N) (hp : t.val / 4 = 0) (hj : t.val % 4 = 0) :
    bodyPre m c t ⊢ wp frame (wpE (defs₀ (F := F)) Variants.none c none) Set.univ (bodyAt0 t) (fun _ => bodyPost m c t) := by
  have h0 := (cond1_iff t).mpr hp
  have h1 := mt (cond4_iff t).mp (by omega)
  have h2 := mt (cond7_iff t).mp (by omega)
  have z := (first_iff t).mpr hj
  have nz := mt (later_iff t).mp (by omega)
  have hs : ∀ d, stAt m c d (t.val + 1) = _ := fun d => (stAt_succ m c d t).trans (step_A m c t h0 z _)
  unfold bodyPre bodyPost bodyAt0
  simp only [before_0, before_1, before_2, before_3, before_4, before_5, before_6, before_7, before_8, before_9, before_10, before_11, before_12, before_13, before_14, before_15, before_16, before_17, before_18]
  rw [show (dats m 0 c).owesAt () t.succ = (dats m 0 c).owesAt () t.castSucc from rfl,
    show (dats m 0 c).Φ t.castSucc = Inv m c t.val from rfl, show (dats m 0 c).Φ t.succ = Inv m c (t.val + 1) from rfl]
  unfold Inv
  iintro ⟨⟨⟨%d, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%Y, %hY, H19⟩⟩
  iapply (runA c (grid0.coords t) _ _ _ _ _ _ _ _ _ _ _ _ _ _ _ _ _ _ _ _ _ _ _ _ _ _ _ _ _ _ _ _ _ _ _ _ _ _ _ _ _ _ _ _ _ _ h0 h1 h2 z nz _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 HS2 Hg]
  · isplitl [HS0 HS1 HS2]
    · iexists d
      rw [hs d]
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexists Y; isplitr; swap; · iexact H19
  ipureintro; intro h; exact absurd h h2

set_option maxHeartbeats 1000000 in
/-- The body at a point of phase 0, a later row block. -/
theorem sound_B (c : Dev nD) (t : Fin cfg0.N) (hp : t.val / 4 = 0) (hj : t.val % 4 ≠ 0) :
    bodyPre m c t ⊢ wp frame (wpE (defs₀ (F := F)) Variants.none c none) Set.univ (bodyAt0 t) (fun _ => bodyPost m c t) := by
  have h0 := (cond1_iff t).mpr hp
  have h1 := mt (cond4_iff t).mp (by omega)
  have h2 := mt (cond7_iff t).mp (by omega)
  have z := mt (first_iff t).mp hj
  have nz := (later_iff t).mpr hj
  have hs : ∀ d, stAt m c d (t.val + 1) = _ := fun d => (stAt_succ m c d t).trans (step_B m c t h0 z _)
  unfold bodyPre bodyPost bodyAt0
  simp only [before_0, before_1, before_2, before_3, before_4, before_5, before_6, before_7, before_8, before_9, before_10, before_11, before_12, before_13, before_14, before_15, before_16, before_17, before_18]
  rw [show (dats m 0 c).owesAt () t.succ = (dats m 0 c).owesAt () t.castSucc from rfl,
    show (dats m 0 c).Φ t.castSucc = Inv m c t.val from rfl, show (dats m 0 c).Φ t.succ = Inv m c (t.val + 1) from rfl]
  unfold Inv
  iintro ⟨⟨⟨%d, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%Y, %hY, H19⟩⟩
  iapply (runB c (grid0.coords t) _ _ _ _ _ _ _ _ _ _ _ _ _ _ _ _ _ _ _ _ _ _ _ _ _ _ _ _ _ _ _ _ _ _ _ _ _ _ _ _ _ _ _ _ _ _ h0 h1 h2 z nz _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 HS2 Hg]
  · isplitl [HS0 HS1 HS2]
    · iexists d
      rw [hs d]
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexists Y; isplitr; swap; · iexact H19
  ipureintro; intro h; exact absurd h h2

set_option maxHeartbeats 1000000 in
/-- The body at a point of phase 1, first row block. -/
theorem sound_C (c : Dev nD) (t : Fin cfg0.N) (hp : t.val / 4 = 1) (hj : t.val % 4 = 0) :
    bodyPre m c t ⊢ wp frame (wpE (defs₀ (F := F)) Variants.none c none) Set.univ (bodyAt0 t) (fun _ => bodyPost m c t) := by
  have h0 := mt (cond1_iff t).mp (by omega)
  have h1 := (cond4_iff t).mpr hp
  have h2 := mt (cond7_iff t).mp (by omega)
  have z := (first_iff t).mpr hj
  have nz := mt (later_iff t).mp (by omega)
  have hs : ∀ d, stAt m c d (t.val + 1) = _ := fun d => (stAt_succ m c d t).trans (step_C m c t h0 h1 z _)
  unfold bodyPre bodyPost bodyAt0
  simp only [before_0, before_1, before_2, before_3, before_4, before_5, before_6, before_7, before_8, before_9, before_10, before_11, before_12, before_13, before_14, before_15, before_16, before_17, before_18]
  rw [show (dats m 0 c).owesAt () t.succ = (dats m 0 c).owesAt () t.castSucc from rfl,
    show (dats m 0 c).Φ t.castSucc = Inv m c t.val from rfl, show (dats m 0 c).Φ t.succ = Inv m c (t.val + 1) from rfl]
  unfold Inv
  iintro ⟨⟨⟨%d, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%Y, %hY, H19⟩⟩
  iapply (runC c (grid0.coords t) _ _ _ _ _ _ _ _ _ _ _ _ _ _ _ _ _ _ _ _ _ _ _ _ _ _ _ _ _ _ _ _ _ _ _ _ _ _ _ _ _ _ _ _ _ _ h0 h1 h2 z nz _ _ _ _ _ _ _ Set.univ _)
  isplitl [H8]; · iexact H8
  isplitl [H9]; · iexact H9
  isplitl [H10]; · iexact H10
  isplitl [H11]; · iexact H11
  isplitl [HS1]; · iexact HS1
  isplitl [HS0]; · iexact HS0
  isplitl [HS2]; · iexact HS2
  iintro ⟨H8, H9, H10, H11, HS1, HS0, HS2⟩
  isplitl [HS0 HS1 HS2 Hg]
  · isplitl [HS0 HS1 HS2]
    · iexists d
      rw [hs d]
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexists Y; isplitr; swap; · iexact H19
  ipureintro; intro h; exact absurd h h2

set_option maxHeartbeats 1000000 in
/-- The body at a point of phase 1, a later row block. -/
theorem sound_D (c : Dev nD) (t : Fin cfg0.N) (hp : t.val / 4 = 1) (hj : t.val % 4 ≠ 0) :
    bodyPre m c t ⊢ wp frame (wpE (defs₀ (F := F)) Variants.none c none) Set.univ (bodyAt0 t) (fun _ => bodyPost m c t) := by
  have h0 := mt (cond1_iff t).mp (by omega)
  have h1 := (cond4_iff t).mpr hp
  have h2 := mt (cond7_iff t).mp (by omega)
  have z := mt (first_iff t).mp hj
  have nz := (later_iff t).mpr hj
  have hs : ∀ d, stAt m c d (t.val + 1) = _ := fun d => (stAt_succ m c d t).trans (step_D m c t h0 h1 z _)
  unfold bodyPre bodyPost bodyAt0
  simp only [before_0, before_1, before_2, before_3, before_4, before_5, before_6, before_7, before_8, before_9, before_10, before_11, before_12, before_13, before_14, before_15, before_16, before_17, before_18]
  rw [show (dats m 0 c).owesAt () t.succ = (dats m 0 c).owesAt () t.castSucc from rfl,
    show (dats m 0 c).Φ t.castSucc = Inv m c t.val from rfl, show (dats m 0 c).Φ t.succ = Inv m c (t.val + 1) from rfl]
  unfold Inv
  iintro ⟨⟨⟨%d, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%Y, %hY, H19⟩⟩
  iapply (runD c (grid0.coords t) _ _ _ _ _ _ _ _ _ _ _ _ _ _ _ _ _ _ _ _ _ _ _ _ _ _ _ _ _ _ _ _ _ _ _ _ _ _ _ _ _ _ _ _ _ _ h0 h1 h2 z nz _ _ _ _ _ _ _ Set.univ _)
  isplitl [H8]; · iexact H8
  isplitl [H9]; · iexact H9
  isplitl [H10]; · iexact H10
  isplitl [H11]; · iexact H11
  isplitl [HS1]; · iexact HS1
  isplitl [HS0]; · iexact HS0
  isplitl [HS2]; · iexact HS2
  iintro ⟨H8, H9, H10, H11, HS1, HS0, HS2⟩
  isplitl [HS0 HS1 HS2 Hg]
  · isplitl [HS0 HS1 HS2]
    · iexists d
      rw [hs d]
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexists Y; isplitr; swap; · iexact H19
  ipureintro; intro h; exact absurd h h2

set_option maxHeartbeats 1000000 in
/-- The body at a point of phase 2. -/
theorem sound_E (c : Dev nD) (t : Fin cfg0.N) (hp : t.val / 4 = 2) :
    bodyPre m c t ⊢ wp frame (wpE (defs₀ (F := F)) Variants.none c none) Set.univ (bodyAt0 t) (fun _ => bodyPost m c t) := by
  have h0 := mt (cond1_iff t).mp (by omega)
  have h1 := mt (cond4_iff t).mp (by omega)
  have h2 := (cond7_iff t).mpr hp
  have hs : ∀ d, stAt m c d (t.val + 1) = _ := fun d => (stAt_succ m c d t).trans (step_E m c t h0 h1 _)
  unfold bodyPre bodyPost bodyAt0
  simp only [before_0, before_1, before_2, before_3, before_4, before_5, before_6, before_7, before_8, before_9, before_10, before_11, before_12, before_13, before_14, before_15, before_16, before_17, before_18]
  rw [show (dats m 0 c).owesAt () t.succ = (dats m 0 c).owesAt () t.castSucc from rfl,
    show (dats m 0 c).Φ t.castSucc = Inv m c t.val from rfl, show (dats m 0 c).Φ t.succ = Inv m c (t.val + 1) from rfl]
  unfold Inv
  iintro ⟨⟨⟨%d, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%Y, %hY, H19⟩⟩
  iapply (runE c (grid0.coords t) _ _ _ _ _ _ _ _ _ _ _ _ _ _ _ _ _ _ _ _ _ _ _ _ _ _ _ _ _ _ _ _ _ _ _ _ _ _ _ _ _ _ _ _ _ _ h0 h1 h2 _ _ _ _ _ _ _ _ _ _ Set.univ _)
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [HS0]; · iexact HS0
  isplitl [HS2]; · iexact HS2
  isplitl [H19]; · iexact H19
  iintro ⟨H12, H13, H14, H15, H16, H17, H18, HS0, HS2, H19⟩
  isplitl [HS0 HS1 HS2 Hg]
  · isplitl [HS0 HS1 HS2]
    · iexists d
      rw [hs d]
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexists _; isplitr; swap; · iexact H19
  ipureintro; intro h; exact ⟨d, rfl⟩

/-- The body at every point. -/
theorem sound_body (c : Dev nD) (t : Fin cfg0.N) :
    bodyPre m c t ⊢ wp frame (wpE (defs₀ (F := F)) Variants.none c none) Set.univ (bodyAt0 t) (fun _ => bodyPost m c t) := by
  have h := lt12 t
  rcases (by omega : t.val / 4 = 0 ∨ t.val / 4 = 1 ∨ t.val / 4 = 2) with e | e | e
  · by_cases z : t.val % 4 = 0
    · exact sound_A m c t e z
    · exact sound_B m c t e z
  · by_cases z : t.val % 4 = 0
    · exact sound_C m c t e z
    · exact sound_D m c t e z
  · exact sound_E m c t e

theorem defs_row (t : Fin cfg0.N) : defs₀ (F := F) .tc cfg0.body (cfg0.bodyArgs t (cfg0.slots t)) = bodyAt0 t := by
  unfold defs₀; rw [Defs.onTc_tc]

/-- What the body leaves, window by window. -/
def left (c : Dev nD) (t : Fin cfg0.N) (w : Fin cfg0.W) : sProp 𝕄 :=
  match fgt w with
  | true => iprop(∃ X, ⌜Rl m c w t X⌝ ∗ owns (c : Thread nD τ) ((cfg0.win w).stage (cfg0.slots t w)) fullShare X)
  | false => (dats m 0 c).leavesExact w t

theorem body_post (c : Dev nD) (t : Fin cfg0.N) : bodyPost m c t
    ⊢ iprop((dats m 0 c).Φ t.succ ∗ (dats m 0 c).owesAt () t.succ ∗ bigSep Finset.univ (left m c t)) := by
  rw [bigSep_W0]
  rw [show left m c t 0 = owns (c : Thread nD τ) ((cfg0.win 0).stage (cfg0.slots t 0)) fullShare (iblk m c 0 t) from (by show (dats m 0 c).leavesExact 0 t = _; unfold Dat.leavesExact; rw [show cfg0.idle 0 (cfg0.grid.coords t) = false from rfl, after_0])]
  rw [show left m c t 1 = owns (c : Thread nD τ) ((cfg0.win 1).stage (cfg0.slots t 1)) fullShare (iblk m c 1 t) from (by show (dats m 0 c).leavesExact 1 t = _; unfold Dat.leavesExact; rw [show cfg0.idle 1 (cfg0.grid.coords t) = false from rfl, after_1])]
  rw [show left m c t 2 = owns (c : Thread nD τ) ((cfg0.win 2).stage (cfg0.slots t 2)) fullShare (iblk m c 2 t) from (by show (dats m 0 c).leavesExact 2 t = _; unfold Dat.leavesExact; rw [show cfg0.idle 2 (cfg0.grid.coords t) = false from rfl, after_2])]
  rw [show left m c t 3 = owns (c : Thread nD τ) ((cfg0.win 3).stage (cfg0.slots t 3)) fullShare (iblk m c 3 t) from (by show (dats m 0 c).leavesExact 3 t = _; unfold Dat.leavesExact; rw [show cfg0.idle 3 (cfg0.grid.coords t) = false from rfl, after_3])]
  rw [show left m c t 4 = owns (c : Thread nD τ) ((cfg0.win 4).stage (cfg0.slots t 4)) fullShare (iblk m c 4 t) from (by show (dats m 0 c).leavesExact 4 t = _; unfold Dat.leavesExact; rw [show cfg0.idle 4 (cfg0.grid.coords t) = false from rfl, after_4])]
  rw [show left m c t 5 = owns (c : Thread nD τ) ((cfg0.win 5).stage (cfg0.slots t 5)) fullShare (iblk m c 5 t) from (by show (dats m 0 c).leavesExact 5 t = _; unfold Dat.leavesExact; rw [show cfg0.idle 5 (cfg0.grid.coords t) = false from rfl, after_5])]
  rw [show left m c t 6 = owns (c : Thread nD τ) ((cfg0.win 6).stage (cfg0.slots t 6)) fullShare (iblk m c 6 t) from (by show (dats m 0 c).leavesExact 6 t = _; unfold Dat.leavesExact; rw [show cfg0.idle 6 (cfg0.grid.coords t) = false from rfl, after_6])]
  rw [show left m c t 7 = owns (c : Thread nD τ) ((cfg0.win 7).stage (cfg0.slots t 7)) fullShare (iblk m c 7 t) from (by show (dats m 0 c).leavesExact 7 t = _; unfold Dat.leavesExact; rw [show cfg0.idle 7 (cfg0.grid.coords t) = false from rfl, after_7])]
  rw [show left m c t 8 = owns (c : Thread nD τ) ((cfg0.win 8).stage (cfg0.slots t 8)) fullShare (iblk m c 8 t) from (by show (dats m 0 c).leavesExact 8 t = _; unfold Dat.leavesExact; rw [show cfg0.idle 8 (cfg0.grid.coords t) = false from rfl, after_8])]
  rw [show left m c t 9 = owns (c : Thread nD τ) ((cfg0.win 9).stage (cfg0.slots t 9)) fullShare (iblk m c 9 t) from (by show (dats m 0 c).leavesExact 9 t = _; unfold Dat.leavesExact; rw [show cfg0.idle 9 (cfg0.grid.coords t) = false from rfl, after_9])]
  rw [show left m c t 10 = owns (c : Thread nD τ) ((cfg0.win 10).stage (cfg0.slots t 10)) fullShare (iblk m c 10 t) from (by show (dats m 0 c).leavesExact 10 t = _; unfold Dat.leavesExact; rw [show cfg0.idle 10 (cfg0.grid.coords t) = false from rfl, after_10])]
  rw [show left m c t 11 = owns (c : Thread nD τ) ((cfg0.win 11).stage (cfg0.slots t 11)) fullShare (iblk m c 11 t) from (by show (dats m 0 c).leavesExact 11 t = _; unfold Dat.leavesExact; rw [show cfg0.idle 11 (cfg0.grid.coords t) = false from rfl, after_11])]
  rw [show left m c t 12 = owns (c : Thread nD τ) ((cfg0.win 12).stage (cfg0.slots t 12)) fullShare (iblk m c 12 t) from (by show (dats m 0 c).leavesExact 12 t = _; unfold Dat.leavesExact; rw [show cfg0.idle 12 (cfg0.grid.coords t) = false from rfl, after_12])]
  rw [show left m c t 13 = owns (c : Thread nD τ) ((cfg0.win 13).stage (cfg0.slots t 13)) fullShare (iblk m c 13 t) from (by show (dats m 0 c).leavesExact 13 t = _; unfold Dat.leavesExact; rw [show cfg0.idle 13 (cfg0.grid.coords t) = false from rfl, after_13])]
  rw [show left m c t 14 = owns (c : Thread nD τ) ((cfg0.win 14).stage (cfg0.slots t 14)) fullShare (iblk m c 14 t) from (by show (dats m 0 c).leavesExact 14 t = _; unfold Dat.leavesExact; rw [show cfg0.idle 14 (cfg0.grid.coords t) = false from rfl, after_14])]
  rw [show left m c t 15 = owns (c : Thread nD τ) ((cfg0.win 15).stage (cfg0.slots t 15)) fullShare (iblk m c 15 t) from (by show (dats m 0 c).leavesExact 15 t = _; unfold Dat.leavesExact; rw [show cfg0.idle 15 (cfg0.grid.coords t) = false from rfl, after_15])]
  rw [show left m c t 16 = owns (c : Thread nD τ) ((cfg0.win 16).stage (cfg0.slots t 16)) fullShare (iblk m c 16 t) from (by show (dats m 0 c).leavesExact 16 t = _; unfold Dat.leavesExact; rw [show cfg0.idle 16 (cfg0.grid.coords t) = false from rfl, after_16])]
  rw [show left m c t 17 = owns (c : Thread nD τ) ((cfg0.win 17).stage (cfg0.slots t 17)) fullShare (iblk m c 17 t) from (by show (dats m 0 c).leavesExact 17 t = _; unfold Dat.leavesExact; rw [show cfg0.idle 17 (cfg0.grid.coords t) = false from rfl, after_17])]
  rw [show left m c t 18 = owns (c : Thread nD τ) ((cfg0.win 18).stage (cfg0.slots t 18)) fullShare (iblk m c 18 t) from (by show (dats m 0 c).leavesExact 18 t = _; unfold Dat.leavesExact; rw [show cfg0.idle 18 (cfg0.grid.coords t) = false from rfl, after_18])]
  exact .rfl

theorem obligation (c : Dev nD) : Pipeline.BodyObligationRel (dats (F := F) m 0 c) (defs₀ (F := F)) Variants.none () Set.univ fgt (Rl m c) := fun t =>
  Idealize.SL.BI.Entails.trans (by
    rw [bigSep_W0, defs_row]
    exact triple_restated (sound_body m c t) rfl .rfl fun _ => body_post m c t)
  (wp_mono _ _ _ fun _ => sep_mono .rfl (sep_mono .rfl (Idealize.SL.BI.bigSep_mono fun w _ =>
    show left m c t w ⊢ (match fgt w with
        | true => iprop(∃ X, ⌜Rl m c w t X⌝ ∗ owns (c : Thread nD τ) ((cfg0.win w).stage (cfg0.slots t w)) fullShare X)
        | false => (dats m 0 c).leaves w t : sProp 𝕄) from by
    unfold left
    cases fgt w
    · exact (dats m 0 c).leaves_intro w t
    · exact .rfl)))

theorem rest_eq (c : Dev nD) : (Pipeline.ΦA spec0 c : sProp 𝕄)
    = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem start (c : Dev nD) : Pipeline.ΦA spec0 c ⊢ (dats m 0 c).Φ 0 := by
  rw [rest_eq, show (dats m 0 c).Φ 0 = Inv m c 0 from rfl]
  unfold Inv
  iintro ⟨⟨⟨%d0, H0⟩, ⟨%d1, H1⟩, ⟨%d2, H2⟩⟩, Hg⟩
  isplitl [H0 H1 H2]
  · iexists (⟨d0, d1, d2⟩ : St F)
    isplitl [H0]; · iexact H0
    isplitl [H1]; · iexact H1
    iexact H2
  iexact Hg

theorem finish (c : Dev nD) : (dats m 0 c).Φ (Fin.last cfg0.N) ⊢ Pipeline.ΦA spec0 c := by
  rw [rest_eq, show (dats m 0 c).Φ (Fin.last cfg0.N) = Inv m c cfg0.N from rfl]
  unfold Inv
  iintro ⟨⟨%d, H0, H1, H2⟩, Hg⟩
  isplitl [H0 H1 H2]
  · isplitl [H0]; · iexists _; iexact H0
    isplitl [H1]; · iexists _; iexact H1
    iexists _; iexact H2
  iexact Hg

/-- The data of the run: exact for the inputs, `Rl` for the output. -/
def rdat (c : Dev nD) : RDat τ (Elt F) Unit ℕ (UR sig nD τ) ℕ cfg0 c := (dats m 0 c).toRRel fgt (Rl m c)

set_option backward.isDefEq.respectTransparency.types false in
/-- The run of the whole program. -/
theorem run_main : θ_run defs (onTc (τ := τ) (main (F := F))) (s₀ m ρ) (fun r => RDat.FramePost cfg0 (rdat m) (V m) r ∧ r.2.sem = fun _ => 0) :=
  Pipeline.RDat.θ_run_frame_track (Q' := _) cfgs (0 : Fin 1) launch0 defs₀ Variants.none (rdat m) m ρ main
    (hbody := fun c => (obligation m c).toRRel) (hshare := fun c => (dats m 0 c).share_full fun _ => rfl)
    (howed := fun _ _ => rfl) (V := V m) (hmain := hmain m Variants.none) (hA := A_eq m) (hin := start m) (hout := finish m)

/-- The arguments come back unchanged. -/
theorem args_of (r : PUnit × MemSt nD τ sig (Elt F)) (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨(RDat.FramePost.arr_in h c 0 rfl).trans ((A_eq m c 0).trans (V_main_arg0 m c)),
    (RDat.FramePost.arr_in h c 1 rfl).trans ((A_eq m c 1).trans (V_main_arg1 m c)),
    (RDat.FramePost.arr_in h c 2 rfl).trans ((A_eq m c 2).trans (V_main_arg2 m c)),
    ((h c).2 main_arg3 (Pipeline.mem_restRefs_of main_arg3 (by decide) (by decide))).trans (V_main_arg3 m c),
    (RDat.FramePost.arr_in h c 4 rfl).trans ((A_eq m c 4).trans (V_main_arg4 m c)),
    ((h c).2 main_arg5 (Pipeline.mem_restRefs_of main_arg5 (by decide) (by decide))).trans (V_main_arg5 m c),
    (RDat.FramePost.arr_in h c 6 rfl).trans ((A_eq m c 6).trans (V_main_arg6 m c)),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    (RDat.FramePost.arr_in h c 10 rfl).trans ((A_eq m c 10).trans (V_main_arg10 m c)),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    (RDat.FramePost.arr_in h c 14 rfl).trans ((A_eq m c 14).trans (V_main_arg14 m c)),
    ((h c).2 main_arg15 (Pipeline.mem_restRefs_of main_arg15 (by decide) (by decide))).trans (V_main_arg15 m c),
    (RDat.FramePost.arr_in h c 16 rfl).trans ((A_eq m c 16).trans (V_main_arg16 m c)),
    ((h c).2 main_arg17 (Pipeline.mem_restRefs_of main_arg17 (by decide) (by decide))).trans (V_main_arg17 m c),
    ((h c).2 main_arg18 (Pipeline.mem_restRefs_of main_arg18 (by decide) (by decide))).trans (V_main_arg18 m c)⟩

/-- The frame. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
    ∧ r.2.sem = fun _ => 0) :=
  (θ_run defs _ _).mono (fun r h => ⟨args_of m r h.1, h.2⟩) (run_main m ρ)

end Cert.KernelIdeal.Hand

end
-- ==== Proof.Model.lean ====
module

public import Idealize.ShloMosaic.PureOps
public import Idealize.ShloMosaic.PureOps.Ideal
public import Idealize.ShloMosaic.PureOps.Ideal.Laws

/-!
The mathematics both programs compute, over the real numbers, and the readings of the extended
reals' operations at real arguments.
-/

@[expose] public section
noncomputable section
namespace Cert.Mo
open Idealize.ShloMosaic
open scoped BigOperators

/-! ## The constants -/

/-- The slope of the leaky rectifier below zero. -/
def c02 : ℝ := 13421773 / 67108864
/-- What is added to a variance. -/
def cEps : ℝ := 10995116 / 2 ^ 40
/-- The least total weight. -/
def c10 : ℝ := 14411519 / 2 ^ 57
/-- What is added to a share. -/
def c12 : ℝ := 9223372 / 2 ^ 63

theorem c02_pos : 0 < c02 := by unfold c02; norm_num
theorem c02_le : c02 ≤ 1 := by unfold c02; norm_num
theorem cEps_pos : 0 < cEps := by unfold cEps; norm_num
theorem c10_pos : 0 < c10 := by unfold c10; norm_num
theorem c12_pos : 0 < c12 := by unfold c12; norm_num

theorem k02 : Ideal.ofBits .f32 1045220557#32 = ((c02 : ℝ) : EReal) := by
  simp [Ideal.ofBits, Ideal.ieee, c02, -EReal.coe_mul]; norm_num
theorem kEps : Ideal.ofBits .f32 925353388#32 = ((cEps : ℝ) : EReal) := by
  simp [Ideal.ofBits, Ideal.ieee, cEps, -EReal.coe_mul]; norm_num
theorem k10 : Ideal.ofBits .f32 786163455#32 = ((c10 : ℝ) : EReal) := by
  simp [Ideal.ofBits, Ideal.ieee, c10, -EReal.coe_mul]; norm_num
theorem k12 : Ideal.ofBits .f32 730643660#32 = ((c12 : ℝ) : EReal) := by
  simp [Ideal.ofBits, Ideal.ieee, c12, -EReal.coe_mul]; norm_num
theorem kB : Ideal.ofBits .f32 1182793728#32 = ((16384 : ℝ) : EReal) := by
  simp [Ideal.ofBits, Ideal.ieee, -EReal.coe_mul]; norm_num
theorem kBi : Ideal.ofBits .f32 947912704#32 = ((1 / 16384 : ℝ) : EReal) := by
  simp [Ideal.ofBits, Ideal.ieee, -EReal.coe_mul]; norm_num
theorem kBot : Ideal.ofBits .f32 4286578688#32 = ⊥ := by
  simp [Ideal.ofBits, Ideal.ieee]

/-! ## The operations at real arguments -/

theorem e_sum {ι : Type} (s : Finset ι) (f : ι → ℝ) : ∑ i ∈ s, (f i : EReal) = ((∑ i ∈ s, f i : ℝ) : EReal) := by
  induction s using Finset.cons_induction with
  | empty => simp
  | cons a S ha ih => rw [Finset.sum_cons, Finset.sum_cons, ih, EReal.coe_add]
theorem e_div (a b : ℝ) (h : b ≠ 0) : Ideal.div (a : EReal) (b : EReal) = ((a / b : ℝ) : EReal) := by
  rw [Ideal.div_coe h, ← EReal.coe_mul, mul_one_div]
theorem e_max (a b : ℝ) : max (a : EReal) (b : EReal) = ((max a b : ℝ) : EReal) :=
  (EReal.coe_strictMono.monotone.map_max).symm
theorem e_sqrt (a : ℝ) (h : 0 ≤ a) : Ideal.sqrt (a : EReal) = ((Real.sqrt a : ℝ) : EReal) := by
  rw [Ideal.sqrt_coe, if_neg (not_lt.mpr h)]
theorem e_log (a : ℝ) (h : 0 < a) : Ideal.log (a : EReal) = ((Real.log a : ℝ) : EReal) := by
  rw [Ideal.log_coe, if_neg (not_le.mpr h)]
theorem e_exp (a : ℝ) : Ideal.exp (a : EReal) = ((Real.exp a : ℝ) : EReal) := rfl
theorem e_div_one (a : ℝ) : Ideal.div (a : EReal) 1 = (a : EReal) := by
  have := e_div a 1 one_ne_zero
  rwa [div_one] at this

/-- The leaky rectifier. -/
def lr (x : ℝ) : ℝ := if 0 ≤ x then x else c02 * x
theorem lr_ite (r : ℝ) : (if 0 ≤ (r : EReal) then (r : EReal) else Ideal.ofBits .f32 1045220557#32 * (r : EReal)) = ((lr r : ℝ) : EReal) := by
  rw [k02, lr]
  by_cases h : 0 ≤ r
  · rw [if_pos h, if_pos (EReal.coe_nonneg.mpr h)]
  · rw [if_neg h, if_neg (fun h' => h (EReal.coe_nonneg.mp h')), EReal.coe_mul]
theorem lr_max (r : ℝ) : max (r : EReal) (Ideal.ofBits .f32 1045220557#32 * (r : EReal)) = ((lr r : ℝ) : EReal) := by
  rw [k02, ← EReal.coe_mul, e_max, lr]
  congr 1
  have h1 := c02_pos; have h2 := c02_le
  by_cases h : 0 ≤ r
  · rw [if_pos h]; exact max_eq_left (by nlinarith)
  · rw [if_neg h]; exact max_eq_right (by nlinarith)

/-! ## Means and variances down the rows -/

/-- The mean of the rows' values. -/
def mean (x : ℕ → ℝ) : ℝ := (∑ a ∈ Finset.range 16384, x a) / 16384
/-- Their variance. -/
def var (x : ℕ → ℝ) : ℝ := (∑ a ∈ Finset.range 16384, (x a - mean x) ^ 2) / 16384
theorem var_nonneg (x : ℕ → ℝ) : 0 ≤ var x := div_nonneg (Finset.sum_nonneg fun _ _ => sq_nonneg _) (by norm_num)
theorem var_eps_pos (x : ℕ → ℝ) : 0 < var x + cEps := add_pos_of_nonneg_of_pos (var_nonneg x) cEps_pos
/-- The variance is the mean of the squares less the square of the mean. -/
theorem var_eq (x : ℕ → ℝ) : (∑ a ∈ Finset.range 16384, x a * x a) * (1 / 16384) - mean x * mean x = var x := by
  have h : ∑ a ∈ Finset.range 16384, (x a - mean x) ^ 2
      = (∑ a ∈ Finset.range 16384, x a * x a) - 2 * mean x * (∑ a ∈ Finset.range 16384, x a) + 16384 * mean x ^ 2 := by
    rw [Finset.mul_sum, ← Finset.sum_sub_distrib]
    have : (16384 : ℝ) * mean x ^ 2 = ∑ _a ∈ Finset.range 16384, mean x ^ 2 := by simp
    rw [this, ← Finset.sum_add_distrib]
    exact Finset.sum_congr rfl fun a _ => by ring
  have hs : (∑ a ∈ Finset.range 16384, x a) = 16384 * mean x := by unfold mean; ring
  rw [var, h, hs]; ring
/-- A column scaled to mean zero and variance one, then by `g` and `b`. -/
def nrm (x : ℕ → ℝ) (g b : ℝ) (a : ℕ) : ℝ := g * (x a - mean x) / Real.sqrt (var x + cEps) + b
theorem sqrt_ne (x : ℕ → ℝ) : Real.sqrt (var x + cEps) ≠ 0 := (Real.sqrt_pos.mpr (var_eps_pos x)).ne'

/-! ## The network -/

/-- The network's inputs. -/
structure In where
  x0 : ℕ → Fin 128 → ℝ
  x1 : ℕ → Fin 99 → ℝ
  w1 : Fin 99 → Fin 128 → ℝ
  b1 : Fin 128 → ℝ
  w2 : Fin 128 → Fin 128 → ℝ
  b2 : Fin 128 → ℝ
  w3 : Fin 256 → Fin 512 → ℝ
  b3 : Fin 512 → ℝ
  g3 : Fin 512 → ℝ
  e3 : Fin 512 → ℝ
  w4 : Fin 512 → Fin 256 → ℝ
  b4 : Fin 256 → ℝ
  g4 : Fin 256 → ℝ
  e4 : Fin 256 → ℝ
  w5 : Fin 256 → Fin 128 → ℝ
  b5 : Fin 128 → ℝ
  w6 : Fin 128 → Fin 33 → ℝ
  b6 : Fin 33 → ℝ
  ns : ℕ → ℕ → Fin 33 → ℝ

/-- One output of a linear layer. -/
def lin {n k : ℕ} (x : Fin n → ℝ) (w : Fin n → Fin k → ℝ) (b : Fin k → ℝ) (j : Fin k) : ℝ := ∑ i, x i * w i j + b j

variable (I : In)
def h1 (a : ℕ) (j : Fin 128) : ℝ := lr (lin (I.x1 a) I.w1 I.b1 j)
def h2 (a : ℕ) (j : Fin 128) : ℝ := lr (lin (h1 I a) I.w2 I.b2 j)
def h3 (a : ℕ) (j : Fin 512) : ℝ :=
  lr (∑ i : Fin 128, I.x0 a i * I.w3 ⟨i.val, by have := i.isLt; omega⟩ j + ∑ i : Fin 128, h2 I a i * I.w3 ⟨128 + i.val, by have := i.isLt; omega⟩ j + I.b3 j)
def n3 (a : ℕ) (j : Fin 512) : ℝ := nrm (fun a => h3 I a j) (I.g3 j) (I.e3 j) a
def h4 (a : ℕ) (j : Fin 256) : ℝ := lr (lin (n3 I a) I.w4 I.b4 j)
def n4 (a : ℕ) (j : Fin 256) : ℝ := nrm (fun a => h4 I a j) (I.g4 j) (I.e4 j) a
def h5 (a : ℕ) (j : Fin 128) : ℝ := lr (lin (n4 I a) I.w5 I.b5 j)
def lgt (a : ℕ) (k : Fin 33) : ℝ := lin (h5 I a) I.w6 I.b6 k

/-! ## The first greatest -/

/-- `k` is the first place of the greatest value. -/
def IsFirst (t : Fin 33 → ℝ) (k : Fin 33) : Prop := (∀ j, t j ≤ t k) ∧ ∀ j, j < k → t j < t k
theorem exists_first (t : Fin 33 → ℝ) : ∃ k, IsFirst t k := by
  obtain ⟨m, -, hm⟩ := Finset.exists_max_image Finset.univ t ⟨0, Finset.mem_univ _⟩
  have hne : (Finset.univ.filter fun k => ∀ j, t j ≤ t k).Nonempty := ⟨m, by simp; exact fun j => hm j (Finset.mem_univ _)⟩
  refine ⟨Finset.min' _ hne, ?_, ?_⟩
  · have := Finset.min'_mem _ hne
    rw [Finset.mem_filter] at this
    exact this.2
  · intro j hj
    have hk := Finset.min'_mem _ hne
    rw [Finset.mem_filter] at hk
    refine lt_of_le_of_ne (hk.2 j) fun he => ?_
    have : Finset.min' _ hne ≤ j := Finset.min'_le _ _ (by
      rw [Finset.mem_filter]; exact ⟨Finset.mem_univ _, fun i => (hk.2 i).trans he.ge⟩)
    exact absurd hj (not_lt.mpr this)
/-- The first place of the greatest value. -/
def pick (t : Fin 33 → ℝ) : Fin 33 := (exists_first t).choose
theorem pick_first (t : Fin 33 → ℝ) : IsFirst t (pick t) := (exists_first t).choose_spec
theorem IsFirst.unique {t : Fin 33 → ℝ} {k l : Fin 33} (hk : IsFirst t k) (hl : IsFirst t l) : k = l := by
  rcases lt_trichotomy k l with h | h | h
  · exact absurd (hl.2 k h) (not_lt.mpr (hk.1 l))
  · exact h
  · exact absurd (hk.2 l h) (not_lt.mpr (hl.1 k))
/-- A change of scale that keeps the order keeps the choice. -/
theorem IsFirst.of_lt_iff {t u : Fin 33 → ℝ} (h : ∀ i j, u i < u j ↔ t i < t j) {k : Fin 33} (hk : IsFirst t k) : IsFirst u k :=
  ⟨fun j => not_lt.mp fun hj => absurd ((h _ _).mp hj) (not_lt.mpr (hk.1 j)), fun j hj => (h _ _).mpr (hk.2 j hj)⟩

/-! ## The rounds -/

/-- The greatest of a row. -/
def top (t : Fin 33 → ℝ) : ℝ := t (pick t)
/-- The weights of a row's classes. -/
def wt (a : ℕ) (k : Fin 33) : ℝ := Real.exp (lgt I a k - top (lgt I a))
def tot (a : ℕ) : ℝ := ∑ k, wt I a k
theorem wt_pos (a : ℕ) (k : Fin 33) : 0 < wt I a k := Real.exp_pos _
theorem tot_pos (a : ℕ) : 0 < tot I a := Finset.sum_pos (fun _ _ => wt_pos I a _) ⟨0, Finset.mem_univ _⟩
/-- What a round chooses by: the log of the share among the weights left, plus the noise. -/
def score (S : ℝ) (q g : Fin 33 → ℝ) (k : Fin 33) : ℝ := Real.log (q k / S / max c10 (∑ j, q j / S) + c12) + g k
mutual
/-- The weights left before round `n`. -/
def left (a : ℕ) : ℕ → Fin 33 → ℝ
  | 0 => wt I a
  | n + 1 => fun k => if k = choice a n then 0 else left a n k
/-- The class that round `n` chooses. -/
def choice (a : ℕ) : ℕ → Fin 33
  | n => pick (score (tot I a) (left a n) (I.ns n a))
end
theorem left_zero (a : ℕ) : left I a 0 = wt I a := by rw [left]
theorem left_succ (a n : ℕ) (k : Fin 33) : left I a (n + 1) k = if k = choice I a n then 0 else left I a n k := by rw [left]
theorem choice_eq (a n : ℕ) : choice I a n = pick (score (tot I a) (left I a n) (I.ns n a)) := by rw [choice]
theorem left_nonneg (a n : ℕ) (k : Fin 33) : 0 ≤ left I a n k := by
  induction n with
  | zero => rw [left_zero]; exact (wt_pos I a k).le
  | succ n ih => rw [left_succ]; split
                 · exact le_rfl
                 · exact ih

/-- The kernel's form of a round's weight. -/
def kscore (S : ℝ) (q g : Fin 33 → ℝ) (k : Fin 33) : ℝ := (q k + S * max ((∑ j, q j) / S) c10 * c12) * Real.exp (g k)
theorem kscore_eq (S : ℝ) (q g : Fin 33 → ℝ) (hS : 0 < S) (hq : ∀ k, 0 ≤ q k) (k : Fin 33) :
    kscore S q g k = S * max c10 (∑ j, q j / S) * Real.exp (score S q g k) := by
  have hm : 0 < max c10 (∑ j, q j / S) := lt_max_of_lt_left c10_pos
  have hpos : 0 < q k / S / max c10 (∑ j, q j / S) + c12 :=
    add_pos_of_nonneg_of_pos (div_nonneg (div_nonneg (hq k) hS.le) hm.le) c12_pos
  rw [kscore, score, Real.exp_add, Real.exp_log hpos, Finset.sum_div, max_comm]
  field_simp
theorem kscore_first (S : ℝ) (q g : Fin 33 → ℝ) (hS : 0 < S) (hq : ∀ k, 0 ≤ q k) : IsFirst (kscore S q g) (pick (score S q g)) := by
  refine (pick_first _).of_lt_iff fun i j => ?_
  have hm : 0 < S * max c10 (∑ j, q j / S) := mul_pos hS (lt_max_of_lt_left c10_pos)
  rw [kscore_eq S q g hS hq, kscore_eq S q g hS hq, mul_lt_mul_iff_right₀ hm, Real.exp_lt_exp]

/-! ## The folds -/

theorem e_fold (t : Fin 33 → ℝ) (k : Fin 33) (h : IsFirst t k) :
    Finset.fold max (Ideal.ofBits .f32 4286578688#32) (fun x => (t x : EReal)) Finset.univ = (t k : EReal) := by
  rw [kBot]
  apply le_antisymm
  · rw [Finset.fold_max_le]
    exact ⟨bot_le, fun x _ => EReal.coe_le_coe_iff.mpr (h.1 x)⟩
  · rw [Finset.le_fold_max]
    exact Or.inr ⟨k, Finset.mem_univ _, le_rfl⟩

theorem minsi_toInt (a b : BitVec 32) : (IntOp.minsi a b).toInt = min a.toInt b.toInt := by
  unfold IntOp.minsi
  by_cases h : a.slt b
  · rw [if_pos h]; rw [BitVec.slt_iff_toInt_lt] at h; exact (min_eq_left h.le).symm
  · rw [if_neg h]; rw [BitVec.slt_iff_toInt_lt] at h; exact (min_eq_right (not_lt.mp h)).symm
theorem toInt_small (n : ℕ) (h : n < 100) : (BitVec.ofNat 32 n).toInt = n := by
  rw [BitVec.toInt_eq_toNat_bmod, BitVec.toNat_ofNat, Nat.mod_eq_of_lt (by omega)]
  simp only [Int.bmod_def]; omega
theorem minsi_fold (P : Fin 33 → Prop) [DecidablePred P] (k : Fin 33) (hk : P k) (hlt : ∀ j, j < k → ¬ P j) :
    Finset.fold IntOp.minsi 2147483647#32 (fun x : Fin 33 => if P x then BitVec.ofNat 32 x.val else 33#32) Finset.univ = BitVec.ofNat 32 k.val := by
  apply BitVec.eq_of_toInt_eq
  have e : ∀ x : Fin 33, (if P x then BitVec.ofNat 32 x.val else 33#32).toInt = if P x then (x.val : ℤ) else 33 := fun x => by
    split
    · exact toInt_small _ (by have := x.isLt; omega)
    · exact toInt_small 33 (by omega)
  have hk' : (BitVec.ofNat 32 k.val).toInt = k.val := toInt_small k.val (by have := k.isLt; omega)
  have hm : (2147483647#32).toInt = 2147483647 := by decide
  rw [← Finset.fold_hom (op' := min) (m := BitVec.toInt) minsi_toInt, hk']
  apply le_antisymm
  · rw [Finset.fold_min_le]
    exact Or.inr ⟨k, Finset.mem_univ _, by rw [e, if_pos hk]⟩
  · rw [Finset.le_fold_min]
    refine ⟨?_, fun x _ => ?_⟩
    · have := k.isLt
      refine le_trans ?_ hm.ge
      omega
    · rw [e]
      split
      · next h =>
        have : ¬ x < k := fun hx => hlt x hx h
        have := not_lt.mp this
        exact_mod_cast this
      · have := k.isLt; omega

end Cert.Mo
end
-- ==== Proof.Inputs.lean ====
module

public import proofs.«01_k».proof.Proof.Model
public import Idealize.ShloMosaic.Lib.Pointwise

/-! What it is for arrays of extended reals to hold real numbers. -/

@[expose] public section
noncomputable section
namespace Cert.Mo
open Idealize.ShloMosaic

/-- The nineteen arrays hold the reals of `I`. -/
structure Holds (I : In)
    (a0 : (⟨2, ![16384, 128]⟩ : Shape).Idx → EReal) (a1 : (⟨2, ![16384, 99]⟩ : Shape).Idx → EReal)
    (a2 : (⟨2, ![99, 128]⟩ : Shape).Idx → EReal) (a3 : (⟨1, ![128]⟩ : Shape).Idx → EReal)
    (a4 : (⟨2, ![128, 128]⟩ : Shape).Idx → EReal) (a5 : (⟨1, ![128]⟩ : Shape).Idx → EReal)
    (a6 : (⟨2, ![256, 512]⟩ : Shape).Idx → EReal) (a7 a8 a9 : (⟨1, ![512]⟩ : Shape).Idx → EReal)
    (a10 : (⟨2, ![512, 256]⟩ : Shape).Idx → EReal) (a11 a12 a13 : (⟨1, ![256]⟩ : Shape).Idx → EReal)
    (a14 : (⟨2, ![256, 128]⟩ : Shape).Idx → EReal) (a15 : (⟨1, ![128]⟩ : Shape).Idx → EReal)
    (a16 : (⟨2, ![128, 33]⟩ : Shape).Idx → EReal) (a17 : (⟨1, ![33]⟩ : Shape).Idx → EReal)
    (a18 : (⟨3, ![6, 16384, 33]⟩ : Shape).Idx → EReal) : Prop where
  x0 : ∀ (a : Fin 16384) (i : Fin 128), a0 (ix2 a i) = ((I.x0 a.val i : ℝ) : EReal)
  x1 : ∀ (a : Fin 16384) (i : Fin 99), a1 (ix2 a i) = ((I.x1 a.val i : ℝ) : EReal)
  w1 : ∀ (i : Fin 99) (j : Fin 128), a2 (ix2 i j) = ((I.w1 i j : ℝ) : EReal)
  b1 : ∀ (j : Fin 128), a3 (ix1 j) = ((I.b1 j : ℝ) : EReal)
  w2 : ∀ (i : Fin 128) (j : Fin 128), a4 (ix2 i j) = ((I.w2 i j : ℝ) : EReal)
  b2 : ∀ (j : Fin 128), a5 (ix1 j) = ((I.b2 j : ℝ) : EReal)
  w3 : ∀ (i : Fin 256) (j : Fin 512), a6 (ix2 i j) = ((I.w3 i j : ℝ) : EReal)
  b3 : ∀ (j : Fin 512), a7 (ix1 j) = ((I.b3 j : ℝ) : EReal)
  g3 : ∀ (j : Fin 512), a8 (ix1 j) = ((I.g3 j : ℝ) : EReal)
  e3 : ∀ (j : Fin 512), a9 (ix1 j) = ((I.e3 j : ℝ) : EReal)
  w4 : ∀ (i : Fin 512) (j : Fin 256), a10 (ix2 i j) = ((I.w4 i j : ℝ) : EReal)
  b4 : ∀ (j : Fin 256), a11 (ix1 j) = ((I.b4 j : ℝ) : EReal)
  g4 : ∀ (j : Fin 256), a12 (ix1 j) = ((I.g4 j : ℝ) : EReal)
  e4 : ∀ (j : Fin 256), a13 (ix1 j) = ((I.e4 j : ℝ) : EReal)
  w5 : ∀ (i : Fin 256) (j : Fin 128), a14 (ix2 i j) = ((I.w5 i j : ℝ) : EReal)
  b5 : ∀ (j : Fin 128), a15 (ix1 j) = ((I.b5 j : ℝ) : EReal)
  w6 : ∀ (i : Fin 128) (j : Fin 33), a16 (ix2 i j) = ((I.w6 i j : ℝ) : EReal)
  b6 : ∀ (j : Fin 33), a17 (ix1 j) = ((I.b6 j : ℝ) : EReal)
  ns : ∀ (n : Fin 6) (a : Fin 16384) (k : Fin 33), a18 (ix3 n a k) = ((I.ns n.val a.val k : ℝ) : EReal)

/-- Arrays without infinities hold some reals. -/
theorem exists_holds
    (a0 : (⟨2, ![16384, 128]⟩ : Shape).Idx → EReal) (a1 : (⟨2, ![16384, 99]⟩ : Shape).Idx → EReal)
    (a2 : (⟨2, ![99, 128]⟩ : Shape).Idx → EReal) (a3 : (⟨1, ![128]⟩ : Shape).Idx → EReal)
    (a4 : (⟨2, ![128, 128]⟩ : Shape).Idx → EReal) (a5 : (⟨1, ![128]⟩ : Shape).Idx → EReal)
    (a6 : (⟨2, ![256, 512]⟩ : Shape).Idx → EReal) (a7 a8 a9 : (⟨1, ![512]⟩ : Shape).Idx → EReal)
    (a10 : (⟨2, ![512, 256]⟩ : Shape).Idx → EReal) (a11 a12 a13 : (⟨1, ![256]⟩ : Shape).Idx → EReal)
    (a14 : (⟨2, ![256, 128]⟩ : Shape).Idx → EReal) (a15 : (⟨1, ![128]⟩ : Shape).Idx → EReal)
    (a16 : (⟨2, ![128, 33]⟩ : Shape).Idx → EReal) (a17 : (⟨1, ![33]⟩ : Shape).Idx → EReal)
    (a18 : (⟨3, ![6, 16384, 33]⟩ : Shape).Idx → EReal)
    (f0 : ∀ i, ((a0 i).toReal : EReal) = a0 i) (f1 : ∀ i, ((a1 i).toReal : EReal) = a1 i) (f2 : ∀ i, ((a2 i).toReal : EReal) = a2 i)
    (f3 : ∀ i, ((a3 i).toReal : EReal) = a3 i) (f4 : ∀ i, ((a4 i).toReal : EReal) = a4 i) (f5 : ∀ i, ((a5 i).toReal : EReal) = a5 i)
    (f6 : ∀ i, ((a6 i).toReal : EReal) = a6 i) (f7 : ∀ i, ((a7 i).toReal : EReal) = a7 i) (f8 : ∀ i, ((a8 i).toReal : EReal) = a8 i)
    (f9 : ∀ i, ((a9 i).toReal : EReal) = a9 i) (f10 : ∀ i, ((a10 i).toReal : EReal) = a10 i) (f11 : ∀ i, ((a11 i).toReal : EReal) = a11 i)
    (f12 : ∀ i, ((a12 i).toReal : EReal) = a12 i) (f13 : ∀ i, ((a13 i).toReal : EReal) = a13 i) (f14 : ∀ i, ((a14 i).toReal : EReal) = a14 i)
    (f15 : ∀ i, ((a15 i).toReal : EReal) = a15 i) (f16 : ∀ i, ((a16 i).toReal : EReal) = a16 i) (f17 : ∀ i, ((a17 i).toReal : EReal) = a17 i)
    (f18 : ∀ i, ((a18 i).toReal : EReal) = a18 i) :
    ∃ I : In, Holds I a0 a1 a2 a3 a4 a5 a6 a7 a8 a9 a10 a11 a12 a13 a14 a15 a16 a17 a18 := by
  refine ⟨⟨fun a i => if h : a < 16384 then (a0 (ix2 ⟨a, h⟩ i)).toReal else 0, fun a i => if h : a < 16384 then (a1 (ix2 ⟨a, h⟩ i)).toReal else 0,
    fun i j => (a2 (ix2 i j)).toReal, fun j => (a3 (ix1 j)).toReal, fun i j => (a4 (ix2 i j)).toReal, fun j => (a5 (ix1 j)).toReal,
    fun i j => (a6 (ix2 i j)).toReal, fun j => (a7 (ix1 j)).toReal, fun j => (a8 (ix1 j)).toReal, fun j => (a9 (ix1 j)).toReal,
    fun i j => (a10 (ix2 i j)).toReal, fun j => (a11 (ix1 j)).toReal, fun j => (a12 (ix1 j)).toReal, fun j => (a13 (ix1 j)).toReal,
    fun i j => (a14 (ix2 i j)).toReal, fun j => (a15 (ix1 j)).toReal, fun i j => (a16 (ix2 i j)).toReal, fun j => (a17 (ix1 j)).toReal,
    fun n a k => if h : n < 6 ∧ a < 16384 then (a18 (ix3 ⟨n, h.1⟩ ⟨a, h.2⟩ k)).toReal else 0⟩, ?_⟩
  constructor
  case x0 => intro a i; dsimp only; rw [dif_pos a.isLt]; exact (f0 _).symm
  case x1 => intro a i; dsimp only; rw [dif_pos a.isLt]; exact (f1 _).symm
  case ns => intro n a k; dsimp only; rw [dif_pos ⟨n.isLt, a.isLt⟩]; exact (f18 _).symm
  case w1 => exact fun i j => (f2 _).symm
  case b1 => exact fun j => (f3 _).symm
  case w2 => exact fun i j => (f4 _).symm
  case b2 => exact fun j => (f5 _).symm
  case w3 => exact fun i j => (f6 _).symm
  case b3 => exact fun j => (f7 _).symm
  case g3 => exact fun j => (f8 _).symm
  case e3 => exact fun j => (f9 _).symm
  case w4 => exact fun i j => (f10 _).symm
  case b4 => exact fun j => (f11 _).symm
  case g4 => exact fun j => (f12 _).symm
  case e4 => exact fun j => (f13 _).symm
  case w5 => exact fun i j => (f14 _).symm
  case b5 => exact fun j => (f15 _).symm
  case w6 => exact fun i j => (f16 _).symm
  case b6 => exact fun j => (f17 _).symm

end Cert.Mo
end
-- ==== Proof.KerStage.lean ====
/- The kernel's stages over the reals. -/
module

public import proofs.«01_k».proof.Proof.RunI
public import proofs.«01_k».proof.Proof.Inputs
public import Idealize.ShloMosaic.Lib.Pointwise
public import Idealize.ShloMosaic.PureOps.Ideal

@[expose] public section
set_option maxRecDepth 16384
noncomputable section
namespace Cert.KernelIdeal.Hand
open Cert.KernelIdeal Cert.KernelIdeal.Gen Idealize.ShloMosaic Cert.Mo

/-! ## Normalisation from the two sums -/

/-- The multiplier and the shift that the kernel makes of the two column sums. -/
def kA (s0 s1 g : ℝ) : ℝ := g / Real.sqrt (s1 * (1 / 16384) - s0 * (1 / 16384) * (s0 * (1 / 16384)) + cEps)
/-- The sums down the first `n` rows. -/
def su (x : ℕ → ℝ) (n : ℕ) : ℝ := ∑ a ∈ Finset.range n, x a
def sq (x : ℕ → ℝ) (n : ℕ) : ℝ := ∑ a ∈ Finset.range n, x a * x a

theorem s_var (x : ℕ → ℝ) : sq x 16384 * (1 / 16384) - su x 16384 * (1 / 16384) * (su x 16384 * (1 / 16384)) = var x := by
  rw [← var_eq, mean, su, sq]; ring
theorem k_nrm (x : ℕ → ℝ) (g b : ℝ) (a : ℕ) :
    x a * kA (su x 16384) (sq x 16384) g + (b - su x 16384 * (1 / 16384) * kA (su x 16384) (sq x 16384) g) = nrm x g b a := by
  have hm : su x 16384 * (1 / 16384) = mean x := by rw [mean, su]; ring
  rw [kA, s_var, hm, nrm]; ring
/-- The kernel's scaling, at real sums. -/
theorem e_scale (x : ℕ → ℝ) (g : ℝ) :
    Ideal.div (g : EReal) (Ideal.sqrt (((sq x 16384 : ℝ) : EReal) * ((1 / 16384 : ℝ) : EReal)
      - ((su x 16384 : ℝ) : EReal) * ((1 / 16384 : ℝ) : EReal) * (((su x 16384 : ℝ) : EReal) * ((1 / 16384 : ℝ) : EReal)) + ((cEps : ℝ) : EReal)))
      = ((kA (su x 16384) (sq x 16384) g : ℝ) : EReal) := by
  simp only [← EReal.coe_mul, ← EReal.coe_add, ← EReal.coe_sub]
  rw [e_sqrt _ (by rw [s_var]; exact (var_eps_pos x).le), e_div _ _ (by rw [s_var]; exact sqrt_ne x), kA]
theorem su_add (x : ℕ → ℝ) (n m : ℕ) : su x (n + m) = su x n + ∑ a : Fin m, x (n + a.val) := by
  rw [su, Finset.sum_range_add, su, Finset.sum_range (fun a => x (n + a))]
theorem sq_add (x : ℕ → ℝ) (n m : ℕ) : sq x (n + m) = sq x n + ∑ a : Fin m, x (n + a.val) * x (n + a.val) := by
  rw [sq, Finset.sum_range_add, sq, Finset.sum_range (fun a => x (n + a) * x (n + a))]

/-! ## The layers -/

section Layers
variable (I : In) (r : Fin 4096 → ℕ)

theorem k_H3 (x2 x3 x4 x5 x6 x7 x8 x9)
    (h0 : ∀ (a : Fin 4096) i, x2 (ix2 a i) = ((I.x0 (r a) i : ℝ) : EReal)) (h1 : ∀ (a : Fin 4096) i, x3 (ix2 a i) = ((I.x1 (r a) i : ℝ) : EReal))
    (hw1 : ∀ i j, x4 (ix2 i j) = ((I.w1 i j : ℝ) : EReal)) (hb1 : ∀ j, x5 (ix2 0 j) = ((I.b1 j : ℝ) : EReal))
    (hw2 : ∀ i j, x6 (ix2 i j) = ((I.w2 i j : ℝ) : EReal)) (hb2 : ∀ j, x7 (ix2 0 j) = ((I.b2 j : ℝ) : EReal))
    (hw3 : ∀ i j, x8 (ix2 i j) = ((I.w3 i j : ℝ) : EReal)) (hb3 : ∀ j, x9 (ix2 0 j) = ((I.b3 j : ℝ) : EReal)) (a : Fin 4096) (j : Fin 512) :
    h3of (F := Ideal) x2 x3 x4 x5 x6 x7 x8 x9 (ix2 a j) = ((h3 I (r a) j : ℝ) : EReal) := by
  pointwise [h3of, k0_pay8]
  simp only [h0, h1, hw1, hb1, hw2, hb2, hw3, hb3, ← EReal.coe_mul, e_sum, ← EReal.coe_add, lr_max]
  rfl

theorem k_W3 (x2 x3 x4 x5 x6 x7 x8 x9) (i) : w3of (F := Ideal) x2 x3 x4 x5 x6 x7 x8 x9 i = h3of x2 x3 x4 x5 x6 x7 x8 x9 i := by
  obtain ⟨a, j, rfl⟩ : ∃ a j, i = ix2 a j := ⟨i 0, i 1, by funext a; fin_cases a <;> rfl⟩
  pointwise [w3of, k0_pay9]

theorem k_W4 (x10 x11 x12 x13 x23 h) (i) : w4of (F := Ideal) x10 x11 x12 x13 x23 h i = h4of x10 x11 x12 x13 x23 h i := by
  obtain ⟨a, j, rfl⟩ : ∃ a j, i = ix2 a j := ⟨i 0, i 1, by funext a; fin_cases a <;> rfl⟩
  pointwise [w4of, k0_pay12]

theorem k_sum3 (x2 x3 x4 x5 x6 x7 x8 x9) (u : ℕ → Fin 512 → ℝ)
    (hu : ∀ (a : Fin 4096) j, h3of (F := Ideal) x2 x3 x4 x5 x6 x7 x8 x9 (ix2 a j) = ((u (r a) j : ℝ) : EReal)) (j : Fin 512) :
    k0_pay2 (h3of x2 x3 x4 x5 x6 x7 x8 x9) (s3of x2 x3 x4 x5 x6 x7 x8 x9) (ix2 0 j) = ((∑ a : Fin 4096, u (r a) j : ℝ) : EReal)
    ∧ k0_pay2 (h3of x2 x3 x4 x5 x6 x7 x8 x9) (s3of x2 x3 x4 x5 x6 x7 x8 x9) (ix2 1 j) = ((∑ a : Fin 4096, u (r a) j * u (r a) j : ℝ) : EReal) := by
  have hs : s3of (F := Ideal) x2 x3 x4 x5 x6 x7 x8 x9 (ix1 j) = ∑ a : Fin 4096, h3of x2 x3 x4 x5 x6 x7 x8 x9 (ix2 a j) := by
    generalize hh : h3of x2 x3 x4 x5 x6 x7 x8 x9 = h
    unfold s3of k0_pay10
    rw [show k0_pay8 x3 x4 x5 x6 x7 x2 x8 x9 = h from hh]
    pointwise []
  generalize h3of x2 x3 x4 x5 x6 x7 x8 x9 = h at *
  generalize s3of x2 x3 x4 x5 x6 x7 x8 x9 = s at *
  constructor
  · pointwise [k0_pay2, k0_pay1]
    rw [hs]; simp only [hu, e_sum]
  · pointwise [k0_pay2, k0_pay1]
    simp only [hu, ← EReal.coe_mul, e_sum]
theorem k_acc3 (h s x) (i) : k0_pay3 (F := Ideal) h s x i = x i + k0_pay2 h s i := by
  obtain ⟨a, j, rfl⟩ : ∃ a j, i = ix2 a j := ⟨i 0, i 1, by funext a; fin_cases a <;> rfl⟩
  pointwise [k0_pay3, k0_pay2]

theorem k_row0 (x : Vec Ideal S2x512 .f32) (j : Fin 512) : row0 x (ix2 0 j) = x (ix2 0 j) := by
  unfold row0 VecWindow.window; congr 1; funext a; fin_cases a <;> exact Fin.ext (by simp [ix2, Rect.emb, Rect.unit])
theorem k_row1 (x : Vec Ideal S2x512 .f32) (j : Fin 512) : row1 x (ix2 0 j) = x (ix2 1 j) := by
  unfold row1 VecWindow.window; congr 1; funext a; fin_cases a <;> exact Fin.ext (by simp [ix2, Rect.emb, Rect.unit])
theorem k_row0' (x : Vec Ideal S2x256 .f32) (j : Fin 256) : row0' x (ix2 0 j) = x (ix2 0 j) := by
  unfold row0' VecWindow.window; congr 1; funext a; fin_cases a <;> exact Fin.ext (by simp [ix2, Rect.emb, Rect.unit])
theorem k_row1' (x : Vec Ideal S2x256 .f32) (j : Fin 256) : row1' x (ix2 0 j) = x (ix2 1 j) := by
  unfold row1' VecWindow.window; congr 1; funext a; fin_cases a <;> exact Fin.ext (by simp [ix2, Rect.emb, Rect.unit])

theorem k_H4 (x10 x11 x12 x13 x23 h)
    (hg : ∀ j, x10 (ix2 0 j) = ((I.g3 j : ℝ) : EReal)) (he : ∀ j, x11 (ix2 0 j) = ((I.e3 j : ℝ) : EReal))
    (hw : ∀ i j, x12 (ix2 i j) = ((I.w4 i j : ℝ) : EReal)) (hb : ∀ j, x13 (ix2 0 j) = ((I.b4 j : ℝ) : EReal))
    (h0 : ∀ j, x23 (ix2 0 j) = ((su (fun a => h3 I a j) 16384 : ℝ) : EReal)) (h1 : ∀ j, x23 (ix2 1 j) = ((sq (fun a => h3 I a j) 16384 : ℝ) : EReal))
    (hh : ∀ (a : Fin 4096) i, h (ix2 a i) = ((h3 I (r a) i : ℝ) : EReal)) (a : Fin 4096) (j : Fin 256) :
    h4of (F := Ideal) x10 x11 x12 x13 x23 h (ix2 a j) = ((h4 I (r a) j : ℝ) : EReal) := by
  have hy0 := fun j => (k_row0 x23 j).trans (h0 j)
  have hy1 := fun j => (k_row1 x23 j).trans (h1 j)
  unfold h4of
  generalize row0 x23 = y0 at *
  generalize row1 x23 = y1 at *
  clear h0 h1
  rename' hy0 => h0, hy1 => h1
  pointwise [k0_pay11]
  simp only [hh, hg, he, hw, hb, h0, h1, kBi, kEps, e_scale]
  simp only [← EReal.coe_mul, ← EReal.coe_add, ← EReal.coe_sub, e_sum, lr_max]
  have hn : ∀ i, h3 I (r a) i * kA (su (fun a => h3 I a i) 16384) (sq (fun a => h3 I a i) 16384) (I.g3 i) + (I.e3 i - su (fun a => h3 I a i) 16384 * (1 / 16384)
      * kA (su (fun a => h3 I a i) 16384) (sq (fun a => h3 I a i) 16384) (I.g3 i)) = n3 I (r a) i := fun i => k_nrm (fun a => h3 I a i) _ _ _
  simp only [hn]
  rfl

theorem k_sum4 (x10 x11 x12 x13 x23 h) (u : ℕ → Fin 256 → ℝ)
    (hu : ∀ (a : Fin 4096) j, h4of (F := Ideal) x10 x11 x12 x13 x23 h (ix2 a j) = ((u (r a) j : ℝ) : EReal)) (j : Fin 256) :
    k0_pay5 (h4of x10 x11 x12 x13 x23 h) (s4of x10 x11 x12 x13 x23 h) (ix2 0 j) = ((∑ a : Fin 4096, u (r a) j : ℝ) : EReal)
    ∧ k0_pay5 (h4of x10 x11 x12 x13 x23 h) (s4of x10 x11 x12 x13 x23 h) (ix2 1 j) = ((∑ a : Fin 4096, u (r a) j * u (r a) j : ℝ) : EReal) := by
  have hs : s4of (F := Ideal) x10 x11 x12 x13 x23 h (ix2 0 j) = ∑ a : Fin 4096, h4of x10 x11 x12 x13 x23 h (ix2 a j) := by
    unfold s4of k0_pay13
    change _ = ∑ a : Fin 4096, k0_pay11 (row0 x23) (row1 x23) x10 x11 h x12 x13 (ix2 a j)
    generalize k0_pay11 (row0 x23) (row1 x23) x10 x11 h x12 x13 = k
    pointwise []
  generalize h4of x10 x11 x12 x13 x23 h = k at *
  generalize s4of x10 x11 x12 x13 x23 h = s at *
  constructor
  · pointwise [k0_pay5, k0_pay4]
    rw [hs]; simp only [hu, e_sum]
  · pointwise [k0_pay5, k0_pay4]
    simp only [hu, ← EReal.coe_mul, e_sum]
theorem k_acc4 (h s x) (i) : k0_pay6 (F := Ideal) h s x i = x i + k0_pay5 h s i := by
  obtain ⟨a, j, rfl⟩ : ∃ a j, i = ix2 a j := ⟨i 0, i 1, by funext a; fin_cases a <;> rfl⟩
  pointwise [k0_pay6, k0_pay5]

theorem k_logit (x14 x15 x16 x17 x18 x24 h)
    (hg : ∀ j, x14 (ix2 0 j) = ((I.g4 j : ℝ) : EReal)) (he : ∀ j, x15 (ix2 0 j) = ((I.e4 j : ℝ) : EReal))
    (hw : ∀ i j, x16 (ix2 i j) = ((I.w5 i j : ℝ) : EReal)) (hb : ∀ j, x17 (ix2 0 j) = ((I.b5 j : ℝ) : EReal))
    (hw6 : ∀ i j, x18 (ix2 i j) = ((I.w6 i j : ℝ) : EReal))
    (h0 : ∀ j, x24 (ix2 0 j) = ((su (fun a => h4 I a j) 16384 : ℝ) : EReal)) (h1 : ∀ j, x24 (ix2 1 j) = ((sq (fun a => h4 I a j) 16384 : ℝ) : EReal))
    (hh : ∀ (a : Fin 4096) i, h (ix2 a i) = ((h4 I (r a) i : ℝ) : EReal)) (k : Fin 33) (a : Fin 4096) :
    logit0 (F := Ideal) x14 x15 x16 x17 x18 x24 h (ix2 k a) = ((∑ x, h5 I (r a) x * I.w6 x k : ℝ) : EReal) := by
  have hy0 := fun j => (k_row0' x24 j).trans (h0 j)
  have hy1 := fun j => (k_row1' x24 j).trans (h1 j)
  unfold logit0
  generalize row0' x24 = y0 at *
  generalize row1' x24 = y1 at *
  clear h0 h1
  rename' hy0 => h0, hy1 => h1
  pointwise [k0_pay14]
  simp only [hh, hg, he, hw, hb, hw6, h0, h1, kBi, kEps, e_scale]
  simp only [← EReal.coe_mul, ← EReal.coe_add, ← EReal.coe_sub, e_sum, lr_max]
  have hn : ∀ i, h4 I (r a) i * kA (su (fun a => h4 I a i) 16384) (sq (fun a => h4 I a i) 16384) (I.g4 i) + (I.e4 i - su (fun a => h4 I a i) 16384 * (1 / 16384)
      * kA (su (fun a => h4 I a i) 16384) (sq (fun a => h4 I a i) 16384) (I.g4 i)) = n4 I (r a) i := fun i => k_nrm (fun a => h4 I a i) _ _ _
  simp only [hn]
  refine congrArg _ (Finset.sum_congr rfl fun x _ => ?_)
  rw [mul_comm]
  refine congrArg (· * _) (congrArg lr ?_)
  refine congrArg (· + _) (Finset.sum_congr rfl fun y _ => ?_)
  rw [mul_comm]

end Layers

/-! ## The rounds -/

/-- The scores of a round: from the sum of all weights, the weights left and the noise. -/
def vT (S : FVec Ideal S1x4096 .f32) (p : FVec Ideal S33x4096 .f32) (g : Vec Ideal S1x33x4096 .f32) : FVec Ideal S33x4096 .f32 :=
  mulf (addf p (broadcastTo S33x4096 (mulf (mulf S (maximumf (divf (shapeCast S1x4096
    (multiReduction .add [0] S4096 p 0x00000000#32 reduces_S33x4096_S4096 (.inl rfl) rfl) shapeCasts_S4096_S1x4096) S)
    (broadcast S1x4096 (Scalar.ofBits .f32 0x2EDBE6FF#32)))) (broadcast S1x4096 (Scalar.ofBits .f32 0x2B8CBCCC#32))) broadcasts_S1x4096_S33x4096))
    (shapeCast S33x4096 g shapeCasts_S1x33x4096_S33x4096)
/-- The largest score of each column. -/
def vM (t : FVec Ideal S33x4096 .f32) : FVec Ideal S33x4096 .f32 :=
  broadcastTo S33x4096 (shapeCast S1x4096 (multiReduction .maximumf [0] S4096 t 0xFF800000#32 reduces_S33x4096_S4096 (.inl rfl) rfl) shapeCasts_S4096_S1x4096)
    broadcasts_S1x4096_S33x4096
/-- The first class that reaches it. -/
def vI (t : FVec Ideal S33x4096 .f32) : IVec S1x4096 32 :=
  shapeCast S1x4096 (multiReductionI .minsi [0] S4096 (select (cmpf .oeq t (vM t)) iotaC (broadcast S33x4096 33#32)) 2147483647#32 reduces_S33x4096_S4096 rfl)
    shapeCasts_S4096_S1x4096
/-- The weights left after a choice. -/
def vP (i : IVec S1x4096 32) (p : FVec Ideal S33x4096 .f32) : FVec Ideal S33x4096 .f32 :=
  select (cmpi .eq iotaC (broadcastTo S33x4096 i broadcasts_S1x4096_S33x4096)) (broadcast S33x4096 (Scalar.ofBits .f32 0x00000000#32)) p
/-- The weights left before round `n`. -/
def vQ (v : FVec Ideal S33x4096 .f32) (x : Vec Ideal S1x33 .f32) (g : ℕ → Vec Ideal S1x33x4096 .f32) : ℕ → FVec Ideal S33x4096 .f32
  | 0 => k0_pay15 v x
  | n + 1 => vP (vI (vT (k0_pay16 v x) (vQ v x g n) (g n))) (vQ v x g n)
/-- The choice of round `n`. -/
def vC (v : FVec Ideal S33x4096 .f32) (x : Vec Ideal S1x33 .f32) (g : ℕ → Vec Ideal S1x33x4096 .f32) (n : ℕ) : IVec S1x4096 32 :=
  vI (vT (k0_pay16 v x) (vQ v x g n) (g n))
/-- The choices side by side. -/
def vOut (i0 i1 i2 i3 i4 i5 : IVec S1x4096 32) : Vec Ideal S4096x6 .i32 :=
  extractStridedSlice S4096x6 ![0, 0] (transpose S4096x8 [1, 0] (concatenate S8x4096 0 [⟨S1x4096, i0⟩, ⟨S1x4096, i1⟩, ⟨S1x4096, i2⟩, ⟨S1x4096, i3⟩, ⟨S1x4096, i4⟩, ⟨S1x4096, i5⟩, ⟨S2x4096, broadcast S2x4096 0#32⟩]
    concatenates_S1x4096_S1x4096_S1x4096_S1x4096_S1x4096_S1x4096_S2x4096_S8x4096_d0) transposes_S8x4096_p1_0_S4096x8) slices_S4096x8_o0_0_S4096x6

theorem rounds_eq (v : FVec Ideal S33x4096 .f32) (x : Vec Ideal S1x33 .f32) (g : ℕ → Vec Ideal S1x33x4096 .f32) :
    rounds v x (g 0) (g 1) (g 2) (g 3) (g 4) (g 5) = vOut (vC v x g 0) (vC v x g 1) (vC v x g 2) (vC v x g 3) (vC v x g 4) (vC v x g 5) := by
  have q1 : k0_pay18 v x (g 0) = vQ v x g 1 := rfl
  have c0 : k0_pay17 v x (g 0) = vC v x g 0 := rfl
  have c1 : k0_pay20 iotaC (vQ v x g 1) (k0_pay19 v x (g 0)) (g 1) = vC v x g 1 := rfl
  have q2 : k0_pay21 iotaC (vQ v x g 1) (k0_pay19 v x (g 0)) (g 1) = vQ v x g 2 := rfl
  have c2 : k0_pay22 (k0_pay16 v x) iotaC (vQ v x g 1) (k0_pay19 v x (g 0)) (g 1) (g 2) = vC v x g 2 := rfl
  have q3 : k0_pay24 (vQ v x g 2) (k0_pay23 (k0_pay16 v x) iotaC (vQ v x g 1) (k0_pay19 v x (g 0)) (g 1) (g 2)) (FloatOps.ofBits .f32 0#32) = vQ v x g 3 := rfl
  unfold rounds
  rw [q1, q2, c0, c1, c2]
  generalize k0_pay23 (k0_pay16 v x) iotaC (vQ v x g 1) (k0_pay19 v x (g 0)) (g 1) (g 2) = m at *
  have c3 : k0_pay25 (k0_pay16 v x) iotaC (vQ v x g 2) m (FloatOps.ofBits .f32 0#32) (g 3) = vC v x g 3 := by
    unfold k0_pay25; rw [q3]; rfl
  have q4 : k0_pay26 (k0_pay16 v x) iotaC (vQ v x g 2) m (FloatOps.ofBits .f32 0#32) (g 3) = vQ v x g 4 := by
    unfold k0_pay26; rw [q3, c3]; rfl
  have t4 : k0_pay27 (k0_pay16 v x) iotaC (vQ v x g 2) m (FloatOps.ofBits .f32 0#32) (g 3) (g 4) = vT (k0_pay16 v x) (vQ v x g 4) (g 4) := by
    unfold k0_pay27; rw [q4]; rfl
  have m4 : k0_pay28 (k0_pay16 v x) iotaC (vQ v x g 2) m (FloatOps.ofBits .f32 0#32) (g 3) (g 4) = vM (vT (k0_pay16 v x) (vQ v x g 4) (g 4)) := by
    unfold k0_pay28; rw [t4]; rfl
  rw [c3, q4, t4, m4]
  rfl

theorem k_top (v : FVec Ideal S33x4096 .f32) (x : Vec Ideal S1x33 .f32) (u : Fin 33 → ℝ) (b : Fin 33 → ℝ) (a : Fin 4096)
    (hv : ∀ k, v (ix2 k a) = ((u k : ℝ) : EReal)) (hx : ∀ k, x (ix2 0 k) = ((b k : ℝ) : EReal)) (k : Fin 33) :
    k0_pay15 v x (ix2 k a) = ((Real.exp (u k + b k - top (fun k => u k + b k)) : ℝ) : EReal) := by
  pointwise [k0_pay15]
  simp only [hv, hx, ← EReal.coe_add]
  rw [e_fold (fun k => u k + b k) _ (pick_first _), ← EReal.coe_sub, e_exp, top]
theorem k_tot (v : FVec Ideal S33x4096 .f32) (x : Vec Ideal S1x33 .f32) (a : Fin 4096) :
    k0_pay16 v x (ix2 0 a) = ∑ k, k0_pay15 v x (ix2 k a) := by
  unfold k0_pay16
  generalize k0_pay15 v x = q
  pointwise []

theorem k_T (S : FVec Ideal S1x4096 .f32) (p : FVec Ideal S33x4096 .f32) (g : Vec Ideal S1x33x4096 .f32) (a : Fin 4096) (s : ℝ) (hs : 0 < s) (q γ : Fin 33 → ℝ)
    (hS : S (ix2 0 a) = ((s : ℝ) : EReal)) (hp : ∀ k, p (ix2 k a) = ((q k : ℝ) : EReal)) (hg : ∀ k, g (ix3 0 k a) = ((Real.exp (γ k) : ℝ) : EReal)) (k : Fin 33) :
    vT S p g (ix2 k a) = ((kscore s q γ k : ℝ) : EReal) := by
  pointwise [vT]
  simp only [hS, hp, hg, e_sum, k10, k12]
  rw [e_div _ _ hs.ne', e_max]
  simp only [← EReal.coe_mul, ← EReal.coe_add]
  rfl
theorem k_I (t : FVec Ideal S33x4096 .f32) (a : Fin 4096) (u : Fin 33 → ℝ) (ht : ∀ k, t (ix2 k a) = ((u k : ℝ) : EReal)) (k : Fin 33) (hk : IsFirst u k) :
    vI t (ix2 0 a) = BitVec.ofNat 32 k.val := by
  have hM : ∀ j, vM t (ix2 j a) = ((u k : ℝ) : EReal) := fun j => by
    pointwise [vM]
    simp only [ht]
    exact e_fold u k hk
  unfold vI
  generalize vM t = M at *
  pointwise [iotaC]
  simp only [ht, hM]
  refine minsi_fold (fun x => ((u x : ℝ) : EReal) = ((u k : ℝ) : EReal)) k rfl fun j hj h => ?_
  have := hk.2 j hj
  exact absurd (EReal.coe_injective h) this.ne
theorem k_P (i : IVec S1x4096 32) (p : FVec Ideal S33x4096 .f32) (a : Fin 4096) (q : Fin 33 → ℝ) (hp : ∀ k, p (ix2 k a) = ((q k : ℝ) : EReal)) (k : Fin 33)
    (hi : i (ix2 0 a) = BitVec.ofNat 32 k.val) (j : Fin 33) : vP i p (ix2 j a) = (((if j = k then 0 else q j) : ℝ) : EReal) := by
  pointwise [vP, iotaC]
  rw [hi, hp]
  by_cases h : j = k
  · subst h; simp [Scalar.select, IntOp.cmpi]
  · have hne : BitVec.ofNat 32 j.val ≠ BitVec.ofNat 32 k.val := fun e => h (Fin.ext (by
      have := congrArg BitVec.toInt e
      rw [toInt_small _ (by have := k.isLt; omega), toInt_small _ (by have := j.isLt; omega)] at this
      omega))
    simp [Scalar.select, IntOp.cmpi, beq_eq_false_iff_ne.mpr hne, h]

section Rounds
variable (I : In) (r : Fin 4096 → ℕ) (v : FVec Ideal S33x4096 .f32) (x : Vec Ideal S1x33 .f32) (g : ℕ → Vec Ideal S1x33x4096 .f32)
  (hv : ∀ (k : Fin 33) (a : Fin 4096), v (ix2 k a) = ((∑ y, h5 I (r a) y * I.w6 y k : ℝ) : EReal)) (hx : ∀ k, x (ix2 0 k) = ((I.b6 k : ℝ) : EReal))
  (hg : ∀ n < 6, ∀ (k : Fin 33) (a : Fin 4096), g n (ix3 0 k a) = ((Real.exp (I.ns n (r a) k) : ℝ) : EReal))
include hv hx hg

theorem k_round (n : ℕ) (hn : n < 6) (a : Fin 4096) :
    (∀ k, vQ v x g n (ix2 k a) = ((left I (r a) n k : ℝ) : EReal)) ∧ vC v x g n (ix2 0 a) = BitVec.ofNat 32 (choice I (r a) n).val := by
  have hw : ∀ k, k0_pay15 v x (ix2 k a) = ((wt I (r a) k : ℝ) : EReal) := fun k => k_top v x _ I.b6 a (fun k => hv k a) hx k
  have hS : k0_pay16 v x (ix2 0 a) = ((tot I (r a) : ℝ) : EReal) := by
    rw [k_tot]; simp only [hw, e_sum]; rfl
  have hc : ∀ n < 6, (∀ k, vQ v x g n (ix2 k a) = ((left I (r a) n k : ℝ) : EReal)) → vC v x g n (ix2 0 a) = BitVec.ofNat 32 (choice I (r a) n).val := fun n hn hq => by
    rw [choice_eq]
    exact k_I _ a _ (fun k => k_T _ _ _ a _ (tot_pos I _) _ _ hS hq (fun k => hg n hn k a) k) _ (kscore_first _ _ _ (tot_pos I _) (left_nonneg I _ _))
  suffices hq : ∀ k, vQ v x g n (ix2 k a) = ((left I (r a) n k : ℝ) : EReal) from ⟨hq, hc n hn hq⟩
  induction n with
  | zero => intro k; rw [left_zero]; exact hw k
  | succ n ih =>
    intro k
    rw [left_succ]
    exact k_P _ _ a _ (ih (by omega)) _ (hc n (by omega) (ih (by omega))) k

theorem k_out (a : Fin 4096) (b : Fin 6) :
    rounds v x (g 0) (g 1) (g 2) (g 3) (g 4) (g 5) (ix2 a b) = BitVec.ofNat 32 (choice I (r a) b.val).val := by
  have h := fun n hn => (k_round I r v x g hv hx hg n hn a).2
  rw [rounds_eq]
  have h0 := h 0 (by norm_num); have h1 := h 1 (by norm_num); have h2 := h 2 (by norm_num)
  have h3 := h 3 (by norm_num); have h4 := h 4 (by norm_num); have h5 := h 5 (by norm_num)
  generalize vC v x g 0 = i0 at *
  generalize vC v x g 1 = i1 at *
  generalize vC v x g 2 = i2 at *
  generalize vC v x g 3 = i3 at *
  generalize vC v x g 4 = i4 at *
  generalize vC v x g 5 = i5 at *
  pointwise [vOut]
  fin_vals b with hb <;> simp [hb, Fin.ext_iff, h0, h1, h2, h3, h4, h5]

end Rounds

end Cert.KernelIdeal.Hand
end
-- ==== Proof.KerVal.lean ====
/- What the launch leaves, over the reals: the windows' blocks, the scratch buffers before every point, and the blocks written. -/
module

public import proofs.«01_k».proof.Proof.TrackI
public import proofs.«01_k».proof.Proof.KerStage
public import Idealize.ShloMosaic.Lib.Pipeline.ValueKit
public import Idealize.ShloMosaic.Lib.Claim

@[expose] public section
set_option maxRecDepth 16384
noncomputable section
namespace Cert.KernelIdeal.Hand
open Cert.KernelIdeal Cert.KernelIdeal.Gen Idealize.ShloMosaic Idealize.ShloMosaic.TcCoe Cert.Mo

/-! ## Where the windows and the scratch offsets stand -/

theorem ix_rows : ∀ t : Fin cfg0.N, t.val / 4 = 0 → win0_0.index t = ![t.val, 0] ∧ win0_1.index t = ![t.val, 0] := by decide +kernel
theorem ix_whole : ∀ t : Fin cfg0.N, (win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0])
    ∧ win0_10.index t = ![0, 0] ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] := by decide +kernel
theorem ix_gum : ∀ t : Fin cfg0.N, t.val / 4 = 2 → win0_18.index t = ![0, 0, t.val - 8] := by decide +kernel
theorem off1_at : ∀ t : Fin cfg0.N, t.val / 4 = 0 → k0_off1 (grid0.coords t) = ![4096 * t.val, 0] := by decide +kernel
theorem off2_at : ∀ t : Fin cfg0.N, t.val / 4 = 1 → k0_off2 (grid0.coords t) = ![4096 * (t.val - 4), 0] := by decide +kernel
theorem off3_at : ∀ t : Fin cfg0.N, t.val / 4 = 1 → k0_off3 (grid0.coords t) = ![4096 * (t.val - 4), 0] := by decide +kernel
theorem off4_at : ∀ t : Fin cfg0.N, t.val / 4 = 2 → k0_off4 (grid0.coords t) = ![4096 * (t.val - 8), 0] := by decide +kernel

/-! ## Row blocks of the hidden rows -/

section Rows
variable {n : ℕ} (x : Vec Ideal S16384x512 .f32) (off : Fin 2 → ℕ) (o : ℕ) (ho : off = ![o, 0])
include ho

theorem put3_in (w : Vec Ideal S4096x512 .f32) (a : Fin 16384) (j : Fin 512) (h1 : o ≤ a.val) (h2 : a.val < o + 4096) :
    VecWindow.put x off S4096x512.size w (ix2 a j) = w (ix2 ⟨a.val - o, by omega⟩ j) := by
  subst ho
  rw [VecWindow.put, dif_pos]
  · refine congrArg w (funext fun i => Fin.ext ?_)
    fin_cases i <;> rfl
  · intro i; fin_cases i
    · exact ⟨h1, h2⟩
    · exact ⟨Nat.zero_le _, by have := j.isLt; simpa [ix2] using this⟩
theorem put3_out (w : Vec Ideal S4096x512 .f32) (a : Fin 16384) (j : Fin 512) (h : ¬ (o ≤ a.val ∧ a.val < o + 4096)) :
    VecWindow.put x off S4096x512.size w (ix2 a j) = x (ix2 a j) := by
  subst ho
  rw [VecWindow.put, dif_neg]
  intro hh; exact h (hh 0)
theorem put4_in (w : Vec Ideal S4096x256 .f32) (a : Fin 16384) (j : Fin 512) (h1 : o ≤ a.val) (h2 : a.val < o + 4096) (hj : j.val < 256) :
    VecWindow.put x off S4096x256.size w (ix2 a j) = w (ix2 ⟨a.val - o, by omega⟩ ⟨j.val, hj⟩) := by
  subst ho
  rw [VecWindow.put, dif_pos]
  · refine congrArg w (funext fun i => Fin.ext ?_)
    fin_cases i <;> rfl
  · intro i; fin_cases i
    · exact ⟨h1, h2⟩
    · exact ⟨Nat.zero_le _, by simpa [ix2] using hj⟩
theorem put4_out (w : Vec Ideal S4096x256 .f32) (a : Fin 16384) (j : Fin 512) (h : ¬ (o ≤ a.val ∧ a.val < o + 4096)) :
    VecWindow.put x off S4096x256.size w (ix2 a j) = x (ix2 a j) := by
  subst ho
  rw [VecWindow.put, dif_neg]
  intro hh; exact h (hh 0)
theorem rd3_at (inb) (hb : o + 4096 ≤ 16384) (a : Fin 4096) (j : Fin 512) :
    VecWindow.window x off S4096x512.size inb (ix2 a j) = x (ix2 ⟨o + a.val, by omega⟩ j) := by
  subst ho
  refine congrArg x (funext fun i => Fin.ext ?_)
  fin_cases i <;> simp [ix2, Rect.emb, Rect.unit]
theorem rd4_at (inb) (hb : o + 4096 ≤ 16384) (a : Fin 4096) (j : Fin 256) :
    VecWindow.window x off S4096x256.size inb (ix2 a j) = x (ix2 ⟨o + a.val, by omega⟩ ⟨j.val, by omega⟩) := by
  subst ho
  refine congrArg x (funext fun i => Fin.ext ?_)
  fin_cases i <;> simp [ix2, Rect.emb, Rect.unit]
end Rows

/-! ## The windows' blocks -/

section Value
variable (m : (ℓ : Loc nD τ sig) → Buf (Elt Ideal) ℓ) (c : Dev nD) (I : In)

/-- An argument's contents at the launch. -/
abbrev marg (r : Ref sig .tc) : Buf (Elt Ideal) ((c : Thread nD τ).loc r) := m ((c : Thread nD τ).loc r)

variable (H : Holds I (marg m c main_arg0) (marg m c main_arg1) (marg m c main_arg2) (marg m c main_arg3) (marg m c main_arg4) (marg m c main_arg5) (marg m c main_arg6)
    (marg m c main_arg7) (marg m c main_arg8) (marg m c main_arg9) (marg m c main_arg10) (marg m c main_arg11) (marg m c main_arg12) (marg m c main_arg13)
    (marg m c main_arg14) (marg m c main_arg15) (marg m c main_arg16) (marg m c main_arg17) (marg m c main_arg18))
include H

theorem b_x0 (t : Fin cfg0.N) (h : t.val / 4 = 0) (a : Fin 4096) (j : Fin 128) : iblk m c 0 t (ix2 a j) = ((I.x0 (4096 * t.val + a.val) j : ℝ) : EReal) := by
  refine Eq.trans ?_ (H.x0 ⟨4096 * t.val + a.val, by omega⟩ j)
  blk_ext [iblk, (ix_rows t h).1]
theorem b_x1 (t : Fin cfg0.N) (h : t.val / 4 = 0) (a : Fin 4096) (j : Fin 99) : iblk m c 1 t (ix2 a j) = ((I.x1 (4096 * t.val + a.val) j : ℝ) : EReal) := by
  refine Eq.trans ?_ (H.x1 ⟨4096 * t.val + a.val, by omega⟩ j)
  blk_ext [iblk, (ix_rows t h).2]
theorem b_w1 (t : Fin cfg0.N) (i : Fin 99) (j : Fin 128) : iblk m c 2 t (ix2 i j) = ((I.w1 i j : ℝ) : EReal) := by
  refine Eq.trans ?_ (H.w1 i j); blk_ext [iblk, (ix_whole t).1.1]
theorem b_b1 (t : Fin cfg0.N) (j : Fin 128) : iblk m c 3 t (ix2 0 j) = ((I.b1 j : ℝ) : EReal) := by
  refine Eq.trans ?_ (H.b1 j); blk_simp [iblk]; entry_read; pointwise []; blk_ext [(ix_whole t).1.2.1]
theorem b_w2 (t : Fin cfg0.N) (i : Fin 128) (j : Fin 128) : iblk m c 4 t (ix2 i j) = ((I.w2 i j : ℝ) : EReal) := by
  refine Eq.trans ?_ (H.w2 i j); blk_ext [iblk, (ix_whole t).1.2.2.1]
theorem b_b2 (t : Fin cfg0.N) (j : Fin 128) : iblk m c 5 t (ix2 0 j) = ((I.b2 j : ℝ) : EReal) := by
  refine Eq.trans ?_ (H.b2 j); blk_simp [iblk]; entry_read; pointwise []; blk_ext [(ix_whole t).1.2.2.2.1]
theorem b_w3 (t : Fin cfg0.N) (i : Fin 256) (j : Fin 512) : iblk m c 6 t (ix2 i j) = ((I.w3 i j : ℝ) : EReal) := by
  refine Eq.trans ?_ (H.w3 i j); blk_ext [iblk, (ix_whole t).1.2.2.2.2.1]
theorem b_b3 (t : Fin cfg0.N) (j : Fin 512) : iblk m c 7 t (ix2 0 j) = ((I.b3 j : ℝ) : EReal) := by
  refine Eq.trans ?_ (H.b3 j); blk_simp [iblk]; entry_read; pointwise []; blk_ext [(ix_whole t).1.2.2.2.2.2.1]
theorem b_g3 (t : Fin cfg0.N) (j : Fin 512) : iblk m c 8 t (ix2 0 j) = ((I.g3 j : ℝ) : EReal) := by
  refine Eq.trans ?_ (H.g3 j); blk_simp [iblk]; entry_read; pointwise []; blk_ext [(ix_whole t).1.2.2.2.2.2.2.1]
theorem b_e3 (t : Fin cfg0.N) (j : Fin 512) : iblk m c 9 t (ix2 0 j) = ((I.e3 j : ℝ) : EReal) := by
  refine Eq.trans ?_ (H.e3 j); blk_simp [iblk]; entry_read; pointwise []; blk_ext [(ix_whole t).1.2.2.2.2.2.2.2]
theorem b_w4 (t : Fin cfg0.N) (i : Fin 512) (j : Fin 256) : iblk m c 10 t (ix2 i j) = ((I.w4 i j : ℝ) : EReal) := by
  refine Eq.trans ?_ (H.w4 i j); blk_ext [iblk, (ix_whole t).2.1]
theorem b_b4 (t : Fin cfg0.N) (j : Fin 256) : iblk m c 11 t (ix2 0 j) = ((I.b4 j : ℝ) : EReal) := by
  refine Eq.trans ?_ (H.b4 j); blk_simp [iblk]; entry_read; pointwise []; blk_ext [(ix_whole t).2.2.1]
theorem b_g4 (t : Fin cfg0.N) (j : Fin 256) : iblk m c 12 t (ix2 0 j) = ((I.g4 j : ℝ) : EReal) := by
  refine Eq.trans ?_ (H.g4 j); blk_simp [iblk]; entry_read; pointwise []; blk_ext [(ix_whole t).2.2.2.1]
theorem b_e4 (t : Fin cfg0.N) (j : Fin 256) : iblk m c 13 t (ix2 0 j) = ((I.e4 j : ℝ) : EReal) := by
  refine Eq.trans ?_ (H.e4 j); blk_simp [iblk]; entry_read; pointwise []; blk_ext [(ix_whole t).2.2.2.2.1]
theorem b_w5 (t : Fin cfg0.N) (i : Fin 256) (j : Fin 128) : iblk m c 14 t (ix2 i j) = ((I.w5 i j : ℝ) : EReal) := by
  refine Eq.trans ?_ (H.w5 i j); blk_ext [iblk, (ix_whole t).2.2.2.2.2.1]
theorem b_b5 (t : Fin cfg0.N) (j : Fin 128) : iblk m c 15 t (ix2 0 j) = ((I.b5 j : ℝ) : EReal) := by
  refine Eq.trans ?_ (H.b5 j); blk_simp [iblk]; entry_read; pointwise []; blk_ext [(ix_whole t).2.2.2.2.2.2.1]
theorem b_w6 (t : Fin cfg0.N) (i : Fin 128) (j : Fin 33) : iblk m c 16 t (ix2 i j) = ((I.w6 i j : ℝ) : EReal) := by
  refine Eq.trans ?_ (H.w6 i j); blk_ext [iblk, (ix_whole t).2.2.2.2.2.2.2.1]
theorem b_b6 (t : Fin cfg0.N) (j : Fin 33) : iblk m c 17 t (ix2 0 j) = ((I.b6 j : ℝ) : EReal) := by
  refine Eq.trans ?_ (H.b6 j); blk_simp [iblk]; entry_read; pointwise []; blk_ext [(ix_whole t).2.2.2.2.2.2.2.2]
theorem b_ns (t : Fin cfg0.N) (h : t.val / 4 = 2) (n : Fin 6) (k : Fin 33) (a : Fin 4096) :
    iblk m c 18 t (ix3 n k a) = ((Real.exp (I.ns n.val (4096 * (t.val - 8) + a.val) k) : ℝ) : EReal) := by
  rw [← e_exp, ← H.ns n ⟨4096 * (t.val - 8) + a.val, by have := lt12 t; omega⟩ k]
  blk_simp [iblk]
  entry_read
  pointwise []
  refine congrArg Ideal.exp (congrArg (marg m c main_arg18) ?_)
  blk_ext [ix_gum t h]

/-! ## The scratch buffers -/

/-- The rows' first hidden layer at a point of the first phase. -/
theorem p_H3 (t : Fin cfg0.N) (h : t.val / 4 = 0) (a : Fin 4096) (j : Fin 512) : H3 m c t (ix2 a j) = ((h3 I (4096 * t.val + a.val) j : ℝ) : EReal) :=
  k_H3 I (fun a => 4096 * t.val + a.val) _ _ _ _ _ _ _ _ (b_x0 m c I H t h) (b_x1 m c I H t h) (b_w1 m c I H t) (b_b1 m c I H t) (b_w2 m c I H t) (b_b2 m c I H t)
    (b_w3 m c I H t) (b_b3 m c I H t) a j

/-- The first phase: the rows done hold the first hidden layer, and the sums are those of the rows done. -/
structure P0 (n : ℕ) (s : St Ideal) : Prop where
  rows : ∀ (a : Fin 16384) (j : Fin 512), a.val < 4096 * n → s.a (ix2 a j) = ((h3 I a.val j : ℝ) : EReal)
  s0 : 0 < n → ∀ j, s.b (ix2 0 j) = ((su (fun a => h3 I a j) (4096 * n) : ℝ) : EReal)
  s1 : 0 < n → ∀ j, s.b (ix2 1 j) = ((sq (fun a => h3 I a j) (4096 * n) : ℝ) : EReal)

theorem p0 (d : St Ideal) (n : ℕ) (hn : n ≤ 4) : P0 I n (stAt m c d n) := by
  induction n with
  | zero => exact ⟨fun a j h => absurd h (by omega), fun h => absurd h (by omega), fun h => absurd h (by omega)⟩
  | succ n ih =>
    have ih := ih (by omega)
    have hN : n < cfg0.N := Nat.lt_of_lt_of_eq (by omega : n < 12) N_0.symm
    have hS := stAt_succ m c d ⟨n, hN⟩
    have hp : (⟨n, hN⟩ : Fin cfg0.N).val / 4 = 0 := by show n / 4 = 0; omega
    have c1 := (cond1_iff ⟨n, hN⟩).mpr hp
    generalize ht : (⟨n, hN⟩ : Fin cfg0.N) = t at *
    have htv : t.val = n := by rw [← ht]
    rw [htv] at hS
    generalize stAt m c d n = s at *
    rw [hS]
    have hk := fun j => k_sum3 (fun a => 4096 * t.val + a.val) _ _ _ _ _ _ _ _ (h3 I) (p_H3 m c I H t hp) j
    have hrow : ∀ (a : Fin 16384) (j : Fin 512), a.val < 4096 * (n + 1) → VecWindow.put s.a (k0_off1 (grid0.coords t)) S4096x512.size (W3 m c t) (ix2 a j) = ((h3 I a.val j : ℝ) : EReal) := by
      intro a j h
      by_cases hr : 4096 * t.val ≤ a.val
      · rw [put3_in _ _ _ (off1_at t hp) _ a j hr (by omega), W3, k_W3]
        refine (p_H3 m c I H t hp _ _).trans ?_
        show ((h3 I (4096 * t.val + (a.val - 4096 * t.val)) j : ℝ) : EReal) = _
        rw [show 4096 * t.val + (a.val - 4096 * t.val) = a.val by omega]
      · rw [put3_out _ _ _ (off1_at t hp) _ a j (by omega)]
        exact ih.rows a j (by omega)
    by_cases hz : t.val % 4 = 0
    · have hn0 : n = 0 := by omega
      rw [step_A m c t c1 ((first_iff t).mpr hz)]
      refine ⟨hrow, fun _ j => ?_, fun _ j => ?_⟩
      · refine ((hk j).1).trans ?_
        rw [htv, hn0, show 4096 * (0 + 1) = 0 + 4096 from rfl, su_add]; simp [su]
      · refine ((hk j).2).trans ?_
        rw [htv, hn0, show 4096 * (0 + 1) = 0 + 4096 from rfl, sq_add]; simp [sq]
    · have hn0 : 0 < n := by omega
      rw [step_B m c t c1 (fun e => hz ((first_iff t).mp e))]
      refine ⟨hrow, fun _ j => ?_, fun _ j => ?_⟩
      · refine (k_acc3 _ _ _ _).trans ?_
        rw [ih.s0 hn0 j, (hk j).1, ← EReal.coe_add, htv, mul_add, su_add]
      · refine (k_acc3 _ _ _ _).trans ?_
        rw [ih.s1 hn0 j, (hk j).2, ← EReal.coe_add, htv, mul_add, sq_add]

/-- The second phase: the rows done hold the second hidden layer, the others still the first. -/
structure P1 (n : ℕ) (s : St Ideal) : Prop where
  rest : ∀ (a : Fin 16384) (j : Fin 512), 4096 * n ≤ a.val → s.a (ix2 a j) = ((h3 I a.val j : ℝ) : EReal)
  rows : ∀ (a : Fin 16384) (j : Fin 512) (k : Fin 256), a.val < 4096 * n → j.val = k.val → s.a (ix2 a j) = ((h4 I a.val k : ℝ) : EReal)
  s0 : ∀ j, s.b (ix2 0 j) = ((su (fun a => h3 I a j) 16384 : ℝ) : EReal)
  s1 : ∀ j, s.b (ix2 1 j) = ((sq (fun a => h3 I a j) 16384 : ℝ) : EReal)
  e0 : 0 < n → ∀ j, s.e (ix2 0 j) = ((su (fun a => h4 I a j) (4096 * n) : ℝ) : EReal)
  e1 : 0 < n → ∀ j, s.e (ix2 1 j) = ((sq (fun a => h4 I a j) (4096 * n) : ℝ) : EReal)

theorem p1 (d : St Ideal) (n : ℕ) (hn : n ≤ 4) : P1 I n (stAt m c d (4 + n)) := by
  induction n with
  | zero =>
    have h := p0 m c I H d 4 le_rfl
    exact ⟨fun a j _ => h.rows a j a.isLt, fun a j k h => absurd h (by omega), h.s0 (by omega), h.s1 (by omega), fun h => absurd h (by omega), fun h => absurd h (by omega)⟩
  | succ n ih =>
    have ih := ih (by omega)
    have hN : 4 + n < cfg0.N := Nat.lt_of_lt_of_eq (by omega : 4 + n < 12) N_0.symm
    have hS := stAt_succ m c d ⟨4 + n, hN⟩
    have hp : (⟨4 + n, hN⟩ : Fin cfg0.N).val / 4 = 1 := by show (4 + n) / 4 = 1; omega
    have c1 : ¬ k0_cond1 (grid0.coords ⟨4 + n, hN⟩) = 1#1 := fun e => by have := (cond1_iff _).mp e; omega
    have c4 := (cond4_iff ⟨4 + n, hN⟩).mpr hp
    generalize ht : (⟨4 + n, hN⟩ : Fin cfg0.N) = t at *
    have htv : t.val = 4 + n := by rw [← ht]
    have htn : 4096 * (t.val - 4) = 4096 * n := by omega
    rw [htv] at hS
    rw [← add_assoc]
    generalize stAt m c d (4 + n) = s at *
    rw [hS]
    have hrd : ∀ (a : Fin 4096) (j : Fin 512), rd3 t c4 s.a (ix2 a j) = ((h3 I (4096 * n + a.val) j : ℝ) : EReal) := fun a j =>
      (rd3_at s.a _ _ ((off2_at t hp).trans (by rw [htn])) _ (by omega) a j).trans (ih.rest _ j (by show 4096 * n ≤ 4096 * n + a.val; omega))
    have hH : ∀ (a : Fin 4096) (j : Fin 256), H4 m c t s.b (rd3 t c4 s.a) (ix2 a j) = ((h4 I (4096 * n + a.val) j : ℝ) : EReal) := fun a j =>
      k_H4 I (fun a => 4096 * n + a.val) _ _ _ _ _ _ (b_g3 m c I H t) (b_e3 m c I H t) (b_w4 m c I H t) (b_b4 m c I H t) ih.s0 ih.s1 hrd a j
    have hk := fun j => k_sum4 (fun a => 4096 * n + a.val) _ _ _ _ _ _ (h4 I) hH j
    have hrest : ∀ (a : Fin 16384) (j : Fin 512), 4096 * (n + 1) ≤ a.val → VecWindow.put s.a (k0_off3 (grid0.coords t)) S4096x256.size (W4 m c t s.b (rd3 t c4 s.a)) (ix2 a j) = ((h3 I a.val j : ℝ) : EReal) := by
      intro a j h
      rw [put4_out _ _ _ (off3_at t hp) _ a j (by omega)]
      exact ih.rest a j (by omega)
    have hrow : ∀ (a : Fin 16384) (j : Fin 512) (k : Fin 256), a.val < 4096 * (n + 1) → j.val = k.val → VecWindow.put s.a (k0_off3 (grid0.coords t)) S4096x256.size (W4 m c t s.b (rd3 t c4 s.a)) (ix2 a j) = ((h4 I a.val k : ℝ) : EReal) := by
      intro a j k h hjk
      by_cases hr : 4096 * (t.val - 4) ≤ a.val
      · rw [put4_in _ _ _ (off3_at t hp) _ a j hr (by omega) (by have := k.isLt; omega), W4, k_W4]
        refine (hH _ _).trans ?_
        rw [show (⟨j.val, by have := k.isLt; omega⟩ : Fin 256) = k from Fin.ext hjk]
        show ((h4 I (4096 * n + (a.val - 4096 * (t.val - 4))) k : ℝ) : EReal) = _
        rw [show 4096 * n + (a.val - 4096 * (t.val - 4)) = a.val by omega]
      · rw [put4_out _ _ _ (off3_at t hp) _ a j (by omega)]
        exact ih.rows a j k (by omega) hjk
    by_cases hz : t.val % 4 = 0
    · have hn0 : n = 0 := by omega
      rw [step_C m c t c1 c4 ((first_iff t).mpr hz)]
      refine ⟨hrest, hrow, ih.s0, ih.s1, fun _ j => ?_, fun _ j => ?_⟩
      · refine ((hk j).1).trans ?_
        rw [hn0, show 4096 * (0 + 1) = 0 + 4096 from rfl, su_add]; simp [su]
      · refine ((hk j).2).trans ?_
        rw [hn0, show 4096 * (0 + 1) = 0 + 4096 from rfl, sq_add]; simp [sq]
    · have hn0 : 0 < n := by omega
      rw [step_D m c t c1 c4 (fun e => hz ((first_iff t).mp e))]
      refine ⟨hrest, hrow, ih.s0, ih.s1, fun _ j => ?_, fun _ j => ?_⟩
      · refine (k_acc4 _ _ _ _).trans ?_
        rw [ih.e0 hn0 j, (hk j).1, ← EReal.coe_add, mul_add, su_add]
      · refine (k_acc4 _ _ _ _).trans ?_
        rw [ih.e1 hn0 j, (hk j).2, ← EReal.coe_add, mul_add, sq_add]

/-- The third phase leaves the scratch buffers alone. -/
theorem p2 (d : St Ideal) (n : ℕ) (hn : n ≤ 4) : P1 I 4 (stAt m c d (8 + n)) := by
  induction n with
  | zero => exact p1 m c I H d 4 le_rfl
  | succ n ih =>
    have hN : 8 + n < cfg0.N := Nat.lt_of_lt_of_eq (by omega : 8 + n < 12) N_0.symm
    have hS := stAt_succ m c d ⟨8 + n, hN⟩
    rw [step_E m c _ (fun e => by have h : (8 + n) / 4 = 0 := (cond1_iff _).mp e; omega) (fun e => by have h : (8 + n) / 4 = 1 := (cond4_iff _).mp e; omega)] at hS
    rw [← add_assoc]
    exact hS ▸ ih (by omega)

theorem gum_at (t : Fin cfg0.N) (hp : t.val / 4 = 2) (n : ℕ) (hn : n < 6) (h) (k : Fin 33) (a : Fin 4096) :
    gumAt (F := Ideal) (iblk m c 18 t) n h (ix3 0 k a) = ((Real.exp (I.ns n (4096 * (t.val - 8) + a.val) k) : ℝ) : EReal) := by
  refine Eq.trans (congrArg (iblk m c 18 t) (funext fun i => Fin.ext ?_)) (b_ns m c I H t hp ⟨n, hn⟩ k a)
  fin_cases i <;> simp [ix3, Rect.emb, Rect.unit]

/-- The block of choices that a point of the third phase writes. -/
theorem out_at (d : St Ideal) (t : Fin cfg0.N) (hp : t.val / 4 = 2) (h : k0_cond7 (grid0.coords t) = 1#1) (a : Fin 4096) (b : Fin 6) :
    outAt m c t h (stAt m c d t.val) (ix2 a b) = BitVec.ofNat 32 (choice I (4096 * (t.val - 8) + a.val) b.val).val := by
  have hlt := lt12 t
  have hs : P1 I 4 (stAt m c d t.val) := by
    have := p2 m c I H d (t.val - 8) (by omega)
    rwa [show 8 + (t.val - 8) = t.val by omega] at this
  generalize stAt m c d t.val = s at *
  have hrd : ∀ (a : Fin 4096) (j : Fin 256), rd4 t h s.a (ix2 a j) = ((h4 I (4096 * (t.val - 8) + a.val) j : ℝ) : EReal) := fun a j =>
    (rd4_at s.a _ _ (off4_at t hp) _ (by omega) a j).trans (hs.rows _ _ j (by show 4096 * (t.val - 8) + a.val < _; omega) rfl)
  have hl := k_logit I (fun a => 4096 * (t.val - 8) + a.val) _ _ _ _ _ _ _ (b_g4 m c I H t) (b_e4 m c I H t) (b_w5 m c I H t) (b_b5 m c I H t) (b_w6 m c I H t)
    (hs.e0 (by omega)) (hs.e1 (by omega)) hrd
  have hinb : ∀ n, n < 6 → ∀ a, (![n, 0, 0] : Fin 3 → ℕ) a + S1x33x4096.size a ≤ S6x33x4096.size a := by decide +kernel
  have := k_out I (fun a => 4096 * (t.val - 8) + a.val) _ _ (fun n => if hn : n < 6 then gumAt (iblk m c 18 t) n (hinb n hn) else fun _ => 0) hl (b_b6 m c I H t)
    (fun n hn k a => by rw [dif_pos hn]; exact gum_at m c I H t hp n hn _ k a) a b
  exact this

end Value

end Cert.KernelIdeal.Hand
end
-- ==== Proof.KerArr.lean ====
/- The result array after the launch: the last four points write it whole. -/
module

public import proofs.«01_k».proof.Proof.KerVal

@[expose] public section
set_option maxRecDepth 16384
noncomputable section
namespace Cert.KernelIdeal.Hand
open Cert.KernelIdeal Cert.KernelIdeal.Gen Idealize.ShloMosaic Idealize.ShloMosaic.TcCoe Idealize.ShloMosaic.Pipeline Cert.Mo

theorem ix_out : ∀ t : Fin cfg0.N, win0_19.index t = ![t.val % 4, 0] := by decide +kernel
theorem flush_out : ∀ t : Fin cfg0.N, (cfg0.win 19).flush t = true := by decide +kernel
theorem cond7_of : ∀ t : Fin cfg0.N, t.val / 4 = 2 → k0_cond7 (grid0.coords t) = 1#1 := by decide +kernel

/-- Where the row block of a point stands in the result. -/
theorem out_row (t : Fin cfg0.N) (y : ((cfg0.win 19).xblock (cfg0.grid.coords t)).Idx) :
    ((((cfg0.win 19).blk t).view.emb y) 0).val = 4096 * (t.val % 4) + (y 0).val := by
  refine ((cfg0.win 19).rect_emb_val t y 0).trans ?_
  rw [show (cfg0.win 19).index t = ![t.val % 4, 0] from ix_out t]
  show t.val % 4 * 4096 + (y 0).val = _
  omega
theorem out_col (t : Fin cfg0.N) (y : ((cfg0.win 19).xblock (cfg0.grid.coords t)).Idx) :
    ((((cfg0.win 19).blk t).view.emb y) 1).val = (y 1).val := by
  refine ((cfg0.win 19).rect_emb_val t y 1).trans ?_
  rw [show (cfg0.win 19).index t = ![t.val % 4, 0] from ix_out t]
  show 0 * 6 + (y 1).val = _
  omega

theorem not_in_out (t : Fin cfg0.N) (i : S16384x6.Idx) (h : (i 0).val < 4096 * (t.val % 4 + 1)) (hin : i ∉ ((cfg0.win 19).blk t).view.set) :
    (i 0).val < 4096 * (t.val % 4) := by
  by_contra hlt
  have h1 : (i 1).val < 6 := (i 1).isLt
  refine hin ?_
  mem_blk [ix_out t]
  omega

variable (m : (ℓ : Loc nD τ sig) → Buf (Elt Ideal) ℓ) (c : Dev nD) (I : In)
  (H : Holds I (marg m c main_arg0) (marg m c main_arg1) (marg m c main_arg2) (marg m c main_arg3) (marg m c main_arg4) (marg m c main_arg5)
    (marg m c main_arg6) (marg m c main_arg7) (marg m c main_arg8) (marg m c main_arg9) (marg m c main_arg10) (marg m c main_arg11)
    (marg m c main_arg12) (marg m c main_arg13) (marg m c main_arg14) (marg m c main_arg15) (marg m c main_arg16) (marg m c main_arg17) (marg m c main_arg18))
include H

theorem out_flushed (after : (w : Fin cfg0.W) → Fin cfg0.N → (cfg0.win w).block.Idx → Elt Ideal (cfg0.win w).elt)
    (hL : ∀ t, (rdat m c).Leaves 19 t (after 19 t)) (t : Fin cfg0.N) (hp : t.val / 4 = 2) (a : Fin 4096) (b : Fin 6) :
    after 19 t (ix2 a b) = BitVec.ofNat 32 (choice I (4096 * (t.val - 8) + a.val) b.val).val := by
  have h7 := cond7_of t hp
  obtain ⟨d, hd⟩ := Dat.toRRel_leaves (dats m 0 c) (rfl : fgt 19 = true) (hL t) h7
  rw [hd]
  exact out_at m c I H d t hp h7 a b

theorem out_upto (after : (w : Fin cfg0.W) → Fin cfg0.N → (cfg0.win w).block.Idx → Elt Ideal (cfg0.win w).elt)
    (hL : ∀ t, (rdat m c).Leaves 19 t (after 19 t)) (k : ℕ) (hk : k ≤ 4) (i : S16384x6.Idx) (hi : (i 0).val < 4096 * k) :
    ((rdat m c).withAfter after).arrAt 19 (8 + k) i = BitVec.ofNat 32 (choice I (i 0).val (i 1).val).val := by
  induction k with
  | zero => omega
  | succ k ih =>
    have hN : cfg0.N = 12 := rfl
    have hn : 8 + k < cfg0.N := by omega
    rw [show 8 + (k + 1) = (8 + k) + 1 from rfl, Dat.arrAt_succ_apply, dif_pos hn, if_pos (flush_out _)]
    by_cases hin : i ∈ ((cfg0.win 19).blk ⟨8 + k, hn⟩).view.set
    · obtain ⟨y, -, rfl⟩ := Finset.mem_map.mp hin
      rw [View.write_emb_of_mem _ _ (Finset.mem_univ y)]
      have h0 := out_row ⟨8 + k, hn⟩ y
      have h1 := out_col ⟨8 + k, hn⟩ y
      have e : (8 + k) % 4 = k := by omega
      dsimp only at h0
      rw [e] at h0
      rw [h0, h1]
      refine Eq.trans ?_ ((out_flushed m c I H after hL ⟨8 + k, hn⟩ (by dsimp only; omega) ⟨(y 0).val, (y 0).isLt⟩ ⟨(y 1).val, (y 1).isLt⟩).trans ?_)
      · exact congrArg (after 19 ⟨8 + k, hn⟩) (ix2_eta _).symm
      dsimp only
      rw [show 8 + k - 8 = k from by omega]
    · rw [View.write_of_not_mem _ _ _ (by rwa [View.setOn_univ])]
      refine ih (by omega) ?_
      have e : (8 + k) % 4 = k := by omega
      have := not_in_out (t := ⟨8 + k, hn⟩) i (by dsimp only; rw [e]; exact hi) hin
      dsimp only at this
      rwa [e] at this

/-- What the result array holds after a run: the choices, round by round. -/
theorem result (r : PUnit × MemSt nD τ sig (Elt Ideal)) (h : RDat.FramePost cfg0 (rdat m) (V m) r) (i : S16384x6.Idx) :
    r.2.mem ((c.tc : Thread nD τ).loc main_v12) i = BitVec.ofNat 32 (choice I (i 0).val (i 1).val).val := by
  obtain ⟨after, hL, hA⟩ := h.exists_exact c
  refine (congrFun (hA 19) i).trans ?_
  exact out_upto m c I H after (fun t => hL 19 t (flush_out t)) 4 le_rfl i (i 0).isLt

end Cert.KernelIdeal.Hand
end
-- ==== Proof.RefRun.lean ====
/- The reference's program as the list of its host operations, cut where its mathematics is, and what each piece leaves. -/
module

public import proofs.«01_k».proof.Proof.Gen.ReferenceIdeal
public import Idealize.ShloMosaic.Lib.StableHlo.Run
public import Idealize.ShloMosaic.Lib.Pipeline.Frame

@[expose] public section

set_option Elab.async false
set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The arrays of a shape and an element type. -/
abbrev Arr (F : FTy → Type) [FloatOps F] (s : Shape) (e : EltTy) : Type := (⟨s, e⟩ : BufTy).Contents (Elt F)

/-- Two arrays of 128 columns side by side. -/
def fCat : (⟨S16384x128, .f32⟩ : BufTy).Contents (Elt F) → (⟨S16384x128, .f32⟩ : BufTy).Contents (Elt F) → (⟨S16384x256, .f32⟩ : BufTy).Contents (Elt F) :=
  (fun a b => concatenate S16384x256 1 [⟨S16384x128, a⟩, ⟨S16384x128, b⟩] concatenates_S16384x128_S16384x128_S16384x256_d1)

/-- Six columns of choices side by side. -/
def fStack : (main_v195 : Ref sig .tc).ty.Contents (Elt F) → (main_v196 : Ref sig .tc).ty.Contents (Elt F) → (main_v197 : Ref sig .tc).ty.Contents (Elt F) → (main_v198 : Ref sig .tc).ty.Contents (Elt F) → (main_v199 : Ref sig .tc).ty.Contents (Elt F) → (main_v200 : Ref sig .tc).ty.Contents (Elt F) → (main_v201 : Ref sig .tc).ty.Contents (Elt F) :=
  (fun u0 u1 u2 u3 u4 u5 => (concatenate S16384x6 1 [⟨S16384x1, (u0 : (⟨S16384x1, .i32⟩ : BufTy).Contents (Elt F))⟩, ⟨S16384x1, (u1 : (⟨S16384x1, .i32⟩ : BufTy).Contents (Elt F))⟩, ⟨S16384x1, (u2 : (⟨S16384x1, .i32⟩ : BufTy).Contents (Elt F))⟩, ⟨S16384x1, (u3 : (⟨S16384x1, .i32⟩ : BufTy).Contents (Elt F))⟩, ⟨S16384x1, (u4 : (⟨S16384x1, .i32⟩ : BufTy).Contents (Elt F))⟩, ⟨S16384x1, (u5 : (⟨S16384x1, .i32⟩ : BufTy).Contents (Elt F))⟩] concatenates_S16384x1_S16384x1_S16384x1_S16384x1_S16384x1_S16384x1_S16384x6_d1 : (⟨S16384x6, .i32⟩ : BufTy).Contents (Elt F)))

/-- The first hidden layer of the condition: a dense layer and its leaky rectifier. -/
def fL1 (x1 : Arr F S16384x99 .f32) (x2 : Arr F S99x128 .f32) (x3 : Arr F S128 .f32) : Arr F S16384x128 .f32 :=
  let v0 : Arr F S16384x128 .f32 := (fun l r => Host.dotGeneral dot_S16384x99_S99x128_S16384x128_1_0_0_1_n_n none l r) x1 x2
  let v1 : Arr F S1x128 .f32 := (broadcastInDim S1x128 ![1] bcast_S128_S1x128_1) x3
  let v2 : Arr F S16384x128 .f32 := (broadcastInDim S16384x128 ![0, 1] bcast_S1x128_S16384x128_0_1) v1
  let v3 : Arr F S16384x128 .f32 := (addf) v0 v2
  let cst : Arr F S_ .f32 := (constant S_ .f32 0x00000000#32)
  let v4 : Arr F S16384x128 .f32 := (broadcastInDim S16384x128 ![] bcast_S_S16384x128) cst
  let v5 : Arr F S16384x128 .i1 := (cmpf .oge) v3 v4
  let cst_0 : Arr F S_ .f32 := (constant S_ .f32 0x3E4CCCCD#32)
  let v6 : Arr F S16384x128 .f32 := (broadcastInDim S16384x128 ![] bcast_S_S16384x128) cst_0
  let v7 : Arr F S16384x128 .f32 := (mulf) v6 v3
  let v8 : Arr F S16384x128 .f32 := select v5 v3 v7
  v8

/-- The second hidden layer of the condition. -/
def fL2 (v8 : Arr F S16384x128 .f32) (x4 : Arr F S128x128 .f32) (x5 : Arr F S128 .f32) : Arr F S16384x128 .f32 :=
  let v9 : Arr F S16384x128 .f32 := (fun l r => Host.dotGeneral dot_S16384x128_S128x128_S16384x128_1_0_0_1_n_n none l r) v8 x4
  let v10 : Arr F S1x128 .f32 := (broadcastInDim S1x128 ![1] bcast_S128_S1x128_1) x5
  let v11 : Arr F S16384x128 .f32 := (broadcastInDim S16384x128 ![0, 1] bcast_S1x128_S16384x128_0_1) v10
  let v12 : Arr F S16384x128 .f32 := (addf) v9 v11
  let cst_1 : Arr F S_ .f32 := (constant S_ .f32 0x00000000#32)
  let v13 : Arr F S16384x128 .f32 := (broadcastInDim S16384x128 ![] bcast_S_S16384x128) cst_1
  let v14 : Arr F S16384x128 .i1 := (cmpf .oge) v12 v13
  let cst_2 : Arr F S_ .f32 := (constant S_ .f32 0x3E4CCCCD#32)
  let v15 : Arr F S16384x128 .f32 := (broadcastInDim S16384x128 ![] bcast_S_S16384x128) cst_2
  let v16 : Arr F S16384x128 .f32 := (mulf) v15 v12
  let v17 : Arr F S16384x128 .f32 := select v14 v12 v16
  v17

/-- The layer over the noise and the condition, side by side. -/
def fL3 (x0 : Arr F S16384x128 .f32) (v17 : Arr F S16384x128 .f32) (x6 : Arr F S256x512 .f32) (x7 : Arr F S512 .f32) : Arr F S16384x512 .f32 :=
  let v18 : Arr F S16384x256 .f32 := (fCat (F := F)) x0 v17
  let v19 : Arr F S16384x512 .f32 := (fun l r => Host.dotGeneral dot_S16384x256_S256x512_S16384x512_1_0_0_1_n_n none l r) v18 x6
  let v20 : Arr F S1x512 .f32 := (broadcastInDim S1x512 ![1] bcast_S512_S1x512_1) x7
  let v21 : Arr F S16384x512 .f32 := (broadcastInDim S16384x512 ![0, 1] bcast_S1x512_S16384x512_0_1) v20
  let v22 : Arr F S16384x512 .f32 := (addf) v19 v21
  let cst_3 : Arr F S_ .f32 := (constant S_ .f32 0x00000000#32)
  let v23 : Arr F S16384x512 .f32 := (broadcastInDim S16384x512 ![] bcast_S_S16384x512) cst_3
  let v24 : Arr F S16384x512 .i1 := (cmpf .oge) v22 v23
  let cst_4 : Arr F S_ .f32 := (constant S_ .f32 0x3E4CCCCD#32)
  let v25 : Arr F S16384x512 .f32 := (broadcastInDim S16384x512 ![] bcast_S_S16384x512) cst_4
  let v26 : Arr F S16384x512 .f32 := (mulf) v25 v22
  let v27 : Arr F S16384x512 .f32 := select v24 v22 v26
  v27

/-- The mean of each of the 512 columns. -/
def fMean1 (v27 : Arr F S16384x512 .f32) : Arr F S1x512 .f32 :=
  let cst_5 : Arr F S_ .f32 := (constant S_ .f32 0x00000000#32)
  let v28 : Arr F S512 .f32 := (fun x v => Host.reduceAdd x v reducesTo_S16384x512_S512_d0 h_S_) v27 cst_5
  let v29 : Arr F S1x512 .f32 := (broadcastInDim S1x512 ![1] bcast_S512_S1x512_1) v28
  let cst_6 : Arr F S_ .f32 := (constant S_ .f32 0x46800000#32)
  let v30 : Arr F S1x512 .f32 := (broadcastInDim S1x512 ![] bcast_S_S1x512) cst_6
  let v31 : Arr F S1x512 .f32 := (Host.divf) v29 v30
  v31

/-- The variance of each of the 512 columns. -/
def fVar1 (v27 : Arr F S16384x512 .f32) : Arr F S1x512 .f32 :=
  let c : Arr F S_ .i32 := (constantI S_ 32 0#32)
  let call3_cst : Arr F S_ .f32 := (constant S_ .f32 0x00000000#32)
  let call3_v0 : Arr F S512 .f32 := (fun x v => Host.reduceAdd x v reducesTo_S16384x512_S512_d0 h_S_) v27 call3_cst
  let call3_v1 : Arr F S1x512 .f32 := (broadcastInDim S1x512 ![1] bcast_S512_S1x512_1) call3_v0
  let call3_cst_0 : Arr F S_ .f32 := (constant S_ .f32 0x46800000#32)
  let call3_v2 : Arr F S1x512 .f32 := (broadcastInDim S1x512 ![] bcast_S_S1x512) call3_cst_0
  let call3_v3 : Arr F S1x512 .f32 := Host.divf call3_v1 call3_v2
  let call3_v4 : Arr F S16384x512 .f32 := (broadcastInDim S16384x512 ![0, 1] bcast_S1x512_S16384x512_0_1) call3_v3
  let call3_v5 : Arr F S16384x512 .f32 := subf v27 call3_v4
  let call3_v6 : Arr F S16384x512 .f32 := mulf call3_v5 call3_v5
  let call3_v7 : Arr F S_ .f32 := (sitofp .f32) c
  let call3_cst_1 : Arr F S_ .f32 := (constant S_ .f32 0x46800000#32)
  let call3_v8 : Arr F S_ .f32 := subf call3_cst_1 call3_v7
  let call3_cst_2 : Arr F S_ .f32 := (constant S_ .f32 0x00000000#32)
  let call3_v9 : Arr F S512 .f32 := (fun x v => Host.reduceAdd x v reducesTo_S16384x512_S512_d0 h_S_) call3_v6 call3_cst_2
  let call3_v10 : Arr F S1x512 .f32 := (broadcastInDim S1x512 ![1] bcast_S512_S1x512_1) call3_v9
  let call3_v11 : Arr F S1x512 .f32 := (broadcastInDim S1x512 ![] bcast_S_S1x512) call3_v8
  let call3_v12 : Arr F S1x512 .f32 := Host.divf call3_v10 call3_v11
  let call3_cst_3 : Arr F S_ .f32 := (constant S_ .f32 0x00000000#32)
  let call3_v13 : Arr F S_ .i1 := (cmpf .ogt) call3_v8 call3_cst_3
  let call3_cst_4 : Arr F S_ .f32 := (constant S_ .f32 0x7FC00000#32)
  let call3_call0_v0 : Arr F S_ .f32 := id call3_cst_4
  let call3_call0_v1 : Arr F S1x512 .f32 := (broadcastInDim S1x512 ![] bcast_S_S1x512) call3_call0_v0
  let v32 : Arr F S1x512 .f32 := (fun p a b => select (broadcastInDim S1x512 ![] bcast_S_S1x512 p) a b) call3_v13 call3_v12 call3_call0_v1
  v32

/-- The first normalisation: shift, scale and offset of every column. -/
def fNorm1 (v27 : Arr F S16384x512 .f32) (v31 : Arr F S1x512 .f32) (v32 : Arr F S1x512 .f32) (x8 : Arr F S512 .f32) (x9 : Arr F S512 .f32) : Arr F S16384x512 .f32 :=
  let v33 : Arr F S16384x512 .f32 := (broadcastInDim S16384x512 ![0, 1] bcast_S1x512_S16384x512_0_1) v31
  let v34 : Arr F S16384x512 .f32 := (subf) v27 v33
  let v35 : Arr F S1x512 .f32 := (broadcastInDim S1x512 ![1] bcast_S512_S1x512_1) x8
  let v36 : Arr F S16384x512 .f32 := (broadcastInDim S16384x512 ![0, 1] bcast_S1x512_S16384x512_0_1) v35
  let v37 : Arr F S16384x512 .f32 := (mulf) v36 v34
  let cst_7 : Arr F S_ .f32 := (constant S_ .f32 0x3727C5AC#32)
  let v38 : Arr F S1x512 .f32 := (broadcastInDim S1x512 ![] bcast_S_S1x512) cst_7
  let v39 : Arr F S1x512 .f32 := (addf) v32 v38
  let v40 : Arr F S1x512 .f32 := (Host.sqrt) v39
  let v41 : Arr F S16384x512 .f32 := (broadcastInDim S16384x512 ![0, 1] bcast_S1x512_S16384x512_0_1) v40
  let v42 : Arr F S16384x512 .f32 := (Host.divf) v37 v41
  let v43 : Arr F S1x512 .f32 := (broadcastInDim S1x512 ![1] bcast_S512_S1x512_1) x9
  let v44 : Arr F S16384x512 .f32 := (broadcastInDim S16384x512 ![0, 1] bcast_S1x512_S16384x512_0_1) v43
  let v45 : Arr F S16384x512 .f32 := (addf) v42 v44
  v45

/-- The layer of 256 columns. -/
def fL4 (v45 : Arr F S16384x512 .f32) (x10 : Arr F S512x256 .f32) (x11 : Arr F S256 .f32) : Arr F S16384x256 .f32 :=
  let v46 : Arr F S16384x256 .f32 := (fun l r => Host.dotGeneral dot_S16384x512_S512x256_S16384x256_1_0_0_1_n_n none l r) v45 x10
  let v47 : Arr F S1x256 .f32 := (broadcastInDim S1x256 ![1] bcast_S256_S1x256_1) x11
  let v48 : Arr F S16384x256 .f32 := (broadcastInDim S16384x256 ![0, 1] bcast_S1x256_S16384x256_0_1) v47
  let v49 : Arr F S16384x256 .f32 := (addf) v46 v48
  let cst_8 : Arr F S_ .f32 := (constant S_ .f32 0x00000000#32)
  let v50 : Arr F S16384x256 .f32 := (broadcastInDim S16384x256 ![] bcast_S_S16384x256) cst_8
  let v51 : Arr F S16384x256 .i1 := (cmpf .oge) v49 v50
  let cst_9 : Arr F S_ .f32 := (constant S_ .f32 0x3E4CCCCD#32)
  let v52 : Arr F S16384x256 .f32 := (broadcastInDim S16384x256 ![] bcast_S_S16384x256) cst_9
  let v53 : Arr F S16384x256 .f32 := (mulf) v52 v49
  let v54 : Arr F S16384x256 .f32 := select v51 v49 v53
  v54

/-- The mean of each of the 256 columns. -/
def fMean2 (v54 : Arr F S16384x256 .f32) : Arr F S1x256 .f32 :=
  let cst_10 : Arr F S_ .f32 := (constant S_ .f32 0x00000000#32)
  let v55 : Arr F S256 .f32 := (fun x v => Host.reduceAdd x v reducesTo_S16384x256_S256_d0 h_S_) v54 cst_10
  let v56 : Arr F S1x256 .f32 := (broadcastInDim S1x256 ![1] bcast_S256_S1x256_1) v55
  let cst_11 : Arr F S_ .f32 := (constant S_ .f32 0x46800000#32)
  let v57 : Arr F S1x256 .f32 := (broadcastInDim S1x256 ![] bcast_S_S1x256) cst_11
  let v58 : Arr F S1x256 .f32 := (Host.divf) v56 v57
  v58

/-- The variance of each of the 256 columns. -/
def fVar2 (v54 : Arr F S16384x256 .f32) : Arr F S1x256 .f32 :=
  let c_12 : Arr F S_ .i32 := (constantI S_ 32 0#32)
  let call5_cst : Arr F S_ .f32 := (constant S_ .f32 0x00000000#32)
  let call5_v0 : Arr F S256 .f32 := (fun x v => Host.reduceAdd x v reducesTo_S16384x256_S256_d0 h_S_) v54 call5_cst
  let call5_v1 : Arr F S1x256 .f32 := (broadcastInDim S1x256 ![1] bcast_S256_S1x256_1) call5_v0
  let call5_cst_0 : Arr F S_ .f32 := (constant S_ .f32 0x46800000#32)
  let call5_v2 : Arr F S1x256 .f32 := (broadcastInDim S1x256 ![] bcast_S_S1x256) call5_cst_0
  let call5_v3 : Arr F S1x256 .f32 := Host.divf call5_v1 call5_v2
  let call5_v4 : Arr F S16384x256 .f32 := (broadcastInDim S16384x256 ![0, 1] bcast_S1x256_S16384x256_0_1) call5_v3
  let call5_v5 : Arr F S16384x256 .f32 := subf v54 call5_v4
  let call5_v6 : Arr F S16384x256 .f32 := mulf call5_v5 call5_v5
  let call5_v7 : Arr F S_ .f32 := (sitofp .f32) c_12
  let call5_cst_1 : Arr F S_ .f32 := (constant S_ .f32 0x46800000#32)
  let call5_v8 : Arr F S_ .f32 := subf call5_cst_1 call5_v7
  let call5_cst_2 : Arr F S_ .f32 := (constant S_ .f32 0x00000000#32)
  let call5_v9 : Arr F S256 .f32 := (fun x v => Host.reduceAdd x v reducesTo_S16384x256_S256_d0 h_S_) call5_v6 call5_cst_2
  let call5_v10 : Arr F S1x256 .f32 := (broadcastInDim S1x256 ![1] bcast_S256_S1x256_1) call5_v9
  let call5_v11 : Arr F S1x256 .f32 := (broadcastInDim S1x256 ![] bcast_S_S1x256) call5_v8
  let call5_v12 : Arr F S1x256 .f32 := Host.divf call5_v10 call5_v11
  let call5_cst_3 : Arr F S_ .f32 := (constant S_ .f32 0x00000000#32)
  let call5_v13 : Arr F S_ .i1 := (cmpf .ogt) call5_v8 call5_cst_3
  let call5_cst_4 : Arr F S_ .f32 := (constant S_ .f32 0x7FC00000#32)
  let call5_call0_v0 : Arr F S_ .f32 := id call5_cst_4
  let call5_call0_v1 : Arr F S1x256 .f32 := (broadcastInDim S1x256 ![] bcast_S_S1x256) call5_call0_v0
  let v59 : Arr F S1x256 .f32 := (fun p a b => select (broadcastInDim S1x256 ![] bcast_S_S1x256 p) a b) call5_v13 call5_v12 call5_call0_v1
  v59

/-- The second normalisation. -/
def fNorm2 (v54 : Arr F S16384x256 .f32) (v58 : Arr F S1x256 .f32) (v59 : Arr F S1x256 .f32) (x12 : Arr F S256 .f32) (x13 : Arr F S256 .f32) : Arr F S16384x256 .f32 :=
  let v60 : Arr F S16384x256 .f32 := (broadcastInDim S16384x256 ![0, 1] bcast_S1x256_S16384x256_0_1) v58
  let v61 : Arr F S16384x256 .f32 := (subf) v54 v60
  let v62 : Arr F S1x256 .f32 := (broadcastInDim S1x256 ![1] bcast_S256_S1x256_1) x12
  let v63 : Arr F S16384x256 .f32 := (broadcastInDim S16384x256 ![0, 1] bcast_S1x256_S16384x256_0_1) v62
  let v64 : Arr F S16384x256 .f32 := (mulf) v63 v61
  let cst_13 : Arr F S_ .f32 := (constant S_ .f32 0x3727C5AC#32)
  let v65 : Arr F S1x256 .f32 := (broadcastInDim S1x256 ![] bcast_S_S1x256) cst_13
  let v66 : Arr F S1x256 .f32 := (addf) v59 v65
  let v67 : Arr F S1x256 .f32 := (Host.sqrt) v66
  let v68 : Arr F S16384x256 .f32 := (broadcastInDim S16384x256 ![0, 1] bcast_S1x256_S16384x256_0_1) v67
  let v69 : Arr F S16384x256 .f32 := (Host.divf) v64 v68
  let v70 : Arr F S1x256 .f32 := (broadcastInDim S1x256 ![1] bcast_S256_S1x256_1) x13
  let v71 : Arr F S16384x256 .f32 := (broadcastInDim S16384x256 ![0, 1] bcast_S1x256_S16384x256_0_1) v70
  let v72 : Arr F S16384x256 .f32 := (addf) v69 v71
  v72

/-- The layer of 128 columns. -/
def fL5 (v72 : Arr F S16384x256 .f32) (x14 : Arr F S256x128 .f32) (x15 : Arr F S128 .f32) : Arr F S16384x128 .f32 :=
  let v73 : Arr F S16384x128 .f32 := (fun l r => Host.dotGeneral dot_S16384x256_S256x128_S16384x128_1_0_0_1_n_n none l r) v72 x14
  let v74 : Arr F S1x128 .f32 := (broadcastInDim S1x128 ![1] bcast_S128_S1x128_1) x15
  let v75 : Arr F S16384x128 .f32 := (broadcastInDim S16384x128 ![0, 1] bcast_S1x128_S16384x128_0_1) v74
  let v76 : Arr F S16384x128 .f32 := (addf) v73 v75
  let cst_14 : Arr F S_ .f32 := (constant S_ .f32 0x00000000#32)
  let v77 : Arr F S16384x128 .f32 := (broadcastInDim S16384x128 ![] bcast_S_S16384x128) cst_14
  let v78 : Arr F S16384x128 .i1 := (cmpf .oge) v76 v77
  let cst_15 : Arr F S_ .f32 := (constant S_ .f32 0x3E4CCCCD#32)
  let v79 : Arr F S16384x128 .f32 := (broadcastInDim S16384x128 ![] bcast_S_S16384x128) cst_15
  let v80 : Arr F S16384x128 .f32 := (mulf) v79 v76
  let v81 : Arr F S16384x128 .f32 := select v78 v76 v80
  v81

/-- The logits. -/
def fLG (v81 : Arr F S16384x128 .f32) (x16 : Arr F S128x33 .f32) (x17 : Arr F S33 .f32) : Arr F S16384x33 .f32 :=
  let v82 : Arr F S16384x33 .f32 := (fun l r => Host.dotGeneral dot_S16384x128_S128x33_S16384x33_1_0_0_1_n_n none l r) v81 x16
  let v83 : Arr F S1x33 .f32 := (broadcastInDim S1x33 ![1] bcast_S33_S1x33_1) x17
  let v84 : Arr F S16384x33 .f32 := (broadcastInDim S16384x33 ![0, 1] bcast_S1x33_S16384x33_0_1) v83
  let v85 : Arr F S16384x33 .f32 := (addf) v82 v84
  v85

/-- The exponential of each logit less its row's maximum. -/
def fEx (v85 : Arr F S16384x33 .f32) : Arr F S16384x33 .f32 :=
  let cst_16 : Arr F S_ .f32 := (constant S_ .f32 0x3F800000#32)
  let v86 : Arr F S16384x33 .f32 := (broadcastInDim S16384x33 ![] bcast_S_S16384x33) cst_16
  let v87 : Arr F S16384x33 .f32 := (Host.divf) v85 v86
  let cst_17 : Arr F S_ .f32 := (constant S_ .f32 0xFF800000#32)
  let v88 : Arr F S16384 .f32 := (fun x v => Host.reduce FloatOps.maximumf x v reducesTo_S16384x33_S16384_d1 h_S_) v87 cst_17
  let cst_18 : Arr F S_ .f32 := (constant S_ .f32 0xFF800000#32)
  let v89 : Arr F S16384 .f32 := (broadcastInDim S16384 ![] bcast_S_S16384) cst_18
  let v90 : Arr F S16384 .f32 := (maximumf) v89 v88
  let v91 : Arr F S16384x1 .f32 := (broadcastInDim S16384x1 ![0] bcast_S16384_S16384x1_0) v90
  let v92 : Arr F S16384x33 .f32 := (broadcastInDim S16384x33 ![0, 1] bcast_S16384x1_S16384x33_0_1) v91
  let v93 : Arr F S16384x33 .f32 := (subf) v87 v92
  let v94 : Arr F S16384x33 .f32 := (Host.exp) v93
  v94

/-- The quotient of each exponential by the sum over its row. -/
def fSM (v94 : Arr F S16384x33 .f32) : Arr F S16384x33 .f32 :=
  let cst_19 : Arr F S_ .f32 := (constant S_ .f32 0x00000000#32)
  let v95 : Arr F S16384 .f32 := (fun x v => Host.reduceAdd x v reducesTo_S16384x33_S16384_d1 h_S_) v94 cst_19
  let v96 : Arr F S16384x1 .f32 := (broadcastInDim S16384x1 ![0] bcast_S16384_S16384x1_0) v95
  let v97 : Arr F S16384x33 .f32 := (broadcastInDim S16384x33 ![0, 1] bcast_S16384x1_S16384x33_0_1) v96
  let v98 : Arr F S16384x33 .f32 := (Host.divf) v94 v97
  v98

/-- The logarithm of each weight over the (clipped) sum of its row, plus a small constant. -/
def fLog (v98 : Arr F S16384x33 .f32) : Arr F S16384x33 .f32 :=
  let cst_20 : Arr F S_ .f32 := (constant S_ .f32 0x00000000#32)
  let v99 : Arr F S16384 .f32 := (fun x v => Host.reduceAdd x v reducesTo_S16384x33_S16384_d1 h_S_) v98 cst_20
  let v100 : Arr F S16384x1 .f32 := (broadcastInDim S16384x1 ![0] bcast_S16384_S16384x1_0) v99
  let cst_21 : Arr F S_ .f32 := (constant S_ .f32 0x2EDBE6FF#32)
  let call7_v0 : Arr F S_ .f32 := id cst_21
  let call7_v1 : Arr F S16384x1 .f32 := (broadcastInDim S16384x1 ![] bcast_S_S16384x1) call7_v0
  let v101 : Arr F S16384x1 .f32 := maximumf call7_v1 v100
  let v102 : Arr F S16384x33 .f32 := (broadcastInDim S16384x33 ![0, 1] bcast_S16384x1_S16384x33_0_1) v101
  let v103 : Arr F S16384x33 .f32 := (Host.divf) v98 v102
  let cst_22 : Arr F S_ .f32 := (constant S_ .f32 0x2B8CBCCC#32)
  let v104 : Arr F S16384x33 .f32 := (broadcastInDim S16384x33 ![] bcast_S_S16384x33) cst_22
  let v105 : Arr F S16384x33 .f32 := (addf) v103 v104
  let v106 : Arr F S16384x33 .f32 := (Host.log) v105
  v106

/-- The first position of the largest perturbed logarithm of each row. -/
def fArg (v106 : Arr F S16384x33 .f32) (v108 : Arr F S16384x33 .f32) : Arr F S16384 .i32 :=
  let v109 : Arr F S16384x33 .f32 := (addf) v106 v108
  let call8_v0 : Arr F S16384x33 .i32 := (iotaInDim S16384x33 32 1)
  let call8_cst : Arr F S_ .f32 := (constant S_ .f32 0xFF800000#32)
  let call8_c : Arr F S_ .i32 := (constantI S_ 32 0#32)
  let v110 : Arr F S16384 .i32 := (fun x y u v j => (Host.argReduce reducer_argmax_f32_i32 x y u v reducesTo_S16384x33_S16384_d1 h_S_ j).2) v109 call8_v0 call8_cst call8_c
  v110

/-- The weights with the chosen position of each row at zero. -/
def fNext (v98 : Arr F S16384x33 .f32) (v110 : Arr F S16384 .i32) : Arr F S16384x33 .f32 :=
  let call9_v0 : Arr F S16384x1 .i32 := (broadcastInDim S16384x1 ![0] bcast_S16384_S16384x1_0) v110
  let call9_v1 : Arr F S1x33 .i32 := (iotaInDim S1x33 32 1)
  let call9_v2 : Arr F S16384x33 .i32 := (broadcastInDim S16384x33 ![0, 1] bcast_S16384x1_S16384x33_0_1) call9_v0
  let call9_v3 : Arr F S16384x33 .i32 := (broadcastInDim S16384x33 ![0, 1] bcast_S1x33_S16384x33_0_1) call9_v1
  let call9_v4 : Arr F S16384x33 .i1 := (cmpi .eq) call9_v2 call9_v3
  let v111 : Arr F S16384x33 .f32 := (uitofp .f32) call9_v4
  let cst_23 : Arr F S_ .f32 := (constant S_ .f32 0x3F800000#32)
  let v112 : Arr F S16384x33 .f32 := (broadcastInDim S16384x33 ![] bcast_S_S16384x33) cst_23
  let v113 : Arr F S16384x33 .f32 := (subf) v112 v111
  let v114 : Arr F S16384x33 .f32 := (mulf) v98 v113
  v114

/-- The noise of round 1. -/
def fSlab0 (x18 : Arr F S6x16384x33 .f32) : Arr F S16384x33 .f32 :=
  let v107 : Arr F S1x16384x33 .f32 := ((extractStridedSlice S1x16384x33 ![0, 0, 0] · slices_S6x16384x33_S1x16384x33_0_0_0)) x18
  let v108 : Arr F S16384x33 .f32 := shapeCast S16384x33 v107 shapeCasts_S1x16384x33_S16384x33
  v108

/-- The noise of round 2. -/
def fSlab1 (x18 : Arr F S6x16384x33 .f32) : Arr F S16384x33 .f32 :=
  let v123 : Arr F S1x16384x33 .f32 := ((extractStridedSlice S1x16384x33 ![1, 0, 0] · slices_S6x16384x33_S1x16384x33_1_0_0)) x18
  let v124 : Arr F S16384x33 .f32 := shapeCast S16384x33 v123 shapeCasts_S1x16384x33_S16384x33
  v124

/-- The noise of round 3. -/
def fSlab2 (x18 : Arr F S6x16384x33 .f32) : Arr F S16384x33 .f32 :=
  let v139 : Arr F S1x16384x33 .f32 := ((extractStridedSlice S1x16384x33 ![2, 0, 0] · slices_S6x16384x33_S1x16384x33_2_0_0)) x18
  let v140 : Arr F S16384x33 .f32 := shapeCast S16384x33 v139 shapeCasts_S1x16384x33_S16384x33
  v140

/-- The noise of round 4. -/
def fSlab3 (x18 : Arr F S6x16384x33 .f32) : Arr F S16384x33 .f32 :=
  let v155 : Arr F S1x16384x33 .f32 := ((extractStridedSlice S1x16384x33 ![3, 0, 0] · slices_S6x16384x33_S1x16384x33_3_0_0)) x18
  let v156 : Arr F S16384x33 .f32 := shapeCast S16384x33 v155 shapeCasts_S1x16384x33_S16384x33
  v156

/-- The noise of round 5. -/
def fSlab4 (x18 : Arr F S6x16384x33 .f32) : Arr F S16384x33 .f32 :=
  let v171 : Arr F S1x16384x33 .f32 := ((extractStridedSlice S1x16384x33 ![4, 0, 0] · slices_S6x16384x33_S1x16384x33_4_0_0)) x18
  let v172 : Arr F S16384x33 .f32 := shapeCast S16384x33 v171 shapeCasts_S1x16384x33_S16384x33
  v172

/-- The noise of round 6. -/
def fSlab5 (x18 : Arr F S6x16384x33 .f32) : Arr F S16384x33 .f32 :=
  let v187 : Arr F S1x16384x33 .f32 := ((extractStridedSlice S1x16384x33 ![5, 0, 0] · slices_S6x16384x33_S1x16384x33_5_0_0)) x18
  let v188 : Arr F S16384x33 .f32 := shapeCast S16384x33 v187 shapeCasts_S1x16384x33_S16384x33
  v188

/-- The six rounds' choices as the columns of the result. -/
def fOut (i0 : Arr F S16384 .i32) (i1 : Arr F S16384 .i32) (i2 : Arr F S16384 .i32) (i3 : Arr F S16384 .i32) (i4 : Arr F S16384 .i32) (i5 : Arr F S16384 .i32) : Arr F S16384x6 .i32 :=
  fStack (F := F) ((broadcastInDim S16384x1 ![0] bcast_S16384_S16384x1_0) i0) ((broadcastInDim S16384x1 ![0] bcast_S16384_S16384x1_0) i1) ((broadcastInDim S16384x1 ![0] bcast_S16384_S16384x1_0) i2) ((broadcastInDim S16384x1 ![0] bcast_S16384_S16384x1_0) i3) ((broadcastInDim S16384x1 ![0] bcast_S16384_S16384x1_0) i4) ((broadcastInDim S16384x1 ![0] bcast_S16384_S16384x1_0) i5)

/-- Operations 1 to 11 of the program. -/
abbrev wL1 : List (HloOp τ sig (Elt F)) :=
  [ binary main_arg1 main_arg2 main_v0 ((fun l r => Host.dotGeneral dot_S16384x99_S99x128_S16384x128_1_0_0_1_n_n none l r) : (⟨S16384x99, .f32⟩ : BufTy).Contents (Elt F) → (⟨S99x128, .f32⟩ : BufTy).Contents (Elt F) → (⟨S16384x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S16384x128 ![0, 1] bcast_S1x128_S16384x128_0_1 : (⟨S1x128, .f32⟩ : BufTy).Contents (Elt F) → (⟨S16384x128, .f32⟩ : BufTy).Contents (Elt F)),
    binary main_v0 main_v2 main_v3 (addf : (⟨S16384x128, .f32⟩ : BufTy).Contents (Elt F) → (⟨S16384x128, .f32⟩ : BufTy).Contents (Elt F) → (⟨S16384x128, .f32⟩ : BufTy).Contents (Elt F)),
    nullary main_cst (constant S_ .f32 0x00000000#32),
    unary main_cst main_v4 (broadcastInDim S16384x128 ![] bcast_S_S16384x128 : (⟨S_, .f32⟩ : BufTy).Contents (Elt F) → (⟨S16384x128, .f32⟩ : BufTy).Contents (Elt F)),
    binary main_v3 main_v4 main_v5 (cmpf .oge : (⟨S16384x128, .f32⟩ : BufTy).Contents (Elt F) → (⟨S16384x128, .f32⟩ : BufTy).Contents (Elt F) → (⟨S16384x128, .i1⟩ : BufTy).Contents (Elt F)),
    nullary main_cst_0 (constant S_ .f32 0x3E4CCCCD#32),
    unary main_cst_0 main_v6 (broadcastInDim S16384x128 ![] bcast_S_S16384x128 : (⟨S_, .f32⟩ : BufTy).Contents (Elt F) → (⟨S16384x128, .f32⟩ : BufTy).Contents (Elt F)),
    binary main_v6 main_v3 main_v7 (mulf : (⟨S16384x128, .f32⟩ : BufTy).Contents (Elt F) → (⟨S16384x128, .f32⟩ : BufTy).Contents (Elt F) → (⟨S16384x128, .f32⟩ : BufTy).Contents (Elt F)),
    TRef.ternary (TRef.of (T := ⟨S16384x128, .i1⟩) main_v5) (TRef.of (T := ⟨S16384x128, .f32⟩) main_v3) (TRef.of (T := ⟨S16384x128, .f32⟩) main_v7) (TRef.of (T := ⟨S16384x128, .f32⟩) main_v8) select ]

/-- Operations 12 to 22 of the program. -/
abbrev wL2 : List (HloOp τ sig (Elt F)) :=
  [ binary main_v8 main_arg4 main_v9 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg5 main_v10 (broadcastInDim S1x128 ![1] bcast_S128_S1x128_1 : (⟨S128, .f32⟩ : BufTy).Contents (Elt F) → (⟨S1x128, .f32⟩ : BufTy).Contents (Elt F)),
    unary main_v10 main_v11 (broadcastInDim S16384x128 ![0, 1] bcast_S1x128_S16384x128_0_1 : (⟨S1x128, .f32⟩ : BufTy).Contents (Elt F) → (⟨S16384x128, .f32⟩ : BufTy).Contents (Elt F)),
    binary main_v9 main_v11 main_v12 (addf : (⟨S16384x128, .f32⟩ : BufTy).Contents (Elt F) → (⟨S16384x128, .f32⟩ : BufTy).Contents (Elt F) → (⟨S16384x128, .f32⟩ : BufTy).Contents (Elt F)),
    nullary main_cst_1 (constant S_ .f32 0x00000000#32),
    unary main_cst_1 main_v13 (broadcastInDim S16384x128 ![] bcast_S_S16384x128 : (⟨S_, .f32⟩ : BufTy).Contents (Elt F) → (⟨S16384x128, .f32⟩ : BufTy).Contents (Elt F)),
    binary main_v12 main_v13 main_v14 (cmpf .oge : (⟨S16384x128, .f32⟩ : BufTy).Contents (Elt F) → (⟨S16384x128, .f32⟩ : BufTy).Contents (Elt F) → (⟨S16384x128, .i1⟩ : BufTy).Contents (Elt F)),
    nullary main_cst_2 (constant S_ .f32 0x3E4CCCCD#32),
    unary main_cst_2 main_v15 (broadcastInDim S16384x128 ![] bcast_S_S16384x128 : (⟨S_, .f32⟩ : BufTy).Contents (Elt F) → (⟨S16384x128, .f32⟩ : BufTy).Contents (Elt F)),
    binary main_v15 main_v12 main_v16 (mulf : (⟨S16384x128, .f32⟩ : BufTy).Contents (Elt F) → (⟨S16384x128, .f32⟩ : BufTy).Contents (Elt F) → (⟨S16384x128, .f32⟩ : BufTy).Contents (Elt F)),
    TRef.ternary (TRef.of (T := ⟨S16384x128, .i1⟩) main_v14) (TRef.of (T := ⟨S16384x128, .f32⟩) main_v12) (TRef.of (T := ⟨S16384x128, .f32⟩) main_v16) (TRef.of (T := ⟨S16384x128, .f32⟩) main_v17) select ]

/-- Operations 23 to 34 of the program. -/
abbrev wL3 : List (HloOp τ sig (Elt F)) :=
  [ binary main_arg0 main_v17 main_v18 (fCat (F := F)),
    binary main_v18 main_arg6 main_v19 ((fun l r => Host.dotGeneral dot_S16384x256_S256x512_S16384x512_1_0_0_1_n_n none l r) : (⟨S16384x256, .f32⟩ : BufTy).Contents (Elt F) → (⟨S256x512, .f32⟩ : BufTy).Contents (Elt F) → (⟨S16384x512, .f32⟩ : BufTy).Contents (Elt F)),
    unary main_arg7 main_v20 (broadcastInDim S1x512 ![1] bcast_S512_S1x512_1 : (⟨S512, .f32⟩ : BufTy).Contents (Elt F) → (⟨S1x512, .f32⟩ : BufTy).Contents (Elt F)),
    unary main_v20 main_v21 (broadcastInDim S16384x512 ![0, 1] bcast_S1x512_S16384x512_0_1 : (⟨S1x512, .f32⟩ : BufTy).Contents (Elt F) → (⟨S16384x512, .f32⟩ : BufTy).Contents (Elt F)),
    binary main_v19 main_v21 main_v22 (addf : (⟨S16384x512, .f32⟩ : BufTy).Contents (Elt F) → (⟨S16384x512, .f32⟩ : BufTy).Contents (Elt F) → (⟨S16384x512, .f32⟩ : BufTy).Contents (Elt F)),
    nullary main_cst_3 (constant S_ .f32 0x00000000#32),
    unary main_cst_3 main_v23 (broadcastInDim S16384x512 ![] bcast_S_S16384x512 : (⟨S_, .f32⟩ : BufTy).Contents (Elt F) → (⟨S16384x512, .f32⟩ : BufTy).Contents (Elt F)),
    binary main_v22 main_v23 main_v24 (cmpf .oge : (⟨S16384x512, .f32⟩ : BufTy).Contents (Elt F) → (⟨S16384x512, .f32⟩ : BufTy).Contents (Elt F) → (⟨S16384x512, .i1⟩ : BufTy).Contents (Elt F)),
    nullary main_cst_4 (constant S_ .f32 0x3E4CCCCD#32),
    unary main_cst_4 main_v25 (broadcastInDim S16384x512 ![] bcast_S_S16384x512 : (⟨S_, .f32⟩ : BufTy).Contents (Elt F) → (⟨S16384x512, .f32⟩ : BufTy).Contents (Elt F)),
    binary main_v25 main_v22 main_v26 (mulf : (⟨S16384x512, .f32⟩ : BufTy).Contents (Elt F) → (⟨S16384x512, .f32⟩ : BufTy).Contents (Elt F) → (⟨S16384x512, .f32⟩ : BufTy).Contents (Elt F)),
    TRef.ternary (TRef.of (T := ⟨S16384x512, .i1⟩) main_v24) (TRef.of (T := ⟨S16384x512, .f32⟩) main_v22) (TRef.of (T := ⟨S16384x512, .f32⟩) main_v26) (TRef.of (T := ⟨S16384x512, .f32⟩) main_v27) select ]

/-- Operations 35 to 40 of the program. -/
abbrev wmean1 : List (HloOp τ sig (Elt F)) :=
  [ nullary main_cst_5 (constant S_ .f32 0x00000000#32),
    binary main_v27 main_cst_5 main_v28 ((fun x v => Host.reduceAdd x v reducesTo_S16384x512_S512_d0 h_S_) : (⟨S16384x512, .f32⟩ : BufTy).Contents (Elt F) → (⟨S_, .f32⟩ : BufTy).Contents (Elt F) → (⟨S512, .f32⟩ : BufTy).Contents (Elt F)),
    unary main_v28 main_v29 (broadcastInDim S1x512 ![1] bcast_S512_S1x512_1 : (⟨S512, .f32⟩ : BufTy).Contents (Elt F) → (⟨S1x512, .f32⟩ : BufTy).Contents (Elt F)),
    nullary main_cst_6 (constant S_ .f32 0x46800000#32),
    unary main_cst_6 main_v30 (broadcastInDim S1x512 ![] bcast_S_S1x512 : (⟨S_, .f32⟩ : BufTy).Contents (Elt F) → (⟨S1x512, .f32⟩ : BufTy).Contents (Elt F)),
    binary main_v29 main_v30 main_v31 (Host.divf : (⟨S1x512, .f32⟩ : BufTy).Contents (Elt F) → (⟨S1x512, .f32⟩ : BufTy).Contents (Elt F) → (⟨S1x512, .f32⟩ : BufTy).Contents (Elt F)) ]

/-- Operations 41 to 64 of the program. -/
abbrev wvar1 : List (HloOp τ sig (Elt F)) :=
  [ nullary main_c (constantI S_ 32 0#32),
    TRef.nullary (TRef.of (T := ⟨S_, .f32⟩) main_call3_cst) (constant S_ .f32 0x00000000#32),
    TRef.binary (TRef.of (T := ⟨S16384x512, .f32⟩) main_v27) (TRef.of (T := ⟨S_, .f32⟩) main_call3_cst) (TRef.of (T := ⟨S512, .f32⟩) main_call3_v0) (fun x v => Host.reduceAdd x v reducesTo_S16384x512_S512_d0 h_S_),
    TRef.unary (TRef.of (T := ⟨S512, .f32⟩) main_call3_v0) (TRef.of (T := ⟨S1x512, .f32⟩) main_call3_v1) (broadcastInDim S1x512 ![1] bcast_S512_S1x512_1),
    TRef.nullary (TRef.of (T := ⟨S_, .f32⟩) main_call3_cst_0) (constant S_ .f32 0x46800000#32),
    TRef.unary (TRef.of (T := ⟨S_, .f32⟩) main_call3_cst_0) (TRef.of (T := ⟨S1x512, .f32⟩) main_call3_v2) (broadcastInDim S1x512 ![] bcast_S_S1x512),
    TRef.binary (TRef.of (T := ⟨S1x512, .f32⟩) main_call3_v1) (TRef.of (T := ⟨S1x512, .f32⟩) main_call3_v2) (TRef.of (T := ⟨S1x512, .f32⟩) main_call3_v3) Host.divf,
    TRef.unary (TRef.of (T := ⟨S1x512, .f32⟩) main_call3_v3) (TRef.of (T := ⟨S16384x512, .f32⟩) main_call3_v4) (broadcastInDim S16384x512 ![0, 1] bcast_S1x512_S16384x512_0_1),
    TRef.binary (TRef.of (T := ⟨S16384x512, .f32⟩) main_v27) (TRef.of (T := ⟨S16384x512, .f32⟩) main_call3_v4) (TRef.of (T := ⟨S16384x512, .f32⟩) main_call3_v5) subf,
    TRef.binary (TRef.of (T := ⟨S16384x512, .f32⟩) main_call3_v5) (TRef.of (T := ⟨S16384x512, .f32⟩) main_call3_v5) (TRef.of (T := ⟨S16384x512, .f32⟩) main_call3_v6) mulf,
    TRef.unary (TRef.of (T := ⟨S_, .i32⟩) main_c) (TRef.of (T := ⟨S_, .f32⟩) main_call3_v7) (sitofp .f32),
    TRef.nullary (TRef.of (T := ⟨S_, .f32⟩) main_call3_cst_1) (constant S_ .f32 0x46800000#32),
    TRef.binary (TRef.of (T := ⟨S_, .f32⟩) main_call3_cst_1) (TRef.of (T := ⟨S_, .f32⟩) main_call3_v7) (TRef.of (T := ⟨S_, .f32⟩) main_call3_v8) subf,
    TRef.nullary (TRef.of (T := ⟨S_, .f32⟩) main_call3_cst_2) (constant S_ .f32 0x00000000#32),
    TRef.binary (TRef.of (T := ⟨S16384x512, .f32⟩) main_call3_v6) (TRef.of (T := ⟨S_, .f32⟩) main_call3_cst_2) (TRef.of (T := ⟨S512, .f32⟩) main_call3_v9) (fun x v => Host.reduceAdd x v reducesTo_S16384x512_S512_d0 h_S_),
    TRef.unary (TRef.of (T := ⟨S512, .f32⟩) main_call3_v9) (TRef.of (T := ⟨S1x512, .f32⟩) main_call3_v10) (broadcastInDim S1x512 ![1] bcast_S512_S1x512_1),
    TRef.unary (TRef.of (T := ⟨S_, .f32⟩) main_call3_v8) (TRef.of (T := ⟨S1x512, .f32⟩) main_call3_v11) (broadcastInDim S1x512 ![] bcast_S_S1x512),
    TRef.binary (TRef.of (T := ⟨S1x512, .f32⟩) main_call3_v10) (TRef.of (T := ⟨S1x512, .f32⟩) main_call3_v11) (TRef.of (T := ⟨S1x512, .f32⟩) main_call3_v12) Host.divf,
    TRef.nullary (TRef.of (T := ⟨S_, .f32⟩) main_call3_cst_3) (constant S_ .f32 0x00000000#32),
    TRef.binary (TRef.of (T := ⟨S_, .f32⟩) main_call3_v8) (TRef.of (T := ⟨S_, .f32⟩) main_call3_cst_3) (TRef.of (T := ⟨S_, .i1⟩) main_call3_v13) (cmpf .ogt),
    TRef.nullary (TRef.of (T := ⟨S_, .f32⟩) main_call3_cst_4) (constant S_ .f32 0x7FC00000#32),
    TRef.unary (TRef.of (T := ⟨S_, .f32⟩) main_call3_cst_4) (TRef.of (T := ⟨S_, .f32⟩) main_call3_call0_v0) id,
    TRef.unary (TRef.of (T := ⟨S_, .f32⟩) main_call3_call0_v0) (TRef.of (T := ⟨S1x512, .f32⟩) main_call3_call0_v1) (broadcastInDim S1x512 ![] bcast_S_S1x512),
    TRef.ternary (TRef.of (T := ⟨S_, .i1⟩) main_call3_v13) (TRef.of (T := ⟨S1x512, .f32⟩) main_call3_v12) (TRef.of (T := ⟨S1x512, .f32⟩) main_call3_call0_v1) (TRef.of (T := ⟨S1x512, .f32⟩) main_v32) (fun p a b => select (broadcastInDim S1x512 ![] bcast_S_S1x512 p) a b) ]

/-- Operations 65 to 78 of the program. -/
abbrev wnorm1 : List (HloOp τ sig (Elt F)) :=
  [ unary main_v31 main_v33 (broadcastInDim S16384x512 ![0, 1] bcast_S1x512_S16384x512_0_1 : (⟨S1x512, .f32⟩ : BufTy).Contents (Elt F) → (⟨S16384x512, .f32⟩ : BufTy).Contents (Elt F)),
    binary main_v27 main_v33 main_v34 (subf : (⟨S16384x512, .f32⟩ : BufTy).Contents (Elt F) → (⟨S16384x512, .f32⟩ : BufTy).Contents (Elt F) → (⟨S16384x512, .f32⟩ : BufTy).Contents (Elt F)),
    unary main_arg8 main_v35 (broadcastInDim S1x512 ![1] bcast_S512_S1x512_1 : (⟨S512, .f32⟩ : BufTy).Contents (Elt F) → (⟨S1x512, .f32⟩ : BufTy).Contents (Elt F)),
    unary main_v35 main_v36 (broadcastInDim S16384x512 ![0, 1] bcast_S1x512_S16384x512_0_1 : (⟨S1x512, .f32⟩ : BufTy).Contents (Elt F) → (⟨S16384x512, .f32⟩ : BufTy).Contents (Elt F)),
    binary main_v36 main_v34 main_v37 (mulf : (⟨S16384x512, .f32⟩ : BufTy).Contents (Elt F) → (⟨S16384x512, .f32⟩ : BufTy).Contents (Elt F) → (⟨S16384x512, .f32⟩ : BufTy).Contents (Elt F)),
    nullary main_cst_7 (constant S_ .f32 0x3727C5AC#32),
    unary main_cst_7 main_v38 (broadcastInDim S1x512 ![] bcast_S_S1x512 : (⟨S_, .f32⟩ : BufTy).Contents (Elt F) → (⟨S1x512, .f32⟩ : BufTy).Contents (Elt F)),
    binary main_v32 main_v38 main_v39 (addf : (⟨S1x512, .f32⟩ : BufTy).Contents (Elt F) → (⟨S1x512, .f32⟩ : BufTy).Contents (Elt F) → (⟨S1x512, .f32⟩ : BufTy).Contents (Elt F)),
    unary main_v39 main_v40 (Host.sqrt : (⟨S1x512, .f32⟩ : BufTy).Contents (Elt F) → (⟨S1x512, .f32⟩ : BufTy).Contents (Elt F)),
    unary main_v40 main_v41 (broadcastInDim S16384x512 ![0, 1] bcast_S1x512_S16384x512_0_1 : (⟨S1x512, .f32⟩ : BufTy).Contents (Elt F) → (⟨S16384x512, .f32⟩ : BufTy).Contents (Elt F)),
    binary main_v37 main_v41 main_v42 (Host.divf : (⟨S16384x512, .f32⟩ : BufTy).Contents (Elt F) → (⟨S16384x512, .f32⟩ : BufTy).Contents (Elt F) → (⟨S16384x512, .f32⟩ : BufTy).Contents (Elt F)),
    unary main_arg9 main_v43 (broadcastInDim S1x512 ![1] bcast_S512_S1x512_1 : (⟨S512, .f32⟩ : BufTy).Contents (Elt F) → (⟨S1x512, .f32⟩ : BufTy).Contents (Elt F)),
    unary main_v43 main_v44 (broadcastInDim S16384x512 ![0, 1] bcast_S1x512_S16384x512_0_1 : (⟨S1x512, .f32⟩ : BufTy).Contents (Elt F) → (⟨S16384x512, .f32⟩ : BufTy).Contents (Elt F)),
    binary main_v42 main_v44 main_v45 (addf : (⟨S16384x512, .f32⟩ : BufTy).Contents (Elt F) → (⟨S16384x512, .f32⟩ : BufTy).Contents (Elt F) → (⟨S16384x512, .f32⟩ : BufTy).Contents (Elt F)) ]

/-- Operations 79 to 82 of the program. -/
abbrev wL4a : List (HloOp τ sig (Elt F)) :=
  [ binary main_v45 main_arg10 main_v46 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg11 main_v47 (broadcastInDim S1x256 ![1] bcast_S256_S1x256_1 : (⟨S256, .f32⟩ : BufTy).Contents (Elt F) → (⟨S1x256, .f32⟩ : BufTy).Contents (Elt F)),
    unary main_v47 main_v48 (broadcastInDim S16384x256 ![0, 1] bcast_S1x256_S16384x256_0_1 : (⟨S1x256, .f32⟩ : BufTy).Contents (Elt F) → (⟨S16384x256, .f32⟩ : BufTy).Contents (Elt F)),
    binary main_v46 main_v48 main_v49 (addf : (⟨S16384x256, .f32⟩ : BufTy).Contents (Elt F) → (⟨S16384x256, .f32⟩ : BufTy).Contents (Elt F) → (⟨S16384x256, .f32⟩ : BufTy).Contents (Elt F)) ]

/-- Operations 83 to 89 of the program. -/
abbrev wL4b : List (HloOp τ sig (Elt F)) :=
  [ nullary main_cst_8 (constant S_ .f32 0x00000000#32),
    unary main_cst_8 main_v50 (broadcastInDim S16384x256 ![] bcast_S_S16384x256 : (⟨S_, .f32⟩ : BufTy).Contents (Elt F) → (⟨S16384x256, .f32⟩ : BufTy).Contents (Elt F)),
    binary main_v49 main_v50 main_v51 (cmpf .oge : (⟨S16384x256, .f32⟩ : BufTy).Contents (Elt F) → (⟨S16384x256, .f32⟩ : BufTy).Contents (Elt F) → (⟨S16384x256, .i1⟩ : BufTy).Contents (Elt F)),
    nullary main_cst_9 (constant S_ .f32 0x3E4CCCCD#32),
    unary main_cst_9 main_v52 (broadcastInDim S16384x256 ![] bcast_S_S16384x256 : (⟨S_, .f32⟩ : BufTy).Contents (Elt F) → (⟨S16384x256, .f32⟩ : BufTy).Contents (Elt F)),
    binary main_v52 main_v49 main_v53 (mulf : (⟨S16384x256, .f32⟩ : BufTy).Contents (Elt F) → (⟨S16384x256, .f32⟩ : BufTy).Contents (Elt F) → (⟨S16384x256, .f32⟩ : BufTy).Contents (Elt F)),
    TRef.ternary (TRef.of (T := ⟨S16384x256, .i1⟩) main_v51) (TRef.of (T := ⟨S16384x256, .f32⟩) main_v49) (TRef.of (T := ⟨S16384x256, .f32⟩) main_v53) (TRef.of (T := ⟨S16384x256, .f32⟩) main_v54) select ]

/-- Operations 90 to 95 of the program. -/
abbrev wmean2 : List (HloOp τ sig (Elt F)) :=
  [ nullary main_cst_10 (constant S_ .f32 0x00000000#32),
    binary main_v54 main_cst_10 main_v55 ((fun x v => Host.reduceAdd x v reducesTo_S16384x256_S256_d0 h_S_) : (⟨S16384x256, .f32⟩ : BufTy).Contents (Elt F) → (⟨S_, .f32⟩ : BufTy).Contents (Elt F) → (⟨S256, .f32⟩ : BufTy).Contents (Elt F)),
    unary main_v55 main_v56 (broadcastInDim S1x256 ![1] bcast_S256_S1x256_1 : (⟨S256, .f32⟩ : BufTy).Contents (Elt F) → (⟨S1x256, .f32⟩ : BufTy).Contents (Elt F)),
    nullary main_cst_11 (constant S_ .f32 0x46800000#32),
    unary main_cst_11 main_v57 (broadcastInDim S1x256 ![] bcast_S_S1x256 : (⟨S_, .f32⟩ : BufTy).Contents (Elt F) → (⟨S1x256, .f32⟩ : BufTy).Contents (Elt F)),
    binary main_v56 main_v57 main_v58 (Host.divf : (⟨S1x256, .f32⟩ : BufTy).Contents (Elt F) → (⟨S1x256, .f32⟩ : BufTy).Contents (Elt F) → (⟨S1x256, .f32⟩ : BufTy).Contents (Elt F)) ]

/-- Operations 96 to 119 of the program. -/
abbrev wvar2 : List (HloOp τ sig (Elt F)) :=
  [ nullary main_c_12 (constantI S_ 32 0#32),
    TRef.nullary (TRef.of (T := ⟨S_, .f32⟩) main_call5_cst) (constant S_ .f32 0x00000000#32),
    TRef.binary (TRef.of (T := ⟨S16384x256, .f32⟩) main_v54) (TRef.of (T := ⟨S_, .f32⟩) main_call5_cst) (TRef.of (T := ⟨S256, .f32⟩) main_call5_v0) (fun x v => Host.reduceAdd x v reducesTo_S16384x256_S256_d0 h_S_),
    TRef.unary (TRef.of (T := ⟨S256, .f32⟩) main_call5_v0) (TRef.of (T := ⟨S1x256, .f32⟩) main_call5_v1) (broadcastInDim S1x256 ![1] bcast_S256_S1x256_1),
    TRef.nullary (TRef.of (T := ⟨S_, .f32⟩) main_call5_cst_0) (constant S_ .f32 0x46800000#32),
    TRef.unary (TRef.of (T := ⟨S_, .f32⟩) main_call5_cst_0) (TRef.of (T := ⟨S1x256, .f32⟩) main_call5_v2) (broadcastInDim S1x256 ![] bcast_S_S1x256),
    TRef.binary (TRef.of (T := ⟨S1x256, .f32⟩) main_call5_v1) (TRef.of (T := ⟨S1x256, .f32⟩) main_call5_v2) (TRef.of (T := ⟨S1x256, .f32⟩) main_call5_v3) Host.divf,
    TRef.unary (TRef.of (T := ⟨S1x256, .f32⟩) main_call5_v3) (TRef.of (T := ⟨S16384x256, .f32⟩) main_call5_v4) (broadcastInDim S16384x256 ![0, 1] bcast_S1x256_S16384x256_0_1),
    TRef.binary (TRef.of (T := ⟨S16384x256, .f32⟩) main_v54) (TRef.of (T := ⟨S16384x256, .f32⟩) main_call5_v4) (TRef.of (T := ⟨S16384x256, .f32⟩) main_call5_v5) subf,
    TRef.binary (TRef.of (T := ⟨S16384x256, .f32⟩) main_call5_v5) (TRef.of (T := ⟨S16384x256, .f32⟩) main_call5_v5) (TRef.of (T := ⟨S16384x256, .f32⟩) main_call5_v6) mulf,
    TRef.unary (TRef.of (T := ⟨S_, .i32⟩) main_c_12) (TRef.of (T := ⟨S_, .f32⟩) main_call5_v7) (sitofp .f32),
    TRef.nullary (TRef.of (T := ⟨S_, .f32⟩) main_call5_cst_1) (constant S_ .f32 0x46800000#32),
    TRef.binary (TRef.of (T := ⟨S_, .f32⟩) main_call5_cst_1) (TRef.of (T := ⟨S_, .f32⟩) main_call5_v7) (TRef.of (T := ⟨S_, .f32⟩) main_call5_v8) subf,
    TRef.nullary (TRef.of (T := ⟨S_, .f32⟩) main_call5_cst_2) (constant S_ .f32 0x00000000#32),
    TRef.binary (TRef.of (T := ⟨S16384x256, .f32⟩) main_call5_v6) (TRef.of (T := ⟨S_, .f32⟩) main_call5_cst_2) (TRef.of (T := ⟨S256, .f32⟩) main_call5_v9) (fun x v => Host.reduceAdd x v reducesTo_S16384x256_S256_d0 h_S_),
    TRef.unary (TRef.of (T := ⟨S256, .f32⟩) main_call5_v9) (TRef.of (T := ⟨S1x256, .f32⟩) main_call5_v10) (broadcastInDim S1x256 ![1] bcast_S256_S1x256_1),
    TRef.unary (TRef.of (T := ⟨S_, .f32⟩) main_call5_v8) (TRef.of (T := ⟨S1x256, .f32⟩) main_call5_v11) (broadcastInDim S1x256 ![] bcast_S_S1x256),
    TRef.binary (TRef.of (T := ⟨S1x256, .f32⟩) main_call5_v10) (TRef.of (T := ⟨S1x256, .f32⟩) main_call5_v11) (TRef.of (T := ⟨S1x256, .f32⟩) main_call5_v12) Host.divf,
    TRef.nullary (TRef.of (T := ⟨S_, .f32⟩) main_call5_cst_3) (constant S_ .f32 0x00000000#32),
    TRef.binary (TRef.of (T := ⟨S_, .f32⟩) main_call5_v8) (TRef.of (T := ⟨S_, .f32⟩) main_call5_cst_3) (TRef.of (T := ⟨S_, .i1⟩) main_call5_v13) (cmpf .ogt),
    TRef.nullary (TRef.of (T := ⟨S_, .f32⟩) main_call5_cst_4) (constant S_ .f32 0x7FC00000#32),
    TRef.unary (TRef.of (T := ⟨S_, .f32⟩) main_call5_cst_4) (TRef.of (T := ⟨S_, .f32⟩) main_call5_call0_v0) id,
    TRef.unary (TRef.of (T := ⟨S_, .f32⟩) main_call5_call0_v0) (TRef.of (T := ⟨S1x256, .f32⟩) main_call5_call0_v1) (broadcastInDim S1x256 ![] bcast_S_S1x256),
    TRef.ternary (TRef.of (T := ⟨S_, .i1⟩) main_call5_v13) (TRef.of (T := ⟨S1x256, .f32⟩) main_call5_v12) (TRef.of (T := ⟨S1x256, .f32⟩) main_call5_call0_v1) (TRef.of (T := ⟨S1x256, .f32⟩) main_v59) (fun p a b => select (broadcastInDim S1x256 ![] bcast_S_S1x256 p) a b) ]

/-- Operations 120 to 133 of the program. -/
abbrev wnorm2 : List (HloOp τ sig (Elt F)) :=
  [ unary main_v58 main_v60 (broadcastInDim S16384x256 ![0, 1] bcast_S1x256_S16384x256_0_1 : (⟨S1x256, .f32⟩ : BufTy).Contents (Elt F) → (⟨S16384x256, .f32⟩ : BufTy).Contents (Elt F)),
    binary main_v54 main_v60 main_v61 (subf : (⟨S16384x256, .f32⟩ : BufTy).Contents (Elt F) → (⟨S16384x256, .f32⟩ : BufTy).Contents (Elt F) → (⟨S16384x256, .f32⟩ : BufTy).Contents (Elt F)),
    unary main_arg12 main_v62 (broadcastInDim S1x256 ![1] bcast_S256_S1x256_1 : (⟨S256, .f32⟩ : BufTy).Contents (Elt F) → (⟨S1x256, .f32⟩ : BufTy).Contents (Elt F)),
    unary main_v62 main_v63 (broadcastInDim S16384x256 ![0, 1] bcast_S1x256_S16384x256_0_1 : (⟨S1x256, .f32⟩ : BufTy).Contents (Elt F) → (⟨S16384x256, .f32⟩ : BufTy).Contents (Elt F)),
    binary main_v63 main_v61 main_v64 (mulf : (⟨S16384x256, .f32⟩ : BufTy).Contents (Elt F) → (⟨S16384x256, .f32⟩ : BufTy).Contents (Elt F) → (⟨S16384x256, .f32⟩ : BufTy).Contents (Elt F)),
    nullary main_cst_13 (constant S_ .f32 0x3727C5AC#32),
    unary main_cst_13 main_v65 (broadcastInDim S1x256 ![] bcast_S_S1x256 : (⟨S_, .f32⟩ : BufTy).Contents (Elt F) → (⟨S1x256, .f32⟩ : BufTy).Contents (Elt F)),
    binary main_v59 main_v65 main_v66 (addf : (⟨S1x256, .f32⟩ : BufTy).Contents (Elt F) → (⟨S1x256, .f32⟩ : BufTy).Contents (Elt F) → (⟨S1x256, .f32⟩ : BufTy).Contents (Elt F)),
    unary main_v66 main_v67 (Host.sqrt : (⟨S1x256, .f32⟩ : BufTy).Contents (Elt F) → (⟨S1x256, .f32⟩ : BufTy).Contents (Elt F)),
    unary main_v67 main_v68 (broadcastInDim S16384x256 ![0, 1] bcast_S1x256_S16384x256_0_1 : (⟨S1x256, .f32⟩ : BufTy).Contents (Elt F) → (⟨S16384x256, .f32⟩ : BufTy).Contents (Elt F)),
    binary main_v64 main_v68 main_v69 (Host.divf : (⟨S16384x256, .f32⟩ : BufTy).Contents (Elt F) → (⟨S16384x256, .f32⟩ : BufTy).Contents (Elt F) → (⟨S16384x256, .f32⟩ : BufTy).Contents (Elt F)),
    unary main_arg13 main_v70 (broadcastInDim S1x256 ![1] bcast_S256_S1x256_1 : (⟨S256, .f32⟩ : BufTy).Contents (Elt F) → (⟨S1x256, .f32⟩ : BufTy).Contents (Elt F)),
    unary main_v70 main_v71 (broadcastInDim S16384x256 ![0, 1] bcast_S1x256_S16384x256_0_1 : (⟨S1x256, .f32⟩ : BufTy).Contents (Elt F) → (⟨S16384x256, .f32⟩ : BufTy).Contents (Elt F)),
    binary main_v69 main_v71 main_v72 (addf : (⟨S16384x256, .f32⟩ : BufTy).Contents (Elt F) → (⟨S16384x256, .f32⟩ : BufTy).Contents (Elt F) → (⟨S16384x256, .f32⟩ : BufTy).Contents (Elt F)) ]

/-- Operations 134 to 144 of the program. -/
abbrev wL5 : List (HloOp τ sig (Elt F)) :=
  [ binary main_v72 main_arg14 main_v73 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg15 main_v74 (broadcastInDim S1x128 ![1] bcast_S128_S1x128_1 : (⟨S128, .f32⟩ : BufTy).Contents (Elt F) → (⟨S1x128, .f32⟩ : BufTy).Contents (Elt F)),
    unary main_v74 main_v75 (broadcastInDim S16384x128 ![0, 1] bcast_S1x128_S16384x128_0_1 : (⟨S1x128, .f32⟩ : BufTy).Contents (Elt F) → (⟨S16384x128, .f32⟩ : BufTy).Contents (Elt F)),
    binary main_v73 main_v75 main_v76 (addf : (⟨S16384x128, .f32⟩ : BufTy).Contents (Elt F) → (⟨S16384x128, .f32⟩ : BufTy).Contents (Elt F) → (⟨S16384x128, .f32⟩ : BufTy).Contents (Elt F)),
    nullary main_cst_14 (constant S_ .f32 0x00000000#32),
    unary main_cst_14 main_v77 (broadcastInDim S16384x128 ![] bcast_S_S16384x128 : (⟨S_, .f32⟩ : BufTy).Contents (Elt F) → (⟨S16384x128, .f32⟩ : BufTy).Contents (Elt F)),
    binary main_v76 main_v77 main_v78 (cmpf .oge : (⟨S16384x128, .f32⟩ : BufTy).Contents (Elt F) → (⟨S16384x128, .f32⟩ : BufTy).Contents (Elt F) → (⟨S16384x128, .i1⟩ : BufTy).Contents (Elt F)),
    nullary main_cst_15 (constant S_ .f32 0x3E4CCCCD#32),
    unary main_cst_15 main_v79 (broadcastInDim S16384x128 ![] bcast_S_S16384x128 : (⟨S_, .f32⟩ : BufTy).Contents (Elt F) → (⟨S16384x128, .f32⟩ : BufTy).Contents (Elt F)),
    binary main_v79 main_v76 main_v80 (mulf : (⟨S16384x128, .f32⟩ : BufTy).Contents (Elt F) → (⟨S16384x128, .f32⟩ : BufTy).Contents (Elt F) → (⟨S16384x128, .f32⟩ : BufTy).Contents (Elt F)),
    TRef.ternary (TRef.of (T := ⟨S16384x128, .i1⟩) main_v78) (TRef.of (T := ⟨S16384x128, .f32⟩) main_v76) (TRef.of (T := ⟨S16384x128, .f32⟩) main_v80) (TRef.of (T := ⟨S16384x128, .f32⟩) main_v81) select ]

/-- Operations 145 to 148 of the program. -/
abbrev wLG : List (HloOp τ sig (Elt F)) :=
  [ binary main_v81 main_arg16 main_v82 ((fun l r => Host.dotGeneral dot_S16384x128_S128x33_S16384x33_1_0_0_1_n_n none l r) : (⟨S16384x128, .f32⟩ : BufTy).Contents (Elt F) → (⟨S128x33, .f32⟩ : BufTy).Contents (Elt F) → (⟨S16384x33, .f32⟩ : BufTy).Contents (Elt F)),
    unary main_arg17 main_v83 (broadcastInDim S1x33 ![1] bcast_S33_S1x33_1 : (⟨S33, .f32⟩ : BufTy).Contents (Elt F) → (⟨S1x33, .f32⟩ : BufTy).Contents (Elt F)),
    unary main_v83 main_v84 (broadcastInDim S16384x33 ![0, 1] bcast_S1x33_S16384x33_0_1 : (⟨S1x33, .f32⟩ : BufTy).Contents (Elt F) → (⟨S16384x33, .f32⟩ : BufTy).Contents (Elt F)),
    binary main_v82 main_v84 main_v85 (addf : (⟨S16384x33, .f32⟩ : BufTy).Contents (Elt F) → (⟨S16384x33, .f32⟩ : BufTy).Contents (Elt F) → (⟨S16384x33, .f32⟩ : BufTy).Contents (Elt F)) ]

/-- Operations 149 to 164 of the program. -/
abbrev wSMa : List (HloOp τ sig (Elt F)) :=
  [ nullary main_cst_16 (constant S_ .f32 0x3F800000#32),
    unary main_cst_16 main_v86 (broadcastInDim S16384x33 ![] bcast_S_S16384x33 : (⟨S_, .f32⟩ : BufTy).Contents (Elt F) → (⟨S16384x33, .f32⟩ : BufTy).Contents (Elt F)),
    binary main_v85 main_v86 main_v87 (Host.divf : (⟨S16384x33, .f32⟩ : BufTy).Contents (Elt F) → (⟨S16384x33, .f32⟩ : BufTy).Contents (Elt F) → (⟨S16384x33, .f32⟩ : BufTy).Contents (Elt F)),
    nullary main_cst_17 (constant S_ .f32 0xFF800000#32),
    binary main_v87 main_cst_17 main_v88 ((fun x v => Host.reduce FloatOps.maximumf x v reducesTo_S16384x33_S16384_d1 h_S_) : (⟨S16384x33, .f32⟩ : BufTy).Contents (Elt F) → (⟨S_, .f32⟩ : BufTy).Contents (Elt F) → (⟨S16384, .f32⟩ : BufTy).Contents (Elt F)),
    nullary main_cst_18 (constant S_ .f32 0xFF800000#32),
    unary main_cst_18 main_v89 (broadcastInDim S16384 ![] bcast_S_S16384 : (⟨S_, .f32⟩ : BufTy).Contents (Elt F) → (⟨S16384, .f32⟩ : BufTy).Contents (Elt F)),
    binary main_v89 main_v88 main_v90 (maximumf : (⟨S16384, .f32⟩ : BufTy).Contents (Elt F) → (⟨S16384, .f32⟩ : BufTy).Contents (Elt F) → (⟨S16384, .f32⟩ : BufTy).Contents (Elt F)),
    unary main_v90 main_v91 (broadcastInDim S16384x1 ![0] bcast_S16384_S16384x1_0 : (⟨S16384, .f32⟩ : BufTy).Contents (Elt F) → (⟨S16384x1, .f32⟩ : BufTy).Contents (Elt F)),
    unary main_v91 main_v92 (broadcastInDim S16384x33 ![0, 1] bcast_S16384x1_S16384x33_0_1 : (⟨S16384x1, .f32⟩ : BufTy).Contents (Elt F) → (⟨S16384x33, .f32⟩ : BufTy).Contents (Elt F)),
    binary main_v87 main_v92 main_v93 (subf : (⟨S16384x33, .f32⟩ : BufTy).Contents (Elt F) → (⟨S16384x33, .f32⟩ : BufTy).Contents (Elt F) → (⟨S16384x33, .f32⟩ : BufTy).Contents (Elt F)),
    unary main_v93 main_v94 (Host.exp : (⟨S16384x33, .f32⟩ : BufTy).Contents (Elt F) → (⟨S16384x33, .f32⟩ : BufTy).Contents (Elt F)),
    nullary main_cst_19 (constant S_ .f32 0x00000000#32),
    binary main_v94 main_cst_19 main_v95 ((fun x v => Host.reduceAdd x v reducesTo_S16384x33_S16384_d1 h_S_) : (⟨S16384x33, .f32⟩ : BufTy).Contents (Elt F) → (⟨S_, .f32⟩ : BufTy).Contents (Elt F) → (⟨S16384, .f32⟩ : BufTy).Contents (Elt F)),
    unary main_v95 main_v96 (broadcastInDim S16384x1 ![0] bcast_S16384_S16384x1_0 : (⟨S16384, .f32⟩ : BufTy).Contents (Elt F) → (⟨S16384x1, .f32⟩ : BufTy).Contents (Elt F)),
    unary main_v96 main_v97 (broadcastInDim S16384x33 ![0, 1] bcast_S16384x1_S16384x33_0_1 : (⟨S16384x1, .f32⟩ : BufTy).Contents (Elt F) → (⟨S16384x33, .f32⟩ : BufTy).Contents (Elt F)) ]

/-- Operations 165 to 165 of the program. -/
abbrev wSMb : List (HloOp τ sig (Elt F)) :=
  [ binary main_v94 main_v97 main_v98 (Host.divf : (⟨S16384x33, .f32⟩ : BufTy).Contents (Elt F) → (⟨S16384x33, .f32⟩ : BufTy).Contents (Elt F) → (⟨S16384x33, .f32⟩ : BufTy).Contents (Elt F)) ]

/-- Operations 166 to 196 of the program. -/
abbrev wR0 : List (HloOp τ sig (Elt F)) :=
  [ nullary main_cst_20 (constant S_ .f32 0x00000000#32),
    binary main_v98 main_cst_20 main_v99 ((fun x v => Host.reduceAdd x v reducesTo_S16384x33_S16384_d1 h_S_) : (⟨S16384x33, .f32⟩ : BufTy).Contents (Elt F) → (⟨S_, .f32⟩ : BufTy).Contents (Elt F) → (⟨S16384, .f32⟩ : BufTy).Contents (Elt F)),
    unary main_v99 main_v100 (broadcastInDim S16384x1 ![0] bcast_S16384_S16384x1_0 : (⟨S16384, .f32⟩ : BufTy).Contents (Elt F) → (⟨S16384x1, .f32⟩ : BufTy).Contents (Elt F)),
    nullary main_cst_21 (constant S_ .f32 0x2EDBE6FF#32),
    TRef.unary (TRef.of (T := ⟨S_, .f32⟩) main_cst_21) (TRef.of (T := ⟨S_, .f32⟩) main_call7_v0) id,
    TRef.unary (TRef.of (T := ⟨S_, .f32⟩) main_call7_v0) (TRef.of (T := ⟨S16384x1, .f32⟩) main_call7_v1) (broadcastInDim S16384x1 ![] bcast_S_S16384x1),
    TRef.binary (TRef.of (T := ⟨S16384x1, .f32⟩) main_call7_v1) (TRef.of (T := ⟨S16384x1, .f32⟩) main_v100) (TRef.of (T := ⟨S16384x1, .f32⟩) main_v101) maximumf,
    unary main_v101 main_v102 (broadcastInDim S16384x33 ![0, 1] bcast_S16384x1_S16384x33_0_1 : (⟨S16384x1, .f32⟩ : BufTy).Contents (Elt F) → (⟨S16384x33, .f32⟩ : BufTy).Contents (Elt F)),
    binary main_v98 main_v102 main_v103 (Host.divf : (⟨S16384x33, .f32⟩ : BufTy).Contents (Elt F) → (⟨S16384x33, .f32⟩ : BufTy).Contents (Elt F) → (⟨S16384x33, .f32⟩ : BufTy).Contents (Elt F)),
    nullary main_cst_22 (constant S_ .f32 0x2B8CBCCC#32),
    unary main_cst_22 main_v104 (broadcastInDim S16384x33 ![] bcast_S_S16384x33 : (⟨S_, .f32⟩ : BufTy).Contents (Elt F) → (⟨S16384x33, .f32⟩ : BufTy).Contents (Elt F)),
    binary main_v103 main_v104 main_v105 (addf : (⟨S16384x33, .f32⟩ : BufTy).Contents (Elt F) → (⟨S16384x33, .f32⟩ : BufTy).Contents (Elt F) → (⟨S16384x33, .f32⟩ : BufTy).Contents (Elt F)),
    unary main_v105 main_v106 (Host.log : (⟨S16384x33, .f32⟩ : BufTy).Contents (Elt F) → (⟨S16384x33, .f32⟩ : BufTy).Contents (Elt F)),
    unary main_arg18 main_v107 ((extractStridedSlice S1x16384x33 ![0, 0, 0] · slices_S6x16384x33_S1x16384x33_0_0_0) : (⟨S6x16384x33, .f32⟩ : BufTy).Contents (Elt F) → (⟨S1x16384x33, .f32⟩ : BufTy).Contents (Elt F)),
    reshape main_v107 main_v108 (rfl : (.f32 : EltTy) = .f32) shapeCasts_S1x16384x33_S16384x33,
    binary main_v106 main_v108 main_v109 (addf : (⟨S16384x33, .f32⟩ : BufTy).Contents (Elt F) → (⟨S16384x33, .f32⟩ : BufTy).Contents (Elt F) → (⟨S16384x33, .f32⟩ : BufTy).Contents (Elt F)),
    TRef.nullary (TRef.of (T := ⟨S16384x33, .i32⟩) main_call8_v0) (iotaInDim S16384x33 32 1),
    TRef.nullary (TRef.of (T := ⟨S_, .f32⟩) main_call8_cst) (constant S_ .f32 0xFF800000#32),
    TRef.nullary (TRef.of (T := ⟨S_, .i32⟩) main_call8_c) (constantI S_ 32 0#32),
    TRef.quaternary (TRef.of (T := ⟨S16384x33, .f32⟩) main_v109) (TRef.of (T := ⟨S16384x33, .i32⟩) main_call8_v0) (TRef.of (T := ⟨S_, .f32⟩) main_call8_cst) (TRef.of (T := ⟨S_, .i32⟩) main_call8_c) (TRef.of (T := ⟨S16384, .f32⟩) main_call8_v1_0) (fun x y u v j => (Host.argReduce reducer_argmax_f32_i32 x y u v reducesTo_S16384x33_S16384_d1 h_S_ j).1),
    TRef.quaternary (TRef.of (T := ⟨S16384x33, .f32⟩) main_v109) (TRef.of (T := ⟨S16384x33, .i32⟩) main_call8_v0) (TRef.of (T := ⟨S_, .f32⟩) main_call8_cst) (TRef.of (T := ⟨S_, .i32⟩) main_call8_c) (TRef.of (T := ⟨S16384, .i32⟩) main_v110) (fun x y u v j => (Host.argReduce reducer_argmax_f32_i32 x y u v reducesTo_S16384x33_S16384_d1 h_S_ j).2),
    TRef.unary (TRef.of (T := ⟨S16384, .i32⟩) main_v110) (TRef.of (T := ⟨S16384x1, .i32⟩) main_call9_v0) (broadcastInDim S16384x1 ![0] bcast_S16384_S16384x1_0),
    TRef.nullary (TRef.of (T := ⟨S1x33, .i32⟩) main_call9_v1) (iotaInDim S1x33 32 1),
    TRef.unary (TRef.of (T := ⟨S16384x1, .i32⟩) main_call9_v0) (TRef.of (T := ⟨S16384x33, .i32⟩) main_call9_v2) (broadcastInDim S16384x33 ![0, 1] bcast_S16384x1_S16384x33_0_1),
    TRef.unary (TRef.of (T := ⟨S1x33, .i32⟩) main_call9_v1) (TRef.of (T := ⟨S16384x33, .i32⟩) main_call9_v3) (broadcastInDim S16384x33 ![0, 1] bcast_S1x33_S16384x33_0_1),
    TRef.binary (TRef.of (T := ⟨S16384x33, .i32⟩) main_call9_v2) (TRef.of (T := ⟨S16384x33, .i32⟩) main_call9_v3) (TRef.of (T := ⟨S16384x33, .i1⟩) main_call9_v4) (cmpi .eq),
    TRef.unary (TRef.of (T := ⟨S16384x33, .i1⟩) main_call9_v4) (TRef.of (T := ⟨S16384x33, .f32⟩) main_v111) (uitofp .f32),
    nullary main_cst_23 (constant S_ .f32 0x3F800000#32),
    unary main_cst_23 main_v112 (broadcastInDim S16384x33 ![] bcast_S_S16384x33 : (⟨S_, .f32⟩ : BufTy).Contents (Elt F) → (⟨S16384x33, .f32⟩ : BufTy).Contents (Elt F)),
    binary main_v112 main_v111 main_v113 (subf : (⟨S16384x33, .f32⟩ : BufTy).Contents (Elt F) → (⟨S16384x33, .f32⟩ : BufTy).Contents (Elt F) → (⟨S16384x33, .f32⟩ : BufTy).Contents (Elt F)),
    binary main_v98 main_v113 main_v114 (mulf : (⟨S16384x33, .f32⟩ : BufTy).Contents (Elt F) → (⟨S16384x33, .f32⟩ : BufTy).Contents (Elt F) → (⟨S16384x33, .f32⟩ : BufTy).Contents (Elt F)) ]

/-- Operations 197 to 227 of the program. -/
abbrev wR1 : List (HloOp τ sig (Elt F)) :=
  [ nullary main_cst_24 (constant S_ .f32 0x00000000#32),
    binary main_v114 main_cst_24 main_v115 ((fun x v => Host.reduceAdd x v reducesTo_S16384x33_S16384_d1 h_S_) : (⟨S16384x33, .f32⟩ : BufTy).Contents (Elt F) → (⟨S_, .f32⟩ : BufTy).Contents (Elt F) → (⟨S16384, .f32⟩ : BufTy).Contents (Elt F)),
    unary main_v115 main_v116 (broadcastInDim S16384x1 ![0] bcast_S16384_S16384x1_0 : (⟨S16384, .f32⟩ : BufTy).Contents (Elt F) → (⟨S16384x1, .f32⟩ : BufTy).Contents (Elt F)),
    nullary main_cst_25 (constant S_ .f32 0x2EDBE6FF#32),
    TRef.unary (TRef.of (T := ⟨S_, .f32⟩) main_cst_25) (TRef.of (T := ⟨S_, .f32⟩) main_call10_v0) id,
    TRef.unary (TRef.of (T := ⟨S_, .f32⟩) main_call10_v0) (TRef.of (T := ⟨S16384x1, .f32⟩) main_call10_v1) (broadcastInDim S16384x1 ![] bcast_S_S16384x1),
    TRef.binary (TRef.of (T := ⟨S16384x1, .f32⟩) main_call10_v1) (TRef.of (T := ⟨S16384x1, .f32⟩) main_v116) (TRef.of (T := ⟨S16384x1, .f32⟩) main_v117) maximumf,
    unary main_v117 main_v118 (broadcastInDim S16384x33 ![0, 1] bcast_S16384x1_S16384x33_0_1 : (⟨S16384x1, .f32⟩ : BufTy).Contents (Elt F) → (⟨S16384x33, .f32⟩ : BufTy).Contents (Elt F)),
    binary main_v114 main_v118 main_v119 (Host.divf : (⟨S16384x33, .f32⟩ : BufTy).Contents (Elt F) → (⟨S16384x33, .f32⟩ : BufTy).Contents (Elt F) → (⟨S16384x33, .f32⟩ : BufTy).Contents (Elt F)),
    nullary main_cst_26 (constant S_ .f32 0x2B8CBCCC#32),
    unary main_cst_26 main_v120 (broadcastInDim S16384x33 ![] bcast_S_S16384x33 : (⟨S_, .f32⟩ : BufTy).Contents (Elt F) → (⟨S16384x33, .f32⟩ : BufTy).Contents (Elt F)),
    binary main_v119 main_v120 main_v121 (addf : (⟨S16384x33, .f32⟩ : BufTy).Contents (Elt F) → (⟨S16384x33, .f32⟩ : BufTy).Contents (Elt F) → (⟨S16384x33, .f32⟩ : BufTy).Contents (Elt F)),
    unary main_v121 main_v122 (Host.log : (⟨S16384x33, .f32⟩ : BufTy).Contents (Elt F) → (⟨S16384x33, .f32⟩ : BufTy).Contents (Elt F)),
    unary main_arg18 main_v123 ((extractStridedSlice S1x16384x33 ![1, 0, 0] · slices_S6x16384x33_S1x16384x33_1_0_0) : (⟨S6x16384x33, .f32⟩ : BufTy).Contents (Elt F) → (⟨S1x16384x33, .f32⟩ : BufTy).Contents (Elt F)),
    reshape main_v123 main_v124 (rfl : (.f32 : EltTy) = .f32) shapeCasts_S1x16384x33_S16384x33,
    binary main_v122 main_v124 main_v125 (addf : (⟨S16384x33, .f32⟩ : BufTy).Contents (Elt F) → (⟨S16384x33, .f32⟩ : BufTy).Contents (Elt F) → (⟨S16384x33, .f32⟩ : BufTy).Contents (Elt F)),
    TRef.nullary (TRef.of (T := ⟨S16384x33, .i32⟩) main_call11_v0) (iotaInDim S16384x33 32 1),
    TRef.nullary (TRef.of (T := ⟨S_, .f32⟩) main_call11_cst) (constant S_ .f32 0xFF800000#32),
    TRef.nullary (TRef.of (T := ⟨S_, .i32⟩) main_call11_c) (constantI S_ 32 0#32),
    TRef.quaternary (TRef.of (T := ⟨S16384x33, .f32⟩) main_v125) (TRef.of (T := ⟨S16384x33, .i32⟩) main_call11_v0) (TRef.of (T := ⟨S_, .f32⟩) main_call11_cst) (TRef.of (T := ⟨S_, .i32⟩) main_call11_c) (TRef.of (T := ⟨S16384, .f32⟩) main_call11_v1_0) (fun x y u v j => (Host.argReduce reducer_argmax_f32_i32 x y u v reducesTo_S16384x33_S16384_d1 h_S_ j).1),
    TRef.quaternary (TRef.of (T := ⟨S16384x33, .f32⟩) main_v125) (TRef.of (T := ⟨S16384x33, .i32⟩) main_call11_v0) (TRef.of (T := ⟨S_, .f32⟩) main_call11_cst) (TRef.of (T := ⟨S_, .i32⟩) main_call11_c) (TRef.of (T := ⟨S16384, .i32⟩) main_v126) (fun x y u v j => (Host.argReduce reducer_argmax_f32_i32 x y u v reducesTo_S16384x33_S16384_d1 h_S_ j).2),
    TRef.unary (TRef.of (T := ⟨S16384, .i32⟩) main_v126) (TRef.of (T := ⟨S16384x1, .i32⟩) main_call12_v0) (broadcastInDim S16384x1 ![0] bcast_S16384_S16384x1_0),
    TRef.nullary (TRef.of (T := ⟨S1x33, .i32⟩) main_call12_v1) (iotaInDim S1x33 32 1),
    TRef.unary (TRef.of (T := ⟨S16384x1, .i32⟩) main_call12_v0) (TRef.of (T := ⟨S16384x33, .i32⟩) main_call12_v2) (broadcastInDim S16384x33 ![0, 1] bcast_S16384x1_S16384x33_0_1),
    TRef.unary (TRef.of (T := ⟨S1x33, .i32⟩) main_call12_v1) (TRef.of (T := ⟨S16384x33, .i32⟩) main_call12_v3) (broadcastInDim S16384x33 ![0, 1] bcast_S1x33_S16384x33_0_1),
    TRef.binary (TRef.of (T := ⟨S16384x33, .i32⟩) main_call12_v2) (TRef.of (T := ⟨S16384x33, .i32⟩) main_call12_v3) (TRef.of (T := ⟨S16384x33, .i1⟩) main_call12_v4) (cmpi .eq),
    TRef.unary (TRef.of (T := ⟨S16384x33, .i1⟩) main_call12_v4) (TRef.of (T := ⟨S16384x33, .f32⟩) main_v127) (uitofp .f32),
    nullary main_cst_27 (constant S_ .f32 0x3F800000#32),
    unary main_cst_27 main_v128 (broadcastInDim S16384x33 ![] bcast_S_S16384x33 : (⟨S_, .f32⟩ : BufTy).Contents (Elt F) → (⟨S16384x33, .f32⟩ : BufTy).Contents (Elt F)),
    binary main_v128 main_v127 main_v129 (subf : (⟨S16384x33, .f32⟩ : BufTy).Contents (Elt F) → (⟨S16384x33, .f32⟩ : BufTy).Contents (Elt F) → (⟨S16384x33, .f32⟩ : BufTy).Contents (Elt F)),
    binary main_v114 main_v129 main_v130 (mulf : (⟨S16384x33, .f32⟩ : BufTy).Contents (Elt F) → (⟨S16384x33, .f32⟩ : BufTy).Contents (Elt F) → (⟨S16384x33, .f32⟩ : BufTy).Contents (Elt F)) ]

/-- Operations 228 to 257 of the program. -/
abbrev wR2a : List (HloOp τ sig (Elt F)) :=
  [ nullary main_cst_28 (constant S_ .f32 0x00000000#32),
    binary main_v130 main_cst_28 main_v131 ((fun x v => Host.reduceAdd x v reducesTo_S16384x33_S16384_d1 h_S_) : (⟨S16384x33, .f32⟩ : BufTy).Contents (Elt F) → (⟨S_, .f32⟩ : BufTy).Contents (Elt F) → (⟨S16384, .f32⟩ : BufTy).Contents (Elt F)),
    unary main_v131 main_v132 (broadcastInDim S16384x1 ![0] bcast_S16384_S16384x1_0 : (⟨S16384, .f32⟩ : BufTy).Contents (Elt F) → (⟨S16384x1, .f32⟩ : BufTy).Contents (Elt F)),
    nullary main_cst_29 (constant S_ .f32 0x2EDBE6FF#32),
    TRef.unary (TRef.of (T := ⟨S_, .f32⟩) main_cst_29) (TRef.of (T := ⟨S_, .f32⟩) main_call13_v0) id,
    TRef.unary (TRef.of (T := ⟨S_, .f32⟩) main_call13_v0) (TRef.of (T := ⟨S16384x1, .f32⟩) main_call13_v1) (broadcastInDim S16384x1 ![] bcast_S_S16384x1),
    TRef.binary (TRef.of (T := ⟨S16384x1, .f32⟩) main_call13_v1) (TRef.of (T := ⟨S16384x1, .f32⟩) main_v132) (TRef.of (T := ⟨S16384x1, .f32⟩) main_v133) maximumf,
    unary main_v133 main_v134 (broadcastInDim S16384x33 ![0, 1] bcast_S16384x1_S16384x33_0_1 : (⟨S16384x1, .f32⟩ : BufTy).Contents (Elt F) → (⟨S16384x33, .f32⟩ : BufTy).Contents (Elt F)),
    binary main_v130 main_v134 main_v135 (Host.divf : (⟨S16384x33, .f32⟩ : BufTy).Contents (Elt F) → (⟨S16384x33, .f32⟩ : BufTy).Contents (Elt F) → (⟨S16384x33, .f32⟩ : BufTy).Contents (Elt F)),
    nullary main_cst_30 (constant S_ .f32 0x2B8CBCCC#32),
    unary main_cst_30 main_v136 (broadcastInDim S16384x33 ![] bcast_S_S16384x33 : (⟨S_, .f32⟩ : BufTy).Contents (Elt F) → (⟨S16384x33, .f32⟩ : BufTy).Contents (Elt F)),
    binary main_v135 main_v136 main_v137 (addf : (⟨S16384x33, .f32⟩ : BufTy).Contents (Elt F) → (⟨S16384x33, .f32⟩ : BufTy).Contents (Elt F) → (⟨S16384x33, .f32⟩ : BufTy).Contents (Elt F)),
    unary main_v137 main_v138 (Host.log : (⟨S16384x33, .f32⟩ : BufTy).Contents (Elt F) → (⟨S16384x33, .f32⟩ : BufTy).Contents (Elt F)),
    unary main_arg18 main_v139 ((extractStridedSlice S1x16384x33 ![2, 0, 0] · slices_S6x16384x33_S1x16384x33_2_0_0) : (⟨S6x16384x33, .f32⟩ : BufTy).Contents (Elt F) → (⟨S1x16384x33, .f32⟩ : BufTy).Contents (Elt F)),
    reshape main_v139 main_v140 (rfl : (.f32 : EltTy) = .f32) shapeCasts_S1x16384x33_S16384x33,
    binary main_v138 main_v140 main_v141 (addf : (⟨S16384x33, .f32⟩ : BufTy).Contents (Elt F) → (⟨S16384x33, .f32⟩ : BufTy).Contents (Elt F) → (⟨S16384x33, .f32⟩ : BufTy).Contents (Elt F)),
    TRef.nullary (TRef.of (T := ⟨S16384x33, .i32⟩) main_call14_v0) (iotaInDim S16384x33 32 1),
    TRef.nullary (TRef.of (T := ⟨S_, .f32⟩) main_call14_cst) (constant S_ .f32 0xFF800000#32),
    TRef.nullary (TRef.of (T := ⟨S_, .i32⟩) main_call14_c) (constantI S_ 32 0#32),
    TRef.quaternary (TRef.of (T := ⟨S16384x33, .f32⟩) main_v141) (TRef.of (T := ⟨S16384x33, .i32⟩) main_call14_v0) (TRef.of (T := ⟨S_, .f32⟩) main_call14_cst) (TRef.of (T := ⟨S_, .i32⟩) main_call14_c) (TRef.of (T := ⟨S16384, .f32⟩) main_call14_v1_0) (fun x y u v j => (Host.argReduce reducer_argmax_f32_i32 x y u v reducesTo_S16384x33_S16384_d1 h_S_ j).1),
    TRef.quaternary (TRef.of (T := ⟨S16384x33, .f32⟩) main_v141) (TRef.of (T := ⟨S16384x33, .i32⟩) main_call14_v0) (TRef.of (T := ⟨S_, .f32⟩) main_call14_cst) (TRef.of (T := ⟨S_, .i32⟩) main_call14_c) (TRef.of (T := ⟨S16384, .i32⟩) main_v142) (fun x y u v j => (Host.argReduce reducer_argmax_f32_i32 x y u v reducesTo_S16384x33_S16384_d1 h_S_ j).2),
    TRef.unary (TRef.of (T := ⟨S16384, .i32⟩) main_v142) (TRef.of (T := ⟨S16384x1, .i32⟩) main_call15_v0) (broadcastInDim S16384x1 ![0] bcast_S16384_S16384x1_0),
    TRef.nullary (TRef.of (T := ⟨S1x33, .i32⟩) main_call15_v1) (iotaInDim S1x33 32 1),
    TRef.unary (TRef.of (T := ⟨S16384x1, .i32⟩) main_call15_v0) (TRef.of (T := ⟨S16384x33, .i32⟩) main_call15_v2) (broadcastInDim S16384x33 ![0, 1] bcast_S16384x1_S16384x33_0_1),
    TRef.unary (TRef.of (T := ⟨S1x33, .i32⟩) main_call15_v1) (TRef.of (T := ⟨S16384x33, .i32⟩) main_call15_v3) (broadcastInDim S16384x33 ![0, 1] bcast_S1x33_S16384x33_0_1),
    TRef.binary (TRef.of (T := ⟨S16384x33, .i32⟩) main_call15_v2) (TRef.of (T := ⟨S16384x33, .i32⟩) main_call15_v3) (TRef.of (T := ⟨S16384x33, .i1⟩) main_call15_v4) (cmpi .eq),
    TRef.unary (TRef.of (T := ⟨S16384x33, .i1⟩) main_call15_v4) (TRef.of (T := ⟨S16384x33, .f32⟩) main_v143) (uitofp .f32),
    nullary main_cst_31 (constant S_ .f32 0x3F800000#32),
    unary main_cst_31 main_v144 (broadcastInDim S16384x33 ![] bcast_S_S16384x33 : (⟨S_, .f32⟩ : BufTy).Contents (Elt F) → (⟨S16384x33, .f32⟩ : BufTy).Contents (Elt F)),
    binary main_v144 main_v143 main_v145 (subf : (⟨S16384x33, .f32⟩ : BufTy).Contents (Elt F) → (⟨S16384x33, .f32⟩ : BufTy).Contents (Elt F) → (⟨S16384x33, .f32⟩ : BufTy).Contents (Elt F)) ]

/-- Operations 258 to 258 of the program. -/
abbrev wR2b : List (HloOp τ sig (Elt F)) :=
  [ binary main_v130 main_v145 main_v146 (mulf : (⟨S16384x33, .f32⟩ : BufTy).Contents (Elt F) → (⟨S16384x33, .f32⟩ : BufTy).Contents (Elt F) → (⟨S16384x33, .f32⟩ : BufTy).Contents (Elt F)) ]

/-- Operations 259 to 289 of the program. -/
abbrev wR3 : List (HloOp τ sig (Elt F)) :=
  [ nullary main_cst_32 (constant S_ .f32 0x00000000#32),
    binary main_v146 main_cst_32 main_v147 ((fun x v => Host.reduceAdd x v reducesTo_S16384x33_S16384_d1 h_S_) : (⟨S16384x33, .f32⟩ : BufTy).Contents (Elt F) → (⟨S_, .f32⟩ : BufTy).Contents (Elt F) → (⟨S16384, .f32⟩ : BufTy).Contents (Elt F)),
    unary main_v147 main_v148 (broadcastInDim S16384x1 ![0] bcast_S16384_S16384x1_0 : (⟨S16384, .f32⟩ : BufTy).Contents (Elt F) → (⟨S16384x1, .f32⟩ : BufTy).Contents (Elt F)),
    nullary main_cst_33 (constant S_ .f32 0x2EDBE6FF#32),
    TRef.unary (TRef.of (T := ⟨S_, .f32⟩) main_cst_33) (TRef.of (T := ⟨S_, .f32⟩) main_call16_v0) id,
    TRef.unary (TRef.of (T := ⟨S_, .f32⟩) main_call16_v0) (TRef.of (T := ⟨S16384x1, .f32⟩) main_call16_v1) (broadcastInDim S16384x1 ![] bcast_S_S16384x1),
    TRef.binary (TRef.of (T := ⟨S16384x1, .f32⟩) main_call16_v1) (TRef.of (T := ⟨S16384x1, .f32⟩) main_v148) (TRef.of (T := ⟨S16384x1, .f32⟩) main_v149) maximumf,
    unary main_v149 main_v150 (broadcastInDim S16384x33 ![0, 1] bcast_S16384x1_S16384x33_0_1 : (⟨S16384x1, .f32⟩ : BufTy).Contents (Elt F) → (⟨S16384x33, .f32⟩ : BufTy).Contents (Elt F)),
    binary main_v146 main_v150 main_v151 (Host.divf : (⟨S16384x33, .f32⟩ : BufTy).Contents (Elt F) → (⟨S16384x33, .f32⟩ : BufTy).Contents (Elt F) → (⟨S16384x33, .f32⟩ : BufTy).Contents (Elt F)),
    nullary main_cst_34 (constant S_ .f32 0x2B8CBCCC#32),
    unary main_cst_34 main_v152 (broadcastInDim S16384x33 ![] bcast_S_S16384x33 : (⟨S_, .f32⟩ : BufTy).Contents (Elt F) → (⟨S16384x33, .f32⟩ : BufTy).Contents (Elt F)),
    binary main_v151 main_v152 main_v153 (addf : (⟨S16384x33, .f32⟩ : BufTy).Contents (Elt F) → (⟨S16384x33, .f32⟩ : BufTy).Contents (Elt F) → (⟨S16384x33, .f32⟩ : BufTy).Contents (Elt F)),
    unary main_v153 main_v154 (Host.log : (⟨S16384x33, .f32⟩ : BufTy).Contents (Elt F) → (⟨S16384x33, .f32⟩ : BufTy).Contents (Elt F)),
    unary main_arg18 main_v155 ((extractStridedSlice S1x16384x33 ![3, 0, 0] · slices_S6x16384x33_S1x16384x33_3_0_0) : (⟨S6x16384x33, .f32⟩ : BufTy).Contents (Elt F) → (⟨S1x16384x33, .f32⟩ : BufTy).Contents (Elt F)),
    reshape main_v155 main_v156 (rfl : (.f32 : EltTy) = .f32) shapeCasts_S1x16384x33_S16384x33,
    binary main_v154 main_v156 main_v157 (addf : (⟨S16384x33, .f32⟩ : BufTy).Contents (Elt F) → (⟨S16384x33, .f32⟩ : BufTy).Contents (Elt F) → (⟨S16384x33, .f32⟩ : BufTy).Contents (Elt F)),
    TRef.nullary (TRef.of (T := ⟨S16384x33, .i32⟩) main_call17_v0) (iotaInDim S16384x33 32 1),
    TRef.nullary (TRef.of (T := ⟨S_, .f32⟩) main_call17_cst) (constant S_ .f32 0xFF800000#32),
    TRef.nullary (TRef.of (T := ⟨S_, .i32⟩) main_call17_c) (constantI S_ 32 0#32),
    TRef.quaternary (TRef.of (T := ⟨S16384x33, .f32⟩) main_v157) (TRef.of (T := ⟨S16384x33, .i32⟩) main_call17_v0) (TRef.of (T := ⟨S_, .f32⟩) main_call17_cst) (TRef.of (T := ⟨S_, .i32⟩) main_call17_c) (TRef.of (T := ⟨S16384, .f32⟩) main_call17_v1_0) (fun x y u v j => (Host.argReduce reducer_argmax_f32_i32 x y u v reducesTo_S16384x33_S16384_d1 h_S_ j).1),
    TRef.quaternary (TRef.of (T := ⟨S16384x33, .f32⟩) main_v157) (TRef.of (T := ⟨S16384x33, .i32⟩) main_call17_v0) (TRef.of (T := ⟨S_, .f32⟩) main_call17_cst) (TRef.of (T := ⟨S_, .i32⟩) main_call17_c) (TRef.of (T := ⟨S16384, .i32⟩) main_v158) (fun x y u v j => (Host.argReduce reducer_argmax_f32_i32 x y u v reducesTo_S16384x33_S16384_d1 h_S_ j).2),
    TRef.unary (TRef.of (T := ⟨S16384, .i32⟩) main_v158) (TRef.of (T := ⟨S16384x1, .i32⟩) main_call18_v0) (broadcastInDim S16384x1 ![0] bcast_S16384_S16384x1_0),
    TRef.nullary (TRef.of (T := ⟨S1x33, .i32⟩) main_call18_v1) (iotaInDim S1x33 32 1),
    TRef.unary (TRef.of (T := ⟨S16384x1, .i32⟩) main_call18_v0) (TRef.of (T := ⟨S16384x33, .i32⟩) main_call18_v2) (broadcastInDim S16384x33 ![0, 1] bcast_S16384x1_S16384x33_0_1),
    TRef.unary (TRef.of (T := ⟨S1x33, .i32⟩) main_call18_v1) (TRef.of (T := ⟨S16384x33, .i32⟩) main_call18_v3) (broadcastInDim S16384x33 ![0, 1] bcast_S1x33_S16384x33_0_1),
    TRef.binary (TRef.of (T := ⟨S16384x33, .i32⟩) main_call18_v2) (TRef.of (T := ⟨S16384x33, .i32⟩) main_call18_v3) (TRef.of (T := ⟨S16384x33, .i1⟩) main_call18_v4) (cmpi .eq),
    TRef.unary (TRef.of (T := ⟨S16384x33, .i1⟩) main_call18_v4) (TRef.of (T := ⟨S16384x33, .f32⟩) main_v159) (uitofp .f32),
    nullary main_cst_35 (constant S_ .f32 0x3F800000#32),
    unary main_cst_35 main_v160 (broadcastInDim S16384x33 ![] bcast_S_S16384x33 : (⟨S_, .f32⟩ : BufTy).Contents (Elt F) → (⟨S16384x33, .f32⟩ : BufTy).Contents (Elt F)),
    binary main_v160 main_v159 main_v161 (subf : (⟨S16384x33, .f32⟩ : BufTy).Contents (Elt F) → (⟨S16384x33, .f32⟩ : BufTy).Contents (Elt F) → (⟨S16384x33, .f32⟩ : BufTy).Contents (Elt F)),
    binary main_v146 main_v161 main_v162 (mulf : (⟨S16384x33, .f32⟩ : BufTy).Contents (Elt F) → (⟨S16384x33, .f32⟩ : BufTy).Contents (Elt F) → (⟨S16384x33, .f32⟩ : BufTy).Contents (Elt F)) ]

/-- Operations 290 to 320 of the program. -/
abbrev wR4 : List (HloOp τ sig (Elt F)) :=
  [ nullary main_cst_36 (constant S_ .f32 0x00000000#32),
    binary main_v162 main_cst_36 main_v163 ((fun x v => Host.reduceAdd x v reducesTo_S16384x33_S16384_d1 h_S_) : (⟨S16384x33, .f32⟩ : BufTy).Contents (Elt F) → (⟨S_, .f32⟩ : BufTy).Contents (Elt F) → (⟨S16384, .f32⟩ : BufTy).Contents (Elt F)),
    unary main_v163 main_v164 (broadcastInDim S16384x1 ![0] bcast_S16384_S16384x1_0 : (⟨S16384, .f32⟩ : BufTy).Contents (Elt F) → (⟨S16384x1, .f32⟩ : BufTy).Contents (Elt F)),
    nullary main_cst_37 (constant S_ .f32 0x2EDBE6FF#32),
    TRef.unary (TRef.of (T := ⟨S_, .f32⟩) main_cst_37) (TRef.of (T := ⟨S_, .f32⟩) main_call19_v0) id,
    TRef.unary (TRef.of (T := ⟨S_, .f32⟩) main_call19_v0) (TRef.of (T := ⟨S16384x1, .f32⟩) main_call19_v1) (broadcastInDim S16384x1 ![] bcast_S_S16384x1),
    TRef.binary (TRef.of (T := ⟨S16384x1, .f32⟩) main_call19_v1) (TRef.of (T := ⟨S16384x1, .f32⟩) main_v164) (TRef.of (T := ⟨S16384x1, .f32⟩) main_v165) maximumf,
    unary main_v165 main_v166 (broadcastInDim S16384x33 ![0, 1] bcast_S16384x1_S16384x33_0_1 : (⟨S16384x1, .f32⟩ : BufTy).Contents (Elt F) → (⟨S16384x33, .f32⟩ : BufTy).Contents (Elt F)),
    binary main_v162 main_v166 main_v167 (Host.divf : (⟨S16384x33, .f32⟩ : BufTy).Contents (Elt F) → (⟨S16384x33, .f32⟩ : BufTy).Contents (Elt F) → (⟨S16384x33, .f32⟩ : BufTy).Contents (Elt F)),
    nullary main_cst_38 (constant S_ .f32 0x2B8CBCCC#32),
    unary main_cst_38 main_v168 (broadcastInDim S16384x33 ![] bcast_S_S16384x33 : (⟨S_, .f32⟩ : BufTy).Contents (Elt F) → (⟨S16384x33, .f32⟩ : BufTy).Contents (Elt F)),
    binary main_v167 main_v168 main_v169 (addf : (⟨S16384x33, .f32⟩ : BufTy).Contents (Elt F) → (⟨S16384x33, .f32⟩ : BufTy).Contents (Elt F) → (⟨S16384x33, .f32⟩ : BufTy).Contents (Elt F)),
    unary main_v169 main_v170 (Host.log : (⟨S16384x33, .f32⟩ : BufTy).Contents (Elt F) → (⟨S16384x33, .f32⟩ : BufTy).Contents (Elt F)),
    unary main_arg18 main_v171 ((extractStridedSlice S1x16384x33 ![4, 0, 0] · slices_S6x16384x33_S1x16384x33_4_0_0) : (⟨S6x16384x33, .f32⟩ : BufTy).Contents (Elt F) → (⟨S1x16384x33, .f32⟩ : BufTy).Contents (Elt F)),
    reshape main_v171 main_v172 (rfl : (.f32 : EltTy) = .f32) shapeCasts_S1x16384x33_S16384x33,
    binary main_v170 main_v172 main_v173 (addf : (⟨S16384x33, .f32⟩ : BufTy).Contents (Elt F) → (⟨S16384x33, .f32⟩ : BufTy).Contents (Elt F) → (⟨S16384x33, .f32⟩ : BufTy).Contents (Elt F)),
    TRef.nullary (TRef.of (T := ⟨S16384x33, .i32⟩) main_call20_v0) (iotaInDim S16384x33 32 1),
    TRef.nullary (TRef.of (T := ⟨S_, .f32⟩) main_call20_cst) (constant S_ .f32 0xFF800000#32),
    TRef.nullary (TRef.of (T := ⟨S_, .i32⟩) main_call20_c) (constantI S_ 32 0#32),
    TRef.quaternary (TRef.of (T := ⟨S16384x33, .f32⟩) main_v173) (TRef.of (T := ⟨S16384x33, .i32⟩) main_call20_v0) (TRef.of (T := ⟨S_, .f32⟩) main_call20_cst) (TRef.of (T := ⟨S_, .i32⟩) main_call20_c) (TRef.of (T := ⟨S16384, .f32⟩) main_call20_v1_0) (fun x y u v j => (Host.argReduce reducer_argmax_f32_i32 x y u v reducesTo_S16384x33_S16384_d1 h_S_ j).1),
    TRef.quaternary (TRef.of (T := ⟨S16384x33, .f32⟩) main_v173) (TRef.of (T := ⟨S16384x33, .i32⟩) main_call20_v0) (TRef.of (T := ⟨S_, .f32⟩) main_call20_cst) (TRef.of (T := ⟨S_, .i32⟩) main_call20_c) (TRef.of (T := ⟨S16384, .i32⟩) main_v174) (fun x y u v j => (Host.argReduce reducer_argmax_f32_i32 x y u v reducesTo_S16384x33_S16384_d1 h_S_ j).2),
    TRef.unary (TRef.of (T := ⟨S16384, .i32⟩) main_v174) (TRef.of (T := ⟨S16384x1, .i32⟩) main_call21_v0) (broadcastInDim S16384x1 ![0] bcast_S16384_S16384x1_0),
    TRef.nullary (TRef.of (T := ⟨S1x33, .i32⟩) main_call21_v1) (iotaInDim S1x33 32 1),
    TRef.unary (TRef.of (T := ⟨S16384x1, .i32⟩) main_call21_v0) (TRef.of (T := ⟨S16384x33, .i32⟩) main_call21_v2) (broadcastInDim S16384x33 ![0, 1] bcast_S16384x1_S16384x33_0_1),
    TRef.unary (TRef.of (T := ⟨S1x33, .i32⟩) main_call21_v1) (TRef.of (T := ⟨S16384x33, .i32⟩) main_call21_v3) (broadcastInDim S16384x33 ![0, 1] bcast_S1x33_S16384x33_0_1),
    TRef.binary (TRef.of (T := ⟨S16384x33, .i32⟩) main_call21_v2) (TRef.of (T := ⟨S16384x33, .i32⟩) main_call21_v3) (TRef.of (T := ⟨S16384x33, .i1⟩) main_call21_v4) (cmpi .eq),
    TRef.unary (TRef.of (T := ⟨S16384x33, .i1⟩) main_call21_v4) (TRef.of (T := ⟨S16384x33, .f32⟩) main_v175) (uitofp .f32),
    nullary main_cst_39 (constant S_ .f32 0x3F800000#32),
    unary main_cst_39 main_v176 (broadcastInDim S16384x33 ![] bcast_S_S16384x33 : (⟨S_, .f32⟩ : BufTy).Contents (Elt F) → (⟨S16384x33, .f32⟩ : BufTy).Contents (Elt F)),
    binary main_v176 main_v175 main_v177 (subf : (⟨S16384x33, .f32⟩ : BufTy).Contents (Elt F) → (⟨S16384x33, .f32⟩ : BufTy).Contents (Elt F) → (⟨S16384x33, .f32⟩ : BufTy).Contents (Elt F)),
    binary main_v162 main_v177 main_v178 (mulf : (⟨S16384x33, .f32⟩ : BufTy).Contents (Elt F) → (⟨S16384x33, .f32⟩ : BufTy).Contents (Elt F) → (⟨S16384x33, .f32⟩ : BufTy).Contents (Elt F)) ]

/-- Operations 321 to 350 of the program. -/
abbrev wR5a : List (HloOp τ sig (Elt F)) :=
  [ nullary main_cst_40 (constant S_ .f32 0x00000000#32),
    binary main_v178 main_cst_40 main_v179 ((fun x v => Host.reduceAdd x v reducesTo_S16384x33_S16384_d1 h_S_) : (⟨S16384x33, .f32⟩ : BufTy).Contents (Elt F) → (⟨S_, .f32⟩ : BufTy).Contents (Elt F) → (⟨S16384, .f32⟩ : BufTy).Contents (Elt F)),
    unary main_v179 main_v180 (broadcastInDim S16384x1 ![0] bcast_S16384_S16384x1_0 : (⟨S16384, .f32⟩ : BufTy).Contents (Elt F) → (⟨S16384x1, .f32⟩ : BufTy).Contents (Elt F)),
    nullary main_cst_41 (constant S_ .f32 0x2EDBE6FF#32),
    TRef.unary (TRef.of (T := ⟨S_, .f32⟩) main_cst_41) (TRef.of (T := ⟨S_, .f32⟩) main_call22_v0) id,
    TRef.unary (TRef.of (T := ⟨S_, .f32⟩) main_call22_v0) (TRef.of (T := ⟨S16384x1, .f32⟩) main_call22_v1) (broadcastInDim S16384x1 ![] bcast_S_S16384x1),
    TRef.binary (TRef.of (T := ⟨S16384x1, .f32⟩) main_call22_v1) (TRef.of (T := ⟨S16384x1, .f32⟩) main_v180) (TRef.of (T := ⟨S16384x1, .f32⟩) main_v181) maximumf,
    unary main_v181 main_v182 (broadcastInDim S16384x33 ![0, 1] bcast_S16384x1_S16384x33_0_1 : (⟨S16384x1, .f32⟩ : BufTy).Contents (Elt F) → (⟨S16384x33, .f32⟩ : BufTy).Contents (Elt F)),
    binary main_v178 main_v182 main_v183 (Host.divf : (⟨S16384x33, .f32⟩ : BufTy).Contents (Elt F) → (⟨S16384x33, .f32⟩ : BufTy).Contents (Elt F) → (⟨S16384x33, .f32⟩ : BufTy).Contents (Elt F)),
    nullary main_cst_42 (constant S_ .f32 0x2B8CBCCC#32),
    unary main_cst_42 main_v184 (broadcastInDim S16384x33 ![] bcast_S_S16384x33 : (⟨S_, .f32⟩ : BufTy).Contents (Elt F) → (⟨S16384x33, .f32⟩ : BufTy).Contents (Elt F)),
    binary main_v183 main_v184 main_v185 (addf : (⟨S16384x33, .f32⟩ : BufTy).Contents (Elt F) → (⟨S16384x33, .f32⟩ : BufTy).Contents (Elt F) → (⟨S16384x33, .f32⟩ : BufTy).Contents (Elt F)),
    unary main_v185 main_v186 (Host.log : (⟨S16384x33, .f32⟩ : BufTy).Contents (Elt F) → (⟨S16384x33, .f32⟩ : BufTy).Contents (Elt F)),
    unary main_arg18 main_v187 ((extractStridedSlice S1x16384x33 ![5, 0, 0] · slices_S6x16384x33_S1x16384x33_5_0_0) : (⟨S6x16384x33, .f32⟩ : BufTy).Contents (Elt F) → (⟨S1x16384x33, .f32⟩ : BufTy).Contents (Elt F)),
    reshape main_v187 main_v188 (rfl : (.f32 : EltTy) = .f32) shapeCasts_S1x16384x33_S16384x33,
    binary main_v186 main_v188 main_v189 (addf : (⟨S16384x33, .f32⟩ : BufTy).Contents (Elt F) → (⟨S16384x33, .f32⟩ : BufTy).Contents (Elt F) → (⟨S16384x33, .f32⟩ : BufTy).Contents (Elt F)),
    TRef.nullary (TRef.of (T := ⟨S16384x33, .i32⟩) main_call23_v0) (iotaInDim S16384x33 32 1),
    TRef.nullary (TRef.of (T := ⟨S_, .f32⟩) main_call23_cst) (constant S_ .f32 0xFF800000#32),
    TRef.nullary (TRef.of (T := ⟨S_, .i32⟩) main_call23_c) (constantI S_ 32 0#32),
    TRef.quaternary (TRef.of (T := ⟨S16384x33, .f32⟩) main_v189) (TRef.of (T := ⟨S16384x33, .i32⟩) main_call23_v0) (TRef.of (T := ⟨S_, .f32⟩) main_call23_cst) (TRef.of (T := ⟨S_, .i32⟩) main_call23_c) (TRef.of (T := ⟨S16384, .f32⟩) main_call23_v1_0) (fun x y u v j => (Host.argReduce reducer_argmax_f32_i32 x y u v reducesTo_S16384x33_S16384_d1 h_S_ j).1),
    TRef.quaternary (TRef.of (T := ⟨S16384x33, .f32⟩) main_v189) (TRef.of (T := ⟨S16384x33, .i32⟩) main_call23_v0) (TRef.of (T := ⟨S_, .f32⟩) main_call23_cst) (TRef.of (T := ⟨S_, .i32⟩) main_call23_c) (TRef.of (T := ⟨S16384, .i32⟩) main_v190) (fun x y u v j => (Host.argReduce reducer_argmax_f32_i32 x y u v reducesTo_S16384x33_S16384_d1 h_S_ j).2),
    TRef.unary (TRef.of (T := ⟨S16384, .i32⟩) main_v190) (TRef.of (T := ⟨S16384x1, .i32⟩) main_call24_v0) (broadcastInDim S16384x1 ![0] bcast_S16384_S16384x1_0),
    TRef.nullary (TRef.of (T := ⟨S1x33, .i32⟩) main_call24_v1) (iotaInDim S1x33 32 1),
    TRef.unary (TRef.of (T := ⟨S16384x1, .i32⟩) main_call24_v0) (TRef.of (T := ⟨S16384x33, .i32⟩) main_call24_v2) (broadcastInDim S16384x33 ![0, 1] bcast_S16384x1_S16384x33_0_1),
    TRef.unary (TRef.of (T := ⟨S1x33, .i32⟩) main_call24_v1) (TRef.of (T := ⟨S16384x33, .i32⟩) main_call24_v3) (broadcastInDim S16384x33 ![0, 1] bcast_S1x33_S16384x33_0_1),
    TRef.binary (TRef.of (T := ⟨S16384x33, .i32⟩) main_call24_v2) (TRef.of (T := ⟨S16384x33, .i32⟩) main_call24_v3) (TRef.of (T := ⟨S16384x33, .i1⟩) main_call24_v4) (cmpi .eq),
    TRef.unary (TRef.of (T := ⟨S16384x33, .i1⟩) main_call24_v4) (TRef.of (T := ⟨S16384x33, .f32⟩) main_v191) (uitofp .f32),
    nullary main_cst_43 (constant S_ .f32 0x3F800000#32),
    unary main_cst_43 main_v192 (broadcastInDim S16384x33 ![] bcast_S_S16384x33 : (⟨S_, .f32⟩ : BufTy).Contents (Elt F) → (⟨S16384x33, .f32⟩ : BufTy).Contents (Elt F)),
    binary main_v192 main_v191 main_v193 (subf : (⟨S16384x33, .f32⟩ : BufTy).Contents (Elt F) → (⟨S16384x33, .f32⟩ : BufTy).Contents (Elt F) → (⟨S16384x33, .f32⟩ : BufTy).Contents (Elt F)) ]

/-- Operations 351 to 351 of the program. -/
abbrev wR5b : List (HloOp τ sig (Elt F)) :=
  [ binary main_v178 main_v193 main_v194 (mulf : (⟨S16384x33, .f32⟩ : BufTy).Contents (Elt F) → (⟨S16384x33, .f32⟩ : BufTy).Contents (Elt F) → (⟨S16384x33, .f32⟩ : BufTy).Contents (Elt F)) ]

/-- Operations 352 to 358 of the program. -/
abbrev wOUT : List (HloOp τ sig (Elt F)) :=
  [ unary main_v110 main_v195 (broadcastInDim S16384x1 ![0] bcast_S16384_S16384x1_0 : (⟨S16384, .i32⟩ : BufTy).Contents (Elt F) → (⟨S16384x1, .i32⟩ : BufTy).Contents (Elt F)),
    unary main_v126 main_v196 (broadcastInDim S16384x1 ![0] bcast_S16384_S16384x1_0 : (⟨S16384, .i32⟩ : BufTy).Contents (Elt F) → (⟨S16384x1, .i32⟩ : BufTy).Contents (Elt F)),
    unary main_v142 main_v197 (broadcastInDim S16384x1 ![0] bcast_S16384_S16384x1_0 : (⟨S16384, .i32⟩ : BufTy).Contents (Elt F) → (⟨S16384x1, .i32⟩ : BufTy).Contents (Elt F)),
    unary main_v158 main_v198 (broadcastInDim S16384x1 ![0] bcast_S16384_S16384x1_0 : (⟨S16384, .i32⟩ : BufTy).Contents (Elt F) → (⟨S16384x1, .i32⟩ : BufTy).Contents (Elt F)),
    unary main_v174 main_v199 (broadcastInDim S16384x1 ![0] bcast_S16384_S16384x1_0 : (⟨S16384, .i32⟩ : BufTy).Contents (Elt F) → (⟨S16384x1, .i32⟩ : BufTy).Contents (Elt F)),
    unary main_v190 main_v200 (broadcastInDim S16384x1 ![0] bcast_S16384_S16384x1_0 : (⟨S16384, .i32⟩ : BufTy).Contents (Elt F) → (⟨S16384x1, .i32⟩ : BufTy).Contents (Elt F)),
    nary ![main_v195, main_v196, main_v197, main_v198, main_v199, main_v200] main_v201 (fun u => fStack (F := F) (u 0) (u 1) (u 2) (u 3) (u 4) (u 5)) ]

/-- The operations of part 0 of the program. -/
def ops0 : List (HloOp τ sig (Elt F)) := wL1 ++ (wL2 ++ (wL3 ++ (wmean1 ++ (wvar1 ++ (wnorm1 ++ (wL4a))))))
/-- The operations of part 1 of the program. -/
def ops1 : List (HloOp τ sig (Elt F)) := wL4b ++ (wmean2 ++ (wvar2 ++ (wnorm2 ++ (wL5 ++ (wLG ++ (wSMa))))))
/-- The operations of part 2 of the program. -/
def ops2 : List (HloOp τ sig (Elt F)) := wSMb ++ (wR0 ++ (wR1 ++ (wR2a)))
/-- The operations of part 3 of the program. -/
def ops3 : List (HloOp τ sig (Elt F)) := wR2b ++ (wR3 ++ (wR4 ++ (wR5a)))
/-- The operations of part 4 of the program. -/
def ops4 : List (HloOp τ sig (Elt F)) := wR5b ++ (wOUT)
/-- All operations of the program. -/
abbrev ops : List (HloOp τ sig (Elt F)) := ops0 ++ (ops1 ++ (ops2 ++ (ops3 ++ ops4)))

set_option maxHeartbeats 4000000 in
theorem part0_eq (c : Dev nD) : main_part0 (F := F) c = seq ops0 := rfl
set_option maxHeartbeats 4000000 in
theorem part1_eq (c : Dev nD) : main_part1 (F := F) c = seq ops1 := rfl
set_option maxHeartbeats 4000000 in
theorem part2_eq (c : Dev nD) : main_part2 (F := F) c = seq ops2 := rfl
set_option maxHeartbeats 4000000 in
theorem part3_eq (c : Dev nD) : main_part3 (F := F) c = seq ops3 := rfl
set_option maxHeartbeats 4000000 in
theorem part4_eq (c : Dev nD) : main_part4 (F := F) c = seq ops4 := rfl

theorem main_eq (c : Dev nD) : main (F := F) c = seq ops := by
  simp only [ops, seq_append, ← part0_eq c, ← part1_eq c, ← part2_eq c, ← part3_eq c, ← part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- The buffers that `wL1` writes. -/
abbrev wL1_W : List (Ref sig .tc) := [main_v0, main_v1, main_v2, main_v3, main_cst, main_v4, main_v5, main_cst_0, main_v6, main_v7, main_v8]
theorem wL1_writes : (wL1 : List (HloOp τ sig (Elt F))).Forall fun op => op.writes ⊆ (wL1_W.map (Proc.devRef (τ := τ) .tc)).toFinset :=
  forall_writes_sub_of_map rfl
theorem wL1_fresh : (wL1 : List (HloOp τ sig (Elt F))).Forall fun op => op.fresh = ∅ := forall_fresh_of_map rfl
theorem wL1_sub : (wL1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem wL1_keep (V : Valuation τ sig (Elt F)) {r : Ref sig .tc} (h : r ∉ wL1_W) : after wL1 V (no_index (Proc.devRef .tc r)) = V (Proc.devRef .tc r) :=
  after_of_writes_sub wL1 _ wL1_writes h

/-- The buffers that `wL2` writes. -/
abbrev wL2_W : List (Ref sig .tc) := [main_v9, main_v10, main_v11, main_v12, main_cst_1, main_v13, main_v14, main_cst_2, main_v15, main_v16, main_v17]
theorem wL2_writes : (wL2 : List (HloOp τ sig (Elt F))).Forall fun op => op.writes ⊆ (wL2_W.map (Proc.devRef (τ := τ) .tc)).toFinset :=
  forall_writes_sub_of_map rfl
theorem wL2_fresh : (wL2 : List (HloOp τ sig (Elt F))).Forall fun op => op.fresh = ∅ := forall_fresh_of_map rfl
theorem wL2_sub : (wL2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem wL2_keep (V : Valuation τ sig (Elt F)) {r : Ref sig .tc} (h : r ∉ wL2_W) : after wL2 V (no_index (Proc.devRef .tc r)) = V (Proc.devRef .tc r) :=
  after_of_writes_sub wL2 _ wL2_writes h

/-- The buffers that `wL3` writes. -/
abbrev wL3_W : List (Ref sig .tc) := [main_v18, main_v19, main_v20, main_v21, main_v22, main_cst_3, main_v23, main_v24, main_cst_4, main_v25, main_v26, main_v27]
theorem wL3_writes : (wL3 : List (HloOp τ sig (Elt F))).Forall fun op => op.writes ⊆ (wL3_W.map (Proc.devRef (τ := τ) .tc)).toFinset :=
  forall_writes_sub_of_map rfl
theorem wL3_fresh : (wL3 : List (HloOp τ sig (Elt F))).Forall fun op => op.fresh = ∅ := forall_fresh_of_map rfl
theorem wL3_sub : (wL3 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem wL3_keep (V : Valuation τ sig (Elt F)) {r : Ref sig .tc} (h : r ∉ wL3_W) : after wL3 V (no_index (Proc.devRef .tc r)) = V (Proc.devRef .tc r) :=
  after_of_writes_sub wL3 _ wL3_writes h

/-- The buffers that `wmean1` writes. -/
abbrev wmean1_W : List (Ref sig .tc) := [main_cst_5, main_v28, main_v29, main_cst_6, main_v30, main_v31]
theorem wmean1_writes : (wmean1 : List (HloOp τ sig (Elt F))).Forall fun op => op.writes ⊆ (wmean1_W.map (Proc.devRef (τ := τ) .tc)).toFinset :=
  forall_writes_sub_of_map rfl
theorem wmean1_fresh : (wmean1 : List (HloOp τ sig (Elt F))).Forall fun op => op.fresh = ∅ := forall_fresh_of_map rfl
theorem wmean1_sub : (wmean1 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem wmean1_keep (V : Valuation τ sig (Elt F)) {r : Ref sig .tc} (h : r ∉ wmean1_W) : after wmean1 V (no_index (Proc.devRef .tc r)) = V (Proc.devRef .tc r) :=
  after_of_writes_sub wmean1 _ wmean1_writes h

/-- The buffers that `wvar1` writes. -/
abbrev wvar1_W : List (Ref sig .tc) := [main_c, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v32]
theorem wvar1_writes : (wvar1 : List (HloOp τ sig (Elt F))).Forall fun op => op.writes ⊆ (wvar1_W.map (Proc.devRef (τ := τ) .tc)).toFinset :=
  forall_writes_sub_of_map rfl
theorem wvar1_fresh : (wvar1 : List (HloOp τ sig (Elt F))).Forall fun op => op.fresh = ∅ := forall_fresh_of_map rfl
theorem wvar1_sub : (wvar1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem wvar1_keep (V : Valuation τ sig (Elt F)) {r : Ref sig .tc} (h : r ∉ wvar1_W) : after wvar1 V (no_index (Proc.devRef .tc r)) = V (Proc.devRef .tc r) :=
  after_of_writes_sub wvar1 _ wvar1_writes h

/-- The buffers that `wnorm1` writes. -/
abbrev wnorm1_W : List (Ref sig .tc) := [main_v33, main_v34, main_v35, main_v36, main_v37, main_cst_7, main_v38, main_v39, main_v40, main_v41, main_v42, main_v43, main_v44, main_v45]
theorem wnorm1_writes : (wnorm1 : List (HloOp τ sig (Elt F))).Forall fun op => op.writes ⊆ (wnorm1_W.map (Proc.devRef (τ := τ) .tc)).toFinset :=
  forall_writes_sub_of_map rfl
theorem wnorm1_fresh : (wnorm1 : List (HloOp τ sig (Elt F))).Forall fun op => op.fresh = ∅ := forall_fresh_of_map rfl
theorem wnorm1_sub : (wnorm1 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩
theorem wnorm1_keep (V : Valuation τ sig (Elt F)) {r : Ref sig .tc} (h : r ∉ wnorm1_W) : after wnorm1 V (no_index (Proc.devRef .tc r)) = V (Proc.devRef .tc r) :=
  after_of_writes_sub wnorm1 _ wnorm1_writes h

/-- The buffers that `wL4a` writes. -/
abbrev wL4a_W : List (Ref sig .tc) := [main_v46, main_v47, main_v48, main_v49]
theorem wL4a_writes : (wL4a : List (HloOp τ sig (Elt F))).Forall fun op => op.writes ⊆ (wL4a_W.map (Proc.devRef (τ := τ) .tc)).toFinset :=
  forall_writes_sub_of_map rfl
theorem wL4a_fresh : (wL4a : List (HloOp τ sig (Elt F))).Forall fun op => op.fresh = ∅ := forall_fresh_of_map rfl
theorem wL4a_sub : (wL4a : List (HloOp τ sig (Elt F))).Forall fun op => op.bufs ⊆ tcRefs τ sig :=
  ⟨binary_bufs_sub .., unary_bufs_sub .., unary_bufs_sub .., binary_bufs_sub ..⟩
theorem wL4a_keep (V : Valuation τ sig (Elt F)) {r : Ref sig .tc} (h : r ∉ wL4a_W) : after wL4a V (no_index (Proc.devRef .tc r)) = V (Proc.devRef .tc r) :=
  after_of_writes_sub wL4a _ wL4a_writes h

/-- The buffers that `wL4b` writes. -/
abbrev wL4b_W : List (Ref sig .tc) := [main_cst_8, main_v50, main_v51, main_cst_9, main_v52, main_v53, main_v54]
theorem wL4b_writes : (wL4b : List (HloOp τ sig (Elt F))).Forall fun op => op.writes ⊆ (wL4b_W.map (Proc.devRef (τ := τ) .tc)).toFinset :=
  forall_writes_sub_of_map rfl
theorem wL4b_fresh : (wL4b : List (HloOp τ sig (Elt F))).Forall fun op => op.fresh = ∅ := forall_fresh_of_map rfl
theorem wL4b_sub : (wL4b : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
theorem wL4b_keep (V : Valuation τ sig (Elt F)) {r : Ref sig .tc} (h : r ∉ wL4b_W) : after wL4b V (no_index (Proc.devRef .tc r)) = V (Proc.devRef .tc r) :=
  after_of_writes_sub wL4b _ wL4b_writes h

/-- The buffers that `wmean2` writes. -/
abbrev wmean2_W : List (Ref sig .tc) := [main_cst_10, main_v55, main_v56, main_cst_11, main_v57, main_v58]
theorem wmean2_writes : (wmean2 : List (HloOp τ sig (Elt F))).Forall fun op => op.writes ⊆ (wmean2_W.map (Proc.devRef (τ := τ) .tc)).toFinset :=
  forall_writes_sub_of_map rfl
theorem wmean2_fresh : (wmean2 : List (HloOp τ sig (Elt F))).Forall fun op => op.fresh = ∅ := forall_fresh_of_map rfl
theorem wmean2_sub : (wmean2 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem wmean2_keep (V : Valuation τ sig (Elt F)) {r : Ref sig .tc} (h : r ∉ wmean2_W) : after wmean2 V (no_index (Proc.devRef .tc r)) = V (Proc.devRef .tc r) :=
  after_of_writes_sub wmean2 _ wmean2_writes h

/-- The buffers that `wvar2` writes. -/
abbrev wvar2_W : List (Ref sig .tc) := [main_c_12, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v59]
theorem wvar2_writes : (wvar2 : List (HloOp τ sig (Elt F))).Forall fun op => op.writes ⊆ (wvar2_W.map (Proc.devRef (τ := τ) .tc)).toFinset :=
  forall_writes_sub_of_map rfl
theorem wvar2_fresh : (wvar2 : List (HloOp τ sig (Elt F))).Forall fun op => op.fresh = ∅ := forall_fresh_of_map rfl
theorem wvar2_sub : (wvar2 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem wvar2_keep (V : Valuation τ sig (Elt F)) {r : Ref sig .tc} (h : r ∉ wvar2_W) : after wvar2 V (no_index (Proc.devRef .tc r)) = V (Proc.devRef .tc r) :=
  after_of_writes_sub wvar2 _ wvar2_writes h

/-- The buffers that `wnorm2` writes. -/
abbrev wnorm2_W : List (Ref sig .tc) := [main_v60, main_v61, main_v62, main_v63, main_v64, main_cst_13, main_v65, main_v66, main_v67, main_v68, main_v69, main_v70, main_v71, main_v72]
theorem wnorm2_writes : (wnorm2 : List (HloOp τ sig (Elt F))).Forall fun op => op.writes ⊆ (wnorm2_W.map (Proc.devRef (τ := τ) .tc)).toFinset :=
  forall_writes_sub_of_map rfl
theorem wnorm2_fresh : (wnorm2 : List (HloOp τ sig (Elt F))).Forall fun op => op.fresh = ∅ := forall_fresh_of_map rfl
theorem wnorm2_sub : (wnorm2 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩
theorem wnorm2_keep (V : Valuation τ sig (Elt F)) {r : Ref sig .tc} (h : r ∉ wnorm2_W) : after wnorm2 V (no_index (Proc.devRef .tc r)) = V (Proc.devRef .tc r) :=
  after_of_writes_sub wnorm2 _ wnorm2_writes h

/-- The buffers that `wL5` writes. -/
abbrev wL5_W : List (Ref sig .tc) := [main_v73, main_v74, main_v75, main_v76, main_cst_14, main_v77, main_v78, main_cst_15, main_v79, main_v80, main_v81]
theorem wL5_writes : (wL5 : List (HloOp τ sig (Elt F))).Forall fun op => op.writes ⊆ (wL5_W.map (Proc.devRef (τ := τ) .tc)).toFinset :=
  forall_writes_sub_of_map rfl
theorem wL5_fresh : (wL5 : List (HloOp τ sig (Elt F))).Forall fun op => op.fresh = ∅ := forall_fresh_of_map rfl
theorem wL5_sub : (wL5 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem wL5_keep (V : Valuation τ sig (Elt F)) {r : Ref sig .tc} (h : r ∉ wL5_W) : after wL5 V (no_index (Proc.devRef .tc r)) = V (Proc.devRef .tc r) :=
  after_of_writes_sub wL5 _ wL5_writes h

/-- The buffers that `wLG` writes. -/
abbrev wLG_W : List (Ref sig .tc) := [main_v82, main_v83, main_v84, main_v85]
theorem wLG_writes : (wLG : List (HloOp τ sig (Elt F))).Forall fun op => op.writes ⊆ (wLG_W.map (Proc.devRef (τ := τ) .tc)).toFinset :=
  forall_writes_sub_of_map rfl
theorem wLG_fresh : (wLG : List (HloOp τ sig (Elt F))).Forall fun op => op.fresh = ∅ := forall_fresh_of_map rfl
theorem wLG_sub : (wLG : List (HloOp τ sig (Elt F))).Forall fun op => op.bufs ⊆ tcRefs τ sig :=
  ⟨binary_bufs_sub .., unary_bufs_sub .., unary_bufs_sub .., binary_bufs_sub ..⟩
theorem wLG_keep (V : Valuation τ sig (Elt F)) {r : Ref sig .tc} (h : r ∉ wLG_W) : after wLG V (no_index (Proc.devRef .tc r)) = V (Proc.devRef .tc r) :=
  after_of_writes_sub wLG _ wLG_writes h

/-- The buffers that `wSMa` writes. -/
abbrev wSMa_W : List (Ref sig .tc) := [main_cst_16, main_v86, main_v87, main_cst_17, main_v88, main_cst_18, main_v89, main_v90, main_v91, main_v92, main_v93, main_v94, main_cst_19, main_v95, main_v96, main_v97]
theorem wSMa_writes : (wSMa : List (HloOp τ sig (Elt F))).Forall fun op => op.writes ⊆ (wSMa_W.map (Proc.devRef (τ := τ) .tc)).toFinset :=
  forall_writes_sub_of_map rfl
theorem wSMa_fresh : (wSMa : List (HloOp τ sig (Elt F))).Forall fun op => op.fresh = ∅ := forall_fresh_of_map rfl
theorem wSMa_sub : (wSMa : List (HloOp τ sig (Elt F))).Forall fun op => op.bufs ⊆ tcRefs τ sig :=
  ⟨nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub ..⟩
theorem wSMa_keep (V : Valuation τ sig (Elt F)) {r : Ref sig .tc} (h : r ∉ wSMa_W) : after wSMa V (no_index (Proc.devRef .tc r)) = V (Proc.devRef .tc r) :=
  after_of_writes_sub wSMa _ wSMa_writes h

/-- The buffers that `wSMb` writes. -/
abbrev wSMb_W : List (Ref sig .tc) := [main_v98]
theorem wSMb_writes : (wSMb : List (HloOp τ sig (Elt F))).Forall fun op => op.writes ⊆ (wSMb_W.map (Proc.devRef (τ := τ) .tc)).toFinset :=
  forall_writes_sub_of_map rfl
theorem wSMb_fresh : (wSMb : List (HloOp τ sig (Elt F))).Forall fun op => op.fresh = ∅ := forall_fresh_of_map rfl
theorem wSMb_sub : (wSMb : List (HloOp τ sig (Elt F))).Forall fun op => op.bufs ⊆ tcRefs τ sig :=
  binary_bufs_sub ..
theorem wSMb_keep (V : Valuation τ sig (Elt F)) {r : Ref sig .tc} (h : r ∉ wSMb_W) : after wSMb V (no_index (Proc.devRef .tc r)) = V (Proc.devRef .tc r) :=
  after_of_writes_sub wSMb _ wSMb_writes h

/-- The buffers that `wR0` writes. -/
abbrev wR0_W : List (Ref sig .tc) := [main_cst_20, main_v99, main_v100, main_cst_21, main_call7_v0, main_call7_v1, main_v101, main_v102, main_v103, main_cst_22, main_v104, main_v105, main_v106, main_v107, main_v108, main_v109, main_call8_v0, main_call8_cst, main_call8_c, main_call8_v1_0, main_v110, main_call9_v0, main_call9_v1, main_call9_v2, main_call9_v3, main_call9_v4, main_v111, main_cst_23, main_v112, main_v113, main_v114]
theorem wR0_writes : (wR0 : List (HloOp τ sig (Elt F))).Forall fun op => op.writes ⊆ (wR0_W.map (Proc.devRef (τ := τ) .tc)).toFinset :=
  forall_writes_sub_of_map rfl
theorem wR0_fresh : (wR0 : List (HloOp τ sig (Elt F))).Forall fun op => op.fresh = ∅ := forall_fresh_of_map rfl
theorem wR0_sub : (wR0 : List (HloOp τ sig (Elt F))).Forall fun op => op.bufs ⊆ tcRefs τ sig :=
  ⟨nullary_bufs_sub .., binary_bufs_sub .., unary_bufs_sub .., nullary_bufs_sub .., unary_bufs_sub .., unary_bufs_sub .., binary_bufs_sub .., unary_bufs_sub .., binary_bufs_sub .., nullary_bufs_sub .., unary_bufs_sub .., binary_bufs_sub .., unary_bufs_sub .., unary_bufs_sub .., reshape_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., unary_bufs_sub .., binary_bufs_sub .., binary_bufs_sub ..⟩
theorem wR0_keep (V : Valuation τ sig (Elt F)) {r : Ref sig .tc} (h : r ∉ wR0_W) : after wR0 V (no_index (Proc.devRef .tc r)) = V (Proc.devRef .tc r) :=
  after_of_writes_sub wR0 _ wR0_writes h

/-- The buffers that `wR1` writes. -/
abbrev wR1_W : List (Ref sig .tc) := [main_cst_24, main_v115, main_v116, main_cst_25, main_call10_v0, main_call10_v1, main_v117, main_v118, main_v119, main_cst_26, main_v120, main_v121, main_v122, main_v123, main_v124, main_v125, main_call11_v0, main_call11_cst, main_call11_c, main_call11_v1_0, main_v126, main_call12_v0, main_call12_v1, main_call12_v2, main_call12_v3, main_call12_v4, main_v127, main_cst_27, main_v128, main_v129, main_v130]
theorem wR1_writes : (wR1 : List (HloOp τ sig (Elt F))).Forall fun op => op.writes ⊆ (wR1_W.map (Proc.devRef (τ := τ) .tc)).toFinset :=
  forall_writes_sub_of_map rfl
theorem wR1_fresh : (wR1 : List (HloOp τ sig (Elt F))).Forall fun op => op.fresh = ∅ := forall_fresh_of_map rfl
theorem wR1_sub : (wR1 : List (HloOp τ sig (Elt F))).Forall fun op => op.bufs ⊆ tcRefs τ sig :=
  ⟨nullary_bufs_sub .., binary_bufs_sub .., unary_bufs_sub .., nullary_bufs_sub .., unary_bufs_sub .., unary_bufs_sub .., binary_bufs_sub .., unary_bufs_sub .., binary_bufs_sub .., nullary_bufs_sub .., unary_bufs_sub .., binary_bufs_sub .., unary_bufs_sub .., unary_bufs_sub .., reshape_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., unary_bufs_sub .., binary_bufs_sub .., binary_bufs_sub ..⟩
theorem wR1_keep (V : Valuation τ sig (Elt F)) {r : Ref sig .tc} (h : r ∉ wR1_W) : after wR1 V (no_index (Proc.devRef .tc r)) = V (Proc.devRef .tc r) :=
  after_of_writes_sub wR1 _ wR1_writes h

/-- The buffers that `wR2a` writes. -/
abbrev wR2a_W : List (Ref sig .tc) := [main_cst_28, main_v131, main_v132, main_cst_29, main_call13_v0, main_call13_v1, main_v133, main_v134, main_v135, main_cst_30, main_v136, main_v137, main_v138, main_v139, main_v140, main_v141, main_call14_v0, main_call14_cst, main_call14_c, main_call14_v1_0, main_v142, main_call15_v0, main_call15_v1, main_call15_v2, main_call15_v3, main_call15_v4, main_v143, main_cst_31, main_v144, main_v145]
theorem wR2a_writes : (wR2a : List (HloOp τ sig (Elt F))).Forall fun op => op.writes ⊆ (wR2a_W.map (Proc.devRef (τ := τ) .tc)).toFinset :=
  forall_writes_sub_of_map rfl
theorem wR2a_fresh : (wR2a : List (HloOp τ sig (Elt F))).Forall fun op => op.fresh = ∅ := forall_fresh_of_map rfl
theorem wR2a_sub : (wR2a : List (HloOp τ sig (Elt F))).Forall fun op => op.bufs ⊆ tcRefs τ sig :=
  ⟨nullary_bufs_sub .., binary_bufs_sub .., unary_bufs_sub .., nullary_bufs_sub .., unary_bufs_sub .., unary_bufs_sub .., binary_bufs_sub .., unary_bufs_sub .., binary_bufs_sub .., nullary_bufs_sub .., unary_bufs_sub .., binary_bufs_sub .., unary_bufs_sub .., unary_bufs_sub .., reshape_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., unary_bufs_sub .., binary_bufs_sub ..⟩
theorem wR2a_keep (V : Valuation τ sig (Elt F)) {r : Ref sig .tc} (h : r ∉ wR2a_W) : after wR2a V (no_index (Proc.devRef .tc r)) = V (Proc.devRef .tc r) :=
  after_of_writes_sub wR2a _ wR2a_writes h

/-- The buffers that `wR2b` writes. -/
abbrev wR2b_W : List (Ref sig .tc) := [main_v146]
theorem wR2b_writes : (wR2b : List (HloOp τ sig (Elt F))).Forall fun op => op.writes ⊆ (wR2b_W.map (Proc.devRef (τ := τ) .tc)).toFinset :=
  forall_writes_sub_of_map rfl
theorem wR2b_fresh : (wR2b : List (HloOp τ sig (Elt F))).Forall fun op => op.fresh = ∅ := forall_fresh_of_map rfl
theorem wR2b_sub : (wR2b : List (HloOp τ sig (Elt F))).Forall fun op => op.bufs ⊆ tcRefs τ sig :=
  binary_bufs_sub ..
theorem wR2b_keep (V : Valuation τ sig (Elt F)) {r : Ref sig .tc} (h : r ∉ wR2b_W) : after wR2b V (no_index (Proc.devRef .tc r)) = V (Proc.devRef .tc r) :=
  after_of_writes_sub wR2b _ wR2b_writes h

/-- The buffers that `wR3` writes. -/
abbrev wR3_W : List (Ref sig .tc) := [main_cst_32, main_v147, main_v148, main_cst_33, main_call16_v0, main_call16_v1, main_v149, main_v150, main_v151, main_cst_34, main_v152, main_v153, main_v154, main_v155, main_v156, main_v157, main_call17_v0, main_call17_cst, main_call17_c, main_call17_v1_0, main_v158, main_call18_v0, main_call18_v1, main_call18_v2, main_call18_v3, main_call18_v4, main_v159, main_cst_35, main_v160, main_v161, main_v162]
theorem wR3_writes : (wR3 : List (HloOp τ sig (Elt F))).Forall fun op => op.writes ⊆ (wR3_W.map (Proc.devRef (τ := τ) .tc)).toFinset :=
  forall_writes_sub_of_map rfl
theorem wR3_fresh : (wR3 : List (HloOp τ sig (Elt F))).Forall fun op => op.fresh = ∅ := forall_fresh_of_map rfl
theorem wR3_sub : (wR3 : List (HloOp τ sig (Elt F))).Forall fun op => op.bufs ⊆ tcRefs τ sig :=
  ⟨nullary_bufs_sub .., binary_bufs_sub .., unary_bufs_sub .., nullary_bufs_sub .., unary_bufs_sub .., unary_bufs_sub .., binary_bufs_sub .., unary_bufs_sub .., binary_bufs_sub .., nullary_bufs_sub .., unary_bufs_sub .., binary_bufs_sub .., unary_bufs_sub .., unary_bufs_sub .., reshape_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., unary_bufs_sub .., binary_bufs_sub .., binary_bufs_sub ..⟩
theorem wR3_keep (V : Valuation τ sig (Elt F)) {r : Ref sig .tc} (h : r ∉ wR3_W) : after wR3 V (no_index (Proc.devRef .tc r)) = V (Proc.devRef .tc r) :=
  after_of_writes_sub wR3 _ wR3_writes h

/-- The buffers that `wR4` writes. -/
abbrev wR4_W : List (Ref sig .tc) := [main_cst_36, main_v163, main_v164, main_cst_37, main_call19_v0, main_call19_v1, main_v165, main_v166, main_v167, main_cst_38, main_v168, main_v169, main_v170, main_v171, main_v172, main_v173, main_call20_v0, main_call20_cst, main_call20_c, main_call20_v1_0, main_v174, main_call21_v0, main_call21_v1, main_call21_v2, main_call21_v3, main_call21_v4, main_v175, main_cst_39, main_v176, main_v177, main_v178]
theorem wR4_writes : (wR4 : List (HloOp τ sig (Elt F))).Forall fun op => op.writes ⊆ (wR4_W.map (Proc.devRef (τ := τ) .tc)).toFinset :=
  forall_writes_sub_of_map rfl
theorem wR4_fresh : (wR4 : List (HloOp τ sig (Elt F))).Forall fun op => op.fresh = ∅ := forall_fresh_of_map rfl
theorem wR4_sub : (wR4 : List (HloOp τ sig (Elt F))).Forall fun op => op.bufs ⊆ tcRefs τ sig :=
  ⟨nullary_bufs_sub .., binary_bufs_sub .., unary_bufs_sub .., nullary_bufs_sub .., unary_bufs_sub .., unary_bufs_sub .., binary_bufs_sub .., unary_bufs_sub .., binary_bufs_sub .., nullary_bufs_sub .., unary_bufs_sub .., binary_bufs_sub .., unary_bufs_sub .., unary_bufs_sub .., reshape_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., unary_bufs_sub .., binary_bufs_sub .., binary_bufs_sub ..⟩
theorem wR4_keep (V : Valuation τ sig (Elt F)) {r : Ref sig .tc} (h : r ∉ wR4_W) : after wR4 V (no_index (Proc.devRef .tc r)) = V (Proc.devRef .tc r) :=
  after_of_writes_sub wR4 _ wR4_writes h

/-- The buffers that `wR5a` writes. -/
abbrev wR5a_W : List (Ref sig .tc) := [main_cst_40, main_v179, main_v180, main_cst_41, main_call22_v0, main_call22_v1, main_v181, main_v182, main_v183, main_cst_42, main_v184, main_v185, main_v186, main_v187, main_v188, main_v189, main_call23_v0, main_call23_cst, main_call23_c, main_call23_v1_0, main_v190, main_call24_v0, main_call24_v1, main_call24_v2, main_call24_v3, main_call24_v4, main_v191, main_cst_43, main_v192, main_v193]
theorem wR5a_writes : (wR5a : List (HloOp τ sig (Elt F))).Forall fun op => op.writes ⊆ (wR5a_W.map (Proc.devRef (τ := τ) .tc)).toFinset :=
  forall_writes_sub_of_map rfl
theorem wR5a_fresh : (wR5a : List (HloOp τ sig (Elt F))).Forall fun op => op.fresh = ∅ := forall_fresh_of_map rfl
theorem wR5a_sub : (wR5a : List (HloOp τ sig (Elt F))).Forall fun op => op.bufs ⊆ tcRefs τ sig :=
  ⟨nullary_bufs_sub .., binary_bufs_sub .., unary_bufs_sub .., nullary_bufs_sub .., unary_bufs_sub .., unary_bufs_sub .., binary_bufs_sub .., unary_bufs_sub .., binary_bufs_sub .., nullary_bufs_sub .., unary_bufs_sub .., binary_bufs_sub .., unary_bufs_sub .., unary_bufs_sub .., reshape_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., unary_bufs_sub .., binary_bufs_sub ..⟩
theorem wR5a_keep (V : Valuation τ sig (Elt F)) {r : Ref sig .tc} (h : r ∉ wR5a_W) : after wR5a V (no_index (Proc.devRef .tc r)) = V (Proc.devRef .tc r) :=
  after_of_writes_sub wR5a _ wR5a_writes h

/-- The buffers that `wR5b` writes. -/
abbrev wR5b_W : List (Ref sig .tc) := [main_v194]
theorem wR5b_writes : (wR5b : List (HloOp τ sig (Elt F))).Forall fun op => op.writes ⊆ (wR5b_W.map (Proc.devRef (τ := τ) .tc)).toFinset :=
  forall_writes_sub_of_map rfl
theorem wR5b_fresh : (wR5b : List (HloOp τ sig (Elt F))).Forall fun op => op.fresh = ∅ := forall_fresh_of_map rfl
theorem wR5b_sub : (wR5b : List (HloOp τ sig (Elt F))).Forall fun op => op.bufs ⊆ tcRefs τ sig :=
  binary_bufs_sub ..
theorem wR5b_keep (V : Valuation τ sig (Elt F)) {r : Ref sig .tc} (h : r ∉ wR5b_W) : after wR5b V (no_index (Proc.devRef .tc r)) = V (Proc.devRef .tc r) :=
  after_of_writes_sub wR5b _ wR5b_writes h

/-- The buffers that `wOUT` writes. -/
abbrev wOUT_W : List (Ref sig .tc) := [main_v195, main_v196, main_v197, main_v198, main_v199, main_v200, main_v201]
theorem wOUT_writes : (wOUT : List (HloOp τ sig (Elt F))).Forall fun op => op.writes ⊆ (wOUT_W.map (Proc.devRef (τ := τ) .tc)).toFinset :=
  forall_writes_sub_of_map rfl
theorem wOUT_fresh : (wOUT : List (HloOp τ sig (Elt F))).Forall fun op => op.fresh = ∅ := forall_fresh_of_map rfl
theorem wOUT_sub : (wOUT : List (HloOp τ sig (Elt F))).Forall fun op => op.bufs ⊆ tcRefs τ sig :=
  ⟨unary_bufs_sub .., unary_bufs_sub .., unary_bufs_sub .., unary_bufs_sub .., unary_bufs_sub .., unary_bufs_sub .., nary_bufs_sub ..⟩
theorem wOUT_keep (V : Valuation τ sig (Elt F)) {r : Ref sig .tc} (h : r ∉ wOUT_W) : after wOUT V (no_index (Proc.devRef .tc r)) = V (Proc.devRef .tc r) :=
  after_of_writes_sub wOUT _ wOUT_writes h

theorem ops_sub (op : HloOp τ sig (Elt F)) (h : op ∈ (ops : List (HloOp τ sig (Elt F)))) : op.bufs ⊆ tcRefs τ sig := by
  simp only [ops, ops0, ops1, ops2, ops3, ops4, List.mem_append, or_assoc] at h
  rcases h with h | h | h | h | h | h | h | h | h | h | h | h | h | h | h | h | h | h | h | h | h | h | h | h
  exacts [List.forall_iff_forall_mem.mp wL1_sub op h, List.forall_iff_forall_mem.mp wL2_sub op h, List.forall_iff_forall_mem.mp wL3_sub op h, List.forall_iff_forall_mem.mp wmean1_sub op h, List.forall_iff_forall_mem.mp wvar1_sub op h, List.forall_iff_forall_mem.mp wnorm1_sub op h, List.forall_iff_forall_mem.mp wL4a_sub op h, List.forall_iff_forall_mem.mp wL4b_sub op h, List.forall_iff_forall_mem.mp wmean2_sub op h, List.forall_iff_forall_mem.mp wvar2_sub op h, List.forall_iff_forall_mem.mp wnorm2_sub op h, List.forall_iff_forall_mem.mp wL5_sub op h, List.forall_iff_forall_mem.mp wLG_sub op h, List.forall_iff_forall_mem.mp wSMa_sub op h, List.forall_iff_forall_mem.mp wSMb_sub op h, List.forall_iff_forall_mem.mp wR0_sub op h, List.forall_iff_forall_mem.mp wR1_sub op h, List.forall_iff_forall_mem.mp wR2a_sub op h, List.forall_iff_forall_mem.mp wR2b_sub op h, List.forall_iff_forall_mem.mp wR3_sub op h, List.forall_iff_forall_mem.mp wR4_sub op h, List.forall_iff_forall_mem.mp wR5a_sub op h, List.forall_iff_forall_mem.mp wR5b_sub op h, List.forall_iff_forall_mem.mp wOUT_sub op h]

theorem ops_fresh (op : HloOp τ sig (Elt F)) (h : op ∈ (ops : List (HloOp τ sig (Elt F)))) : op.fresh = ∅ := by
  simp only [ops, ops0, ops1, ops2, ops3, ops4, List.mem_append, or_assoc] at h
  rcases h with h | h | h | h | h | h | h | h | h | h | h | h | h | h | h | h | h | h | h | h | h | h | h | h
  exacts [List.forall_iff_forall_mem.mp wL1_fresh op h, List.forall_iff_forall_mem.mp wL2_fresh op h, List.forall_iff_forall_mem.mp wL3_fresh op h, List.forall_iff_forall_mem.mp wmean1_fresh op h, List.forall_iff_forall_mem.mp wvar1_fresh op h, List.forall_iff_forall_mem.mp wnorm1_fresh op h, List.forall_iff_forall_mem.mp wL4a_fresh op h, List.forall_iff_forall_mem.mp wL4b_fresh op h, List.forall_iff_forall_mem.mp wmean2_fresh op h, List.forall_iff_forall_mem.mp wvar2_fresh op h, List.forall_iff_forall_mem.mp wnorm2_fresh op h, List.forall_iff_forall_mem.mp wL5_fresh op h, List.forall_iff_forall_mem.mp wLG_fresh op h, List.forall_iff_forall_mem.mp wSMa_fresh op h, List.forall_iff_forall_mem.mp wSMb_fresh op h, List.forall_iff_forall_mem.mp wR0_fresh op h, List.forall_iff_forall_mem.mp wR1_fresh op h, List.forall_iff_forall_mem.mp wR2a_fresh op h, List.forall_iff_forall_mem.mp wR2b_fresh op h, List.forall_iff_forall_mem.mp wR3_fresh op h, List.forall_iff_forall_mem.mp wR4_fresh op h, List.forall_iff_forall_mem.mp wR5a_fresh op h, List.forall_iff_forall_mem.mp wR5b_fresh op h, List.forall_iff_forall_mem.mp wOUT_fresh op h]

set_option maxHeartbeats 2000000 in
theorem wL1_v8 (V : Valuation τ sig (Elt F)) : after wL1 V (no_index (Proc.devRef .tc main_v8)) = fL1 (V (Proc.devRef .tc main_arg1)) (V (Proc.devRef .tc main_arg2)) (V (Proc.devRef .tc main_arg3)) := by
  simp only [wL1, TRef.nullary, TRef.unary, TRef.binary, TRef.ternary, TRef.quaternary, TRef.toBuf, TRef.ofBuf, cast_eq]
  after_results_simp
  rfl

set_option maxHeartbeats 2000000 in
theorem wL2_v17 (V : Valuation τ sig (Elt F)) : after wL2 V (no_index (Proc.devRef .tc main_v17)) = fL2 (V (Proc.devRef .tc main_v8)) (V (Proc.devRef .tc main_arg4)) (V (Proc.devRef .tc main_arg5)) := by
  simp only [wL2, TRef.nullary, TRef.unary, TRef.binary, TRef.ternary, TRef.quaternary, TRef.toBuf, TRef.ofBuf, cast_eq]
  after_results_simp
  rfl

set_option maxHeartbeats 2000000 in
theorem wL3_v27 (V : Valuation τ sig (Elt F)) : after wL3 V (no_index (Proc.devRef .tc main_v27)) = fL3 (V (Proc.devRef .tc main_arg0)) (V (Proc.devRef .tc main_v17)) (V (Proc.devRef .tc main_arg6)) (V (Proc.devRef .tc main_arg7)) := by
  simp only [wL3, TRef.nullary, TRef.unary, TRef.binary, TRef.ternary, TRef.quaternary, TRef.toBuf, TRef.ofBuf, cast_eq]
  after_results_simp
  rfl

set_option maxHeartbeats 2000000 in
theorem wmean1_v31 (V : Valuation τ sig (Elt F)) : after wmean1 V (no_index (Proc.devRef .tc main_v31)) = fMean1 (V (Proc.devRef .tc main_v27)) := by
  simp only [wmean1, TRef.nullary, TRef.unary, TRef.binary, TRef.ternary, TRef.quaternary, TRef.toBuf, TRef.ofBuf, cast_eq]
  after_results_simp
  rfl

set_option maxHeartbeats 2000000 in
theorem wvar1_v32 (V : Valuation τ sig (Elt F)) : after wvar1 V (no_index (Proc.devRef .tc main_v32)) = fVar1 (V (Proc.devRef .tc main_v27)) := by
  simp only [wvar1, TRef.nullary, TRef.unary, TRef.binary, TRef.ternary, TRef.quaternary, TRef.toBuf, TRef.ofBuf, cast_eq]
  after_results_simp
  rfl

set_option maxHeartbeats 2000000 in
theorem wnorm1_v45 (V : Valuation τ sig (Elt F)) : after wnorm1 V (no_index (Proc.devRef .tc main_v45)) = fNorm1 (V (Proc.devRef .tc main_v27)) (V (Proc.devRef .tc main_v31)) (V (Proc.devRef .tc main_v32)) (V (Proc.devRef .tc main_arg8)) (V (Proc.devRef .tc main_arg9)) := by
  simp only [wnorm1, TRef.nullary, TRef.unary, TRef.binary, TRef.ternary, TRef.quaternary, TRef.toBuf, TRef.ofBuf, cast_eq]
  after_results_simp
  rfl

set_option maxHeartbeats 2000000 in
theorem wL4_v54 (V : Valuation τ sig (Elt F)) : after wL4b (after wL4a V) (no_index (Proc.devRef .tc main_v54)) = fL4 (V (Proc.devRef .tc main_v45)) (V (Proc.devRef .tc main_arg10)) (V (Proc.devRef .tc main_arg11)) := by
  simp only [wL4a, wL4b, TRef.nullary, TRef.unary, TRef.binary, TRef.ternary, TRef.quaternary, TRef.toBuf, TRef.ofBuf, cast_eq]
  after_results_simp
  rfl

set_option maxHeartbeats 2000000 in
theorem wmean2_v58 (V : Valuation τ sig (Elt F)) : after wmean2 V (no_index (Proc.devRef .tc main_v58)) = fMean2 (V (Proc.devRef .tc main_v54)) := by
  simp only [wmean2, TRef.nullary, TRef.unary, TRef.binary, TRef.ternary, TRef.quaternary, TRef.toBuf, TRef.ofBuf, cast_eq]
  after_results_simp
  rfl

set_option maxHeartbeats 2000000 in
theorem wvar2_v59 (V : Valuation τ sig (Elt F)) : after wvar2 V (no_index (Proc.devRef .tc main_v59)) = fVar2 (V (Proc.devRef .tc main_v54)) := by
  simp only [wvar2, TRef.nullary, TRef.unary, TRef.binary, TRef.ternary, TRef.quaternary, TRef.toBuf, TRef.ofBuf, cast_eq]
  after_results_simp
  rfl

set_option maxHeartbeats 2000000 in
theorem wnorm2_v72 (V : Valuation τ sig (Elt F)) : after wnorm2 V (no_index (Proc.devRef .tc main_v72)) = fNorm2 (V (Proc.devRef .tc main_v54)) (V (Proc.devRef .tc main_v58)) (V (Proc.devRef .tc main_v59)) (V (Proc.devRef .tc main_arg12)) (V (Proc.devRef .tc main_arg13)) := by
  simp only [wnorm2, TRef.nullary, TRef.unary, TRef.binary, TRef.ternary, TRef.quaternary, TRef.toBuf, TRef.ofBuf, cast_eq]
  after_results_simp
  rfl

set_option maxHeartbeats 2000000 in
theorem wL5_v81 (V : Valuation τ sig (Elt F)) : after wL5 V (no_index (Proc.devRef .tc main_v81)) = fL5 (V (Proc.devRef .tc main_v72)) (V (Proc.devRef .tc main_arg14)) (V (Proc.devRef .tc main_arg15)) := by
  simp only [wL5, TRef.nullary, TRef.unary, TRef.binary, TRef.ternary, TRef.quaternary, TRef.toBuf, TRef.ofBuf, cast_eq]
  after_results_simp
  rfl

set_option maxHeartbeats 2000000 in
theorem wLG_v85 (V : Valuation τ sig (Elt F)) : after wLG V (no_index (Proc.devRef .tc main_v85)) = fLG (V (Proc.devRef .tc main_v81)) (V (Proc.devRef .tc main_arg16)) (V (Proc.devRef .tc main_arg17)) := by
  simp only [wLG, TRef.nullary, TRef.unary, TRef.binary, TRef.ternary, TRef.quaternary, TRef.toBuf, TRef.ofBuf, cast_eq]
  after_results_simp
  rfl

set_option maxHeartbeats 2000000 in
theorem wSM_v98 (V : Valuation τ sig (Elt F)) : after wSMb (after wSMa V) (no_index (Proc.devRef .tc main_v98)) = fSM (fEx (V (Proc.devRef .tc main_v85))) := by
  simp only [wSMa, wSMb, TRef.nullary, TRef.unary, TRef.binary, TRef.ternary, TRef.quaternary, TRef.toBuf, TRef.ofBuf, cast_eq]
  after_results_simp
  rfl

set_option maxHeartbeats 2000000 in
theorem wR0_v110 (V : Valuation τ sig (Elt F)) : after wR0 V (no_index (Proc.devRef .tc main_v110)) = fArg (fLog (V (Proc.devRef .tc main_v98))) (fSlab0 (V (Proc.devRef .tc main_arg18))) := by
  simp only [wR0, TRef.nullary, TRef.unary, TRef.binary, TRef.ternary, TRef.quaternary, TRef.toBuf, TRef.ofBuf, cast_eq]
  after_results_simp
  rfl

set_option maxHeartbeats 2000000 in
theorem wR0_v114 (V : Valuation τ sig (Elt F)) : after wR0 V (no_index (Proc.devRef .tc main_v114)) = fNext (V (Proc.devRef .tc main_v98)) (fArg (fLog (V (Proc.devRef .tc main_v98))) (fSlab0 (V (Proc.devRef .tc main_arg18)))) := by
  simp only [wR0, TRef.nullary, TRef.unary, TRef.binary, TRef.ternary, TRef.quaternary, TRef.toBuf, TRef.ofBuf, cast_eq]
  after_results_simp
  rfl

set_option maxHeartbeats 2000000 in
theorem wR1_v126 (V : Valuation τ sig (Elt F)) : after wR1 V (no_index (Proc.devRef .tc main_v126)) = fArg (fLog (V (Proc.devRef .tc main_v114))) (fSlab1 (V (Proc.devRef .tc main_arg18))) := by
  simp only [wR1, TRef.nullary, TRef.unary, TRef.binary, TRef.ternary, TRef.quaternary, TRef.toBuf, TRef.ofBuf, cast_eq]
  after_results_simp
  rfl

set_option maxHeartbeats 2000000 in
theorem wR1_v130 (V : Valuation τ sig (Elt F)) : after wR1 V (no_index (Proc.devRef .tc main_v130)) = fNext (V (Proc.devRef .tc main_v114)) (fArg (fLog (V (Proc.devRef .tc main_v114))) (fSlab1 (V (Proc.devRef .tc main_arg18)))) := by
  simp only [wR1, TRef.nullary, TRef.unary, TRef.binary, TRef.ternary, TRef.quaternary, TRef.toBuf, TRef.ofBuf, cast_eq]
  after_results_simp
  rfl

set_option maxHeartbeats 2000000 in
theorem wR2_v142 (V : Valuation τ sig (Elt F)) : after wR2b (after wR2a V) (no_index (Proc.devRef .tc main_v142)) = fArg (fLog (V (Proc.devRef .tc main_v130))) (fSlab2 (V (Proc.devRef .tc main_arg18))) := by
  simp only [wR2a, wR2b, TRef.nullary, TRef.unary, TRef.binary, TRef.ternary, TRef.quaternary, TRef.toBuf, TRef.ofBuf, cast_eq]
  after_results_simp
  rfl

set_option maxHeartbeats 2000000 in
theorem wR2_v146 (V : Valuation τ sig (Elt F)) : after wR2b (after wR2a V) (no_index (Proc.devRef .tc main_v146)) = fNext (V (Proc.devRef .tc main_v130)) (fArg (fLog (V (Proc.devRef .tc main_v130))) (fSlab2 (V (Proc.devRef .tc main_arg18)))) := by
  simp only [wR2a, wR2b, TRef.nullary, TRef.unary, TRef.binary, TRef.ternary, TRef.quaternary, TRef.toBuf, TRef.ofBuf, cast_eq]
  after_results_simp
  rfl

set_option maxHeartbeats 2000000 in
theorem wR3_v158 (V : Valuation τ sig (Elt F)) : after wR3 V (no_index (Proc.devRef .tc main_v158)) = fArg (fLog (V (Proc.devRef .tc main_v146))) (fSlab3 (V (Proc.devRef .tc main_arg18))) := by
  simp only [wR3, TRef.nullary, TRef.unary, TRef.binary, TRef.ternary, TRef.quaternary, TRef.toBuf, TRef.ofBuf, cast_eq]
  after_results_simp
  rfl

set_option maxHeartbeats 2000000 in
theorem wR3_v162 (V : Valuation τ sig (Elt F)) : after wR3 V (no_index (Proc.devRef .tc main_v162)) = fNext (V (Proc.devRef .tc main_v146)) (fArg (fLog (V (Proc.devRef .tc main_v146))) (fSlab3 (V (Proc.devRef .tc main_arg18)))) := by
  simp only [wR3, TRef.nullary, TRef.unary, TRef.binary, TRef.ternary, TRef.quaternary, TRef.toBuf, TRef.ofBuf, cast_eq]
  after_results_simp
  rfl

set_option maxHeartbeats 2000000 in
theorem wR4_v174 (V : Valuation τ sig (Elt F)) : after wR4 V (no_index (Proc.devRef .tc main_v174)) = fArg (fLog (V (Proc.devRef .tc main_v162))) (fSlab4 (V (Proc.devRef .tc main_arg18))) := by
  simp only [wR4, TRef.nullary, TRef.unary, TRef.binary, TRef.ternary, TRef.quaternary, TRef.toBuf, TRef.ofBuf, cast_eq]
  after_results_simp
  rfl

set_option maxHeartbeats 2000000 in
theorem wR4_v178 (V : Valuation τ sig (Elt F)) : after wR4 V (no_index (Proc.devRef .tc main_v178)) = fNext (V (Proc.devRef .tc main_v162)) (fArg (fLog (V (Proc.devRef .tc main_v162))) (fSlab4 (V (Proc.devRef .tc main_arg18)))) := by
  simp only [wR4, TRef.nullary, TRef.unary, TRef.binary, TRef.ternary, TRef.quaternary, TRef.toBuf, TRef.ofBuf, cast_eq]
  after_results_simp
  rfl

set_option maxHeartbeats 2000000 in
theorem wR5_v190 (V : Valuation τ sig (Elt F)) : after wR5b (after wR5a V) (no_index (Proc.devRef .tc main_v190)) = fArg (fLog (V (Proc.devRef .tc main_v178))) (fSlab5 (V (Proc.devRef .tc main_arg18))) := by
  simp only [wR5a, wR5b, TRef.nullary, TRef.unary, TRef.binary, TRef.ternary, TRef.quaternary, TRef.toBuf, TRef.ofBuf, cast_eq]
  after_results_simp
  rfl

set_option maxHeartbeats 2000000 in
theorem wOUT_v201 (V : Valuation τ sig (Elt F)) : after wOUT V (no_index (Proc.devRef .tc main_v201)) = fOut (V (Proc.devRef .tc main_v110)) (V (Proc.devRef .tc main_v126)) (V (Proc.devRef .tc main_v142)) (V (Proc.devRef .tc main_v158)) (V (Proc.devRef .tc main_v174)) (V (Proc.devRef .tc main_v190)) := by
  simp only [wOUT, TRef.nullary, TRef.unary, TRef.binary, TRef.ternary, TRef.quaternary, TRef.toBuf, TRef.ofBuf, cast_eq]
  after_results_simp
  try dsimp only [Matrix.cons_val]
  try after_results_simp
  rfl

end Cert.ReferenceIdeal.Hand

end
-- ==== Proof.RefTrack.lean ====
/- The reference's run: what every named value holds, and that the arguments and counters end as they began. -/
module

public import proofs.«01_k».proof.Proof.RefRun
public import Idealize.ShloMosaic.Lib.Claim

@[expose] public section

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

/-- The contents of an argument. -/
abbrev arg (r : Ref sig .tc) : (Proc.devRef (τ := τ) .tc r).ty.Contents (Elt F) := V (Proc.devRef .tc r)

/-- The condition after its two layers. -/
def rH2 : Arr F S16384x128 .f32 := fL2 (fL1 (arg V main_arg1) (arg V main_arg2) (arg V main_arg3)) (arg V main_arg4) (arg V main_arg5)
/-- The first batch of columns. -/
def rH3 : Arr F S16384x512 .f32 := fL3 (arg V main_arg0) (rH2 V) (arg V main_arg6) (arg V main_arg7)
/-- The same, normalised. -/
def rN3 : Arr F S16384x512 .f32 := fNorm1 (rH3 V) (fMean1 (rH3 V)) (fVar1 (rH3 V)) (arg V main_arg8) (arg V main_arg9)
/-- The second batch of columns. -/
def rH4 : Arr F S16384x256 .f32 := fL4 (rN3 V) (arg V main_arg10) (arg V main_arg11)
/-- The same, normalised. -/
def rN4 : Arr F S16384x256 .f32 := fNorm2 (rH4 V) (fMean2 (rH4 V)) (fVar2 (rH4 V)) (arg V main_arg12) (arg V main_arg13)
/-- The logits. -/
def rLg : Arr F S16384x33 .f32 := fLG (fL5 (rN4 V) (arg V main_arg14) (arg V main_arg15)) (arg V main_arg16) (arg V main_arg17)
/-- The noise of a round. -/
def slab (x : Arr F S6x16384x33 .f32) : ℕ → Arr F S16384x33 .f32
  | 0 => fSlab0 x
  | 1 => fSlab1 x
  | 2 => fSlab2 x
  | 3 => fSlab3 x
  | 4 => fSlab4 x
  | _ => fSlab5 x
/-- The weights before round `n`. -/
def rP : ℕ → Arr F S16384x33 .f32
  | 0 => fSM (fEx (rLg V))
  | n + 1 => fNext (rP n) (fArg (fLog (rP n)) (slab (arg V main_arg18) n))
/-- The choices of round `n`. -/
def rI (n : ℕ) : Arr F S16384 .i32 := fArg (fLog (rP V n)) (slab (arg V main_arg18) n)
/-- The result. -/
def rOut : Arr F S16384x6 .i32 := fOut (rI V 0) (rI V 1) (rI V 2) (rI V 3) (rI V 4) (rI V 5)

/-- The contents after `L1`. -/
def S_L1 : Valuation τ sig (Elt F) := after wL1 V
theorem keep_L1 {r : Ref sig .tc} (h0 : r ∉ wL1_W) : S_L1 V (no_index (Proc.devRef .tc r)) = V (Proc.devRef .tc r) := wL1_keep _ h0
theorem at_v8 : S_L1 V (no_index (Proc.devRef .tc main_v8)) = fL1 (arg V main_arg1) (arg V main_arg2) (arg V main_arg3) := by
  unfold S_L1
  rw [wL1_v8]
  try simp (disch := decide) only []
  try rfl
/-- The contents after `L2`. -/
def S_L2 : Valuation τ sig (Elt F) := after wL2 (S_L1 V)
theorem keep_L2 {r : Ref sig .tc} (h0 : r ∉ wL2_W) : S_L2 V (no_index (Proc.devRef .tc r)) = (S_L1 V) (Proc.devRef .tc r) := wL2_keep _ h0
theorem at_v17 : S_L2 V (no_index (Proc.devRef .tc main_v17)) = rH2 V := by
  unfold S_L2
  rw [wL2_v17]
  try simp (disch := decide) only [keep_L1, at_v8]
  try rfl
/-- The contents after `L3`. -/
def S_L3 : Valuation τ sig (Elt F) := after wL3 (S_L2 V)
theorem keep_L3 {r : Ref sig .tc} (h0 : r ∉ wL3_W) : S_L3 V (no_index (Proc.devRef .tc r)) = (S_L2 V) (Proc.devRef .tc r) := wL3_keep _ h0
theorem at_v27 : S_L3 V (no_index (Proc.devRef .tc main_v27)) = rH3 V := by
  unfold S_L3
  rw [wL3_v27]
  try simp (disch := decide) only [keep_L1, keep_L2, at_v8, at_v17]
  try rfl
/-- The contents after `mean1`. -/
def S_mean1 : Valuation τ sig (Elt F) := after wmean1 (S_L3 V)
theorem keep_mean1 {r : Ref sig .tc} (h0 : r ∉ wmean1_W) : S_mean1 V (no_index (Proc.devRef .tc r)) = (S_L3 V) (Proc.devRef .tc r) := wmean1_keep _ h0
theorem at_v31 : S_mean1 V (no_index (Proc.devRef .tc main_v31)) = fMean1 (rH3 V) := by
  unfold S_mean1
  rw [wmean1_v31]
  try simp (disch := decide) only [keep_L1, keep_L2, keep_L3, at_v8, at_v17, at_v27]
  try rfl
/-- The contents after `var1`. -/
def S_var1 : Valuation τ sig (Elt F) := after wvar1 (S_mean1 V)
theorem keep_var1 {r : Ref sig .tc} (h0 : r ∉ wvar1_W) : S_var1 V (no_index (Proc.devRef .tc r)) = (S_mean1 V) (Proc.devRef .tc r) := wvar1_keep _ h0
theorem at_v32 : S_var1 V (no_index (Proc.devRef .tc main_v32)) = fVar1 (rH3 V) := by
  unfold S_var1
  rw [wvar1_v32]
  try simp (disch := decide) only [keep_L1, keep_L2, keep_L3, keep_mean1, at_v8, at_v17, at_v27, at_v31]
  try rfl
/-- The contents after `norm1`. -/
def S_norm1 : Valuation τ sig (Elt F) := after wnorm1 (S_var1 V)
theorem keep_norm1 {r : Ref sig .tc} (h0 : r ∉ wnorm1_W) : S_norm1 V (no_index (Proc.devRef .tc r)) = (S_var1 V) (Proc.devRef .tc r) := wnorm1_keep _ h0
theorem at_v45 : S_norm1 V (no_index (Proc.devRef .tc main_v45)) = rN3 V := by
  unfold S_norm1
  rw [wnorm1_v45]
  try simp (disch := decide) only [keep_L1, keep_L2, keep_L3, keep_mean1, keep_var1, at_v8, at_v17, at_v27, at_v31, at_v32]
  try rfl
/-- The contents after `L4`. -/
def S_L4 : Valuation τ sig (Elt F) := after wL4b (after wL4a (S_norm1 V))
theorem keep_L4 {r : Ref sig .tc} (h0 : r ∉ wL4a_W) (h1 : r ∉ wL4b_W) : S_L4 V (no_index (Proc.devRef .tc r)) = (S_norm1 V) (Proc.devRef .tc r) := (wL4b_keep _ h1).trans (wL4a_keep _ h0)
theorem at_v54 : S_L4 V (no_index (Proc.devRef .tc main_v54)) = rH4 V := by
  unfold S_L4
  rw [wL4_v54]
  try simp (disch := decide) only [keep_L1, keep_L2, keep_L3, keep_mean1, keep_var1, keep_norm1, at_v8, at_v17, at_v27, at_v31, at_v32, at_v45]
  try rfl
/-- The contents after `mean2`. -/
def S_mean2 : Valuation τ sig (Elt F) := after wmean2 (S_L4 V)
theorem keep_mean2 {r : Ref sig .tc} (h0 : r ∉ wmean2_W) : S_mean2 V (no_index (Proc.devRef .tc r)) = (S_L4 V) (Proc.devRef .tc r) := wmean2_keep _ h0
theorem at_v58 : S_mean2 V (no_index (Proc.devRef .tc main_v58)) = fMean2 (rH4 V) := by
  unfold S_mean2
  rw [wmean2_v58]
  try simp (disch := decide) only [keep_L1, keep_L2, keep_L3, keep_mean1, keep_var1, keep_norm1, keep_L4, at_v8, at_v17, at_v27, at_v31, at_v32, at_v45, at_v54]
  try rfl
/-- The contents after `var2`. -/
def S_var2 : Valuation τ sig (Elt F) := after wvar2 (S_mean2 V)
theorem keep_var2 {r : Ref sig .tc} (h0 : r ∉ wvar2_W) : S_var2 V (no_index (Proc.devRef .tc r)) = (S_mean2 V) (Proc.devRef .tc r) := wvar2_keep _ h0
theorem at_v59 : S_var2 V (no_index (Proc.devRef .tc main_v59)) = fVar2 (rH4 V) := by
  unfold S_var2
  rw [wvar2_v59]
  try simp (disch := decide) only [keep_L1, keep_L2, keep_L3, keep_mean1, keep_var1, keep_norm1, keep_L4, keep_mean2, at_v8, at_v17, at_v27, at_v31, at_v32, at_v45, at_v54, at_v58]
  try rfl
/-- The contents after `norm2`. -/
def S_norm2 : Valuation τ sig (Elt F) := after wnorm2 (S_var2 V)
theorem keep_norm2 {r : Ref sig .tc} (h0 : r ∉ wnorm2_W) : S_norm2 V (no_index (Proc.devRef .tc r)) = (S_var2 V) (Proc.devRef .tc r) := wnorm2_keep _ h0
theorem at_v72 : S_norm2 V (no_index (Proc.devRef .tc main_v72)) = rN4 V := by
  unfold S_norm2
  rw [wnorm2_v72]
  try simp (disch := decide) only [keep_L1, keep_L2, keep_L3, keep_mean1, keep_var1, keep_norm1, keep_L4, keep_mean2, keep_var2, at_v8, at_v17, at_v27, at_v31, at_v32, at_v45, at_v54, at_v58, at_v59]
  try rfl
/-- The contents after `L5`. -/
def S_L5 : Valuation τ sig (Elt F) := after wL5 (S_norm2 V)
theorem keep_L5 {r : Ref sig .tc} (h0 : r ∉ wL5_W) : S_L5 V (no_index (Proc.devRef .tc r)) = (S_norm2 V) (Proc.devRef .tc r) := wL5_keep _ h0
theorem at_v81 : S_L5 V (no_index (Proc.devRef .tc main_v81)) = fL5 (rN4 V) (arg V main_arg14) (arg V main_arg15) := by
  unfold S_L5
  rw [wL5_v81]
  try simp (disch := decide) only [keep_L1, keep_L2, keep_L3, keep_mean1, keep_var1, keep_norm1, keep_L4, keep_mean2, keep_var2, keep_norm2, at_v8, at_v17, at_v27, at_v31, at_v32, at_v45, at_v54, at_v58, at_v59, at_v72]
  try rfl
/-- The contents after `LG`. -/
def S_LG : Valuation τ sig (Elt F) := after wLG (S_L5 V)
theorem keep_LG {r : Ref sig .tc} (h0 : r ∉ wLG_W) : S_LG V (no_index (Proc.devRef .tc r)) = (S_L5 V) (Proc.devRef .tc r) := wLG_keep _ h0
theorem at_v85 : S_LG V (no_index (Proc.devRef .tc main_v85)) = rLg V := by
  unfold S_LG
  rw [wLG_v85]
  try simp (disch := decide) only [keep_L1, keep_L2, keep_L3, keep_mean1, keep_var1, keep_norm1, keep_L4, keep_mean2, keep_var2, keep_norm2, keep_L5, at_v8, at_v17, at_v27, at_v31, at_v32, at_v45, at_v54, at_v58, at_v59, at_v72, at_v81]
  try rfl
/-- The contents after `SM`. -/
def S_SM : Valuation τ sig (Elt F) := after wSMb (after wSMa (S_LG V))
theorem keep_SM {r : Ref sig .tc} (h0 : r ∉ wSMa_W) (h1 : r ∉ wSMb_W) : S_SM V (no_index (Proc.devRef .tc r)) = (S_LG V) (Proc.devRef .tc r) := (wSMb_keep _ h1).trans (wSMa_keep _ h0)
theorem at_v98 : S_SM V (no_index (Proc.devRef .tc main_v98)) = rP V 0 := by
  unfold S_SM
  rw [wSM_v98]
  try simp (disch := decide) only [keep_L1, keep_L2, keep_L3, keep_mean1, keep_var1, keep_norm1, keep_L4, keep_mean2, keep_var2, keep_norm2, keep_L5, keep_LG, at_v8, at_v17, at_v27, at_v31, at_v32, at_v45, at_v54, at_v58, at_v59, at_v72, at_v81, at_v85]
  try rfl
/-- The contents after `R0`. -/
def S_R0 : Valuation τ sig (Elt F) := after wR0 (S_SM V)
theorem keep_R0 {r : Ref sig .tc} (h0 : r ∉ wR0_W) : S_R0 V (no_index (Proc.devRef .tc r)) = (S_SM V) (Proc.devRef .tc r) := wR0_keep _ h0
theorem at_v110 : S_R0 V (no_index (Proc.devRef .tc main_v110)) = rI V 0 := by
  unfold S_R0
  rw [wR0_v110]
  try simp (disch := decide) only [keep_L1, keep_L2, keep_L3, keep_mean1, keep_var1, keep_norm1, keep_L4, keep_mean2, keep_var2, keep_norm2, keep_L5, keep_LG, keep_SM, at_v8, at_v17, at_v27, at_v31, at_v32, at_v45, at_v54, at_v58, at_v59, at_v72, at_v81, at_v85, at_v98]
  try rfl
theorem at_v114 : S_R0 V (no_index (Proc.devRef .tc main_v114)) = rP V 1 := by
  unfold S_R0
  rw [wR0_v114]
  try simp (disch := decide) only [keep_L1, keep_L2, keep_L3, keep_mean1, keep_var1, keep_norm1, keep_L4, keep_mean2, keep_var2, keep_norm2, keep_L5, keep_LG, keep_SM, at_v8, at_v17, at_v27, at_v31, at_v32, at_v45, at_v54, at_v58, at_v59, at_v72, at_v81, at_v85, at_v98]
  try rfl
/-- The contents after `R1`. -/
def S_R1 : Valuation τ sig (Elt F) := after wR1 (S_R0 V)
theorem keep_R1 {r : Ref sig .tc} (h0 : r ∉ wR1_W) : S_R1 V (no_index (Proc.devRef .tc r)) = (S_R0 V) (Proc.devRef .tc r) := wR1_keep _ h0
theorem at_v126 : S_R1 V (no_index (Proc.devRef .tc main_v126)) = rI V 1 := by
  unfold S_R1
  rw [wR1_v126]
  try simp (disch := decide) only [keep_L1, keep_L2, keep_L3, keep_mean1, keep_var1, keep_norm1, keep_L4, keep_mean2, keep_var2, keep_norm2, keep_L5, keep_LG, keep_SM, keep_R0, at_v8, at_v17, at_v27, at_v31, at_v32, at_v45, at_v54, at_v58, at_v59, at_v72, at_v81, at_v85, at_v98, at_v110, at_v114]
  try rfl
theorem at_v130 : S_R1 V (no_index (Proc.devRef .tc main_v130)) = rP V 2 := by
  unfold S_R1
  rw [wR1_v130]
  try simp (disch := decide) only [keep_L1, keep_L2, keep_L3, keep_mean1, keep_var1, keep_norm1, keep_L4, keep_mean2, keep_var2, keep_norm2, keep_L5, keep_LG, keep_SM, keep_R0, at_v8, at_v17, at_v27, at_v31, at_v32, at_v45, at_v54, at_v58, at_v59, at_v72, at_v81, at_v85, at_v98, at_v110, at_v114]
  try rfl
/-- The contents after `R2`. -/
def S_R2 : Valuation τ sig (Elt F) := after wR2b (after wR2a (S_R1 V))
theorem keep_R2 {r : Ref sig .tc} (h0 : r ∉ wR2a_W) (h1 : r ∉ wR2b_W) : S_R2 V (no_index (Proc.devRef .tc r)) = (S_R1 V) (Proc.devRef .tc r) := (wR2b_keep _ h1).trans (wR2a_keep _ h0)
theorem at_v142 : S_R2 V (no_index (Proc.devRef .tc main_v142)) = rI V 2 := by
  unfold S_R2
  rw [wR2_v142]
  try simp (disch := decide) only [keep_L1, keep_L2, keep_L3, keep_mean1, keep_var1, keep_norm1, keep_L4, keep_mean2, keep_var2, keep_norm2, keep_L5, keep_LG, keep_SM, keep_R0, keep_R1, at_v8, at_v17, at_v27, at_v31, at_v32, at_v45, at_v54, at_v58, at_v59, at_v72, at_v81, at_v85, at_v98, at_v110, at_v114, at_v126, at_v130]
  try rfl
theorem at_v146 : S_R2 V (no_index (Proc.devRef .tc main_v146)) = rP V 3 := by
  unfold S_R2
  rw [wR2_v146]
  try simp (disch := decide) only [keep_L1, keep_L2, keep_L3, keep_mean1, keep_var1, keep_norm1, keep_L4, keep_mean2, keep_var2, keep_norm2, keep_L5, keep_LG, keep_SM, keep_R0, keep_R1, at_v8, at_v17, at_v27, at_v31, at_v32, at_v45, at_v54, at_v58, at_v59, at_v72, at_v81, at_v85, at_v98, at_v110, at_v114, at_v126, at_v130]
  try rfl
/-- The contents after `R3`. -/
def S_R3 : Valuation τ sig (Elt F) := after wR3 (S_R2 V)
theorem keep_R3 {r : Ref sig .tc} (h0 : r ∉ wR3_W) : S_R3 V (no_index (Proc.devRef .tc r)) = (S_R2 V) (Proc.devRef .tc r) := wR3_keep _ h0
theorem at_v158 : S_R3 V (no_index (Proc.devRef .tc main_v158)) = rI V 3 := by
  unfold S_R3
  rw [wR3_v158]
  try simp (disch := decide) only [keep_L1, keep_L2, keep_L3, keep_mean1, keep_var1, keep_norm1, keep_L4, keep_mean2, keep_var2, keep_norm2, keep_L5, keep_LG, keep_SM, keep_R0, keep_R1, keep_R2, at_v8, at_v17, at_v27, at_v31, at_v32, at_v45, at_v54, at_v58, at_v59, at_v72, at_v81, at_v85, at_v98, at_v110, at_v114, at_v126, at_v130, at_v142, at_v146]
  try rfl
theorem at_v162 : S_R3 V (no_index (Proc.devRef .tc main_v162)) = rP V 4 := by
  unfold S_R3
  rw [wR3_v162]
  try simp (disch := decide) only [keep_L1, keep_L2, keep_L3, keep_mean1, keep_var1, keep_norm1, keep_L4, keep_mean2, keep_var2, keep_norm2, keep_L5, keep_LG, keep_SM, keep_R0, keep_R1, keep_R2, at_v8, at_v17, at_v27, at_v31, at_v32, at_v45, at_v54, at_v58, at_v59, at_v72, at_v81, at_v85, at_v98, at_v110, at_v114, at_v126, at_v130, at_v142, at_v146]
  try rfl
/-- The contents after `R4`. -/
def S_R4 : Valuation τ sig (Elt F) := after wR4 (S_R3 V)
theorem keep_R4 {r : Ref sig .tc} (h0 : r ∉ wR4_W) : S_R4 V (no_index (Proc.devRef .tc r)) = (S_R3 V) (Proc.devRef .tc r) := wR4_keep _ h0
theorem at_v174 : S_R4 V (no_index (Proc.devRef .tc main_v174)) = rI V 4 := by
  unfold S_R4
  rw [wR4_v174]
  try simp (disch := decide) only [keep_L1, keep_L2, keep_L3, keep_mean1, keep_var1, keep_norm1, keep_L4, keep_mean2, keep_var2, keep_norm2, keep_L5, keep_LG, keep_SM, keep_R0, keep_R1, keep_R2, keep_R3, at_v8, at_v17, at_v27, at_v31, at_v32, at_v45, at_v54, at_v58, at_v59, at_v72, at_v81, at_v85, at_v98, at_v110, at_v114, at_v126, at_v130, at_v142, at_v146, at_v158, at_v162]
  try rfl
theorem at_v178 : S_R4 V (no_index (Proc.devRef .tc main_v178)) = rP V 5 := by
  unfold S_R4
  rw [wR4_v178]
  try simp (disch := decide) only [keep_L1, keep_L2, keep_L3, keep_mean1, keep_var1, keep_norm1, keep_L4, keep_mean2, keep_var2, keep_norm2, keep_L5, keep_LG, keep_SM, keep_R0, keep_R1, keep_R2, keep_R3, at_v8, at_v17, at_v27, at_v31, at_v32, at_v45, at_v54, at_v58, at_v59, at_v72, at_v81, at_v85, at_v98, at_v110, at_v114, at_v126, at_v130, at_v142, at_v146, at_v158, at_v162]
  try rfl
/-- The contents after `R5`. -/
def S_R5 : Valuation τ sig (Elt F) := after wR5b (after wR5a (S_R4 V))
theorem keep_R5 {r : Ref sig .tc} (h0 : r ∉ wR5a_W) (h1 : r ∉ wR5b_W) : S_R5 V (no_index (Proc.devRef .tc r)) = (S_R4 V) (Proc.devRef .tc r) := (wR5b_keep _ h1).trans (wR5a_keep _ h0)
theorem at_v190 : S_R5 V (no_index (Proc.devRef .tc main_v190)) = rI V 5 := by
  unfold S_R5
  rw [wR5_v190]
  try simp (disch := decide) only [keep_L1, keep_L2, keep_L3, keep_mean1, keep_var1, keep_norm1, keep_L4, keep_mean2, keep_var2, keep_norm2, keep_L5, keep_LG, keep_SM, keep_R0, keep_R1, keep_R2, keep_R3, keep_R4, at_v8, at_v17, at_v27, at_v31, at_v32, at_v45, at_v54, at_v58, at_v59, at_v72, at_v81, at_v85, at_v98, at_v110, at_v114, at_v126, at_v130, at_v142, at_v146, at_v158, at_v162, at_v174, at_v178]
  try rfl
/-- The contents after `OUT`. -/
def S_OUT : Valuation τ sig (Elt F) := after wOUT (S_R5 V)
theorem keep_OUT {r : Ref sig .tc} (h0 : r ∉ wOUT_W) : S_OUT V (no_index (Proc.devRef .tc r)) = (S_R5 V) (Proc.devRef .tc r) := wOUT_keep _ h0
theorem at_v201 : S_OUT V (no_index (Proc.devRef .tc main_v201)) = rOut V := by
  unfold S_OUT
  rw [wOUT_v201]
  try simp (disch := decide) only [keep_L1, keep_L2, keep_L3, keep_mean1, keep_var1, keep_norm1, keep_L4, keep_mean2, keep_var2, keep_norm2, keep_L5, keep_LG, keep_SM, keep_R0, keep_R1, keep_R2, keep_R3, keep_R4, keep_R5, at_v8, at_v17, at_v27, at_v31, at_v32, at_v45, at_v54, at_v58, at_v59, at_v72, at_v81, at_v85, at_v98, at_v110, at_v114, at_v126, at_v130, at_v142, at_v146, at_v158, at_v162, at_v174, at_v178, at_v190]
  try rfl

theorem after_ops : after ops V = S_OUT V := by
  simp only [ops, ops0, ops1, ops2, ops3, ops4, after_append]
  rfl

/-- A buffer that no operation writes is left as it was. -/
theorem keep_arg {r : Ref sig .tc} (h0 : r ∉ wL1_W) (h1 : r ∉ wL2_W) (h2 : r ∉ wL3_W) (h3 : r ∉ wmean1_W) (h4 : r ∉ wvar1_W) (h5 : r ∉ wnorm1_W) (h6 : r ∉ wL4a_W) (h7 : r ∉ wL4b_W) (h8 : r ∉ wmean2_W) (h9 : r ∉ wvar2_W) (h10 : r ∉ wnorm2_W) (h11 : r ∉ wL5_W) (h12 : r ∉ wLG_W) (h13 : r ∉ wSMa_W) (h14 : r ∉ wSMb_W) (h15 : r ∉ wR0_W) (h16 : r ∉ wR1_W) (h17 : r ∉ wR2a_W) (h18 : r ∉ wR2b_W) (h19 : r ∉ wR3_W) (h20 : r ∉ wR4_W) (h21 : r ∉ wR5a_W) (h22 : r ∉ wR5b_W) (h23 : r ∉ wOUT_W) :
    after ops V (Proc.devRef .tc r) = V (Proc.devRef .tc r) := by
  rw [after_ops]
  simp only [*, keep_L1, keep_L2, keep_L3, keep_mean1, keep_var1, keep_norm1, keep_L4, keep_mean2, keep_var2, keep_norm2, keep_L5, keep_LG, keep_SM, keep_R0, keep_R1, keep_R2, keep_R3, keep_R4, keep_R5, keep_OUT, not_false_eq_true]

/-- Every execution ends with the result at `rOut`, the arguments unchanged and the counters at zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v201) = rOut (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun r h => ⟨fun c => ⟨(h c main_v201).trans ((congrFun (after_ops (launchContents m c)) _).trans (at_v201 (launchContents m c))),
    (h c main_arg0).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg1).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg2).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg3).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg4).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg5).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg6).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg7).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg8).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg9).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg10).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg11).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg12).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg13).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg14).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg15).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg16).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg17).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide)),
    (h c main_arg18).trans (keep_arg (launchContents m c) (by decide) (by decide) (by decide) (by decide) (by decide) (by decide) (by decide) (by decide) (by decide) (by decide) (by decide) (by decide) (by decide) (by decide) (by decide) (by decide) (by decide) (by decide) (by decide) (by decide) (by decide) (by decide) (by decide) (by decide))⟩,
    sem_eq_zero_of_no_sems (by decide) r.2⟩)
    (run_seq scopedRefs_eq scopedSems_eq defs main (fun _ => ops) main_eq (fun _ => List.forall_iff_forall_mem.mpr ops_sub) m ρ fun _ => ops_fresh)

end Cert.ReferenceIdeal.Hand

end
-- ==== Proof.RefVal.lean ====
module

public import proofs.«01_k».proof.Proof.RefTrack
public import proofs.«01_k».proof.Proof.Inputs

/-! The reference's stages at the extended reals, on arrays that hold real numbers. -/

@[expose] public section
set_option maxRecDepth 16384
noncomputable section
namespace Cert.ReferenceIdeal.Hand
open Cert.ReferenceIdeal Cert.ReferenceIdeal.Gen Idealize.ShloMosaic Cert.Mo

/-! ## The first greatest of a row -/

/-- One pair is at least as good as another: greater, or equal and no later. -/
def Beats (a b : Ideal .f32 × BitVec 32) : Prop := b.1 < a.1 ∨ (b.1 = a.1 ∧ a.2.toInt ≤ b.2.toInt)
theorem Beats.refl (a : Ideal .f32 × BitVec 32) : Beats a a := Or.inr ⟨rfl, le_rfl⟩
theorem Beats.trans {a b c : Ideal .f32 × BitVec 32} (h : Beats a b) (h' : Beats b c) : Beats a c := by
  rcases h with h | ⟨h, hi⟩ <;> rcases h' with h' | ⟨h', hi'⟩
  · exact Or.inl (h'.trans h)
  · exact Or.inl (h' ▸ h)
  · exact Or.inl (h ▸ h')
  · exact Or.inr ⟨h'.trans h, hi.trans hi'⟩
theorem Beats.antisymm {a b : Ideal .f32 × BitVec 32} (h : Beats a b) (h' : Beats b a) : a = b := by
  rcases h with h | ⟨h, hi⟩ <;> rcases h' with h' | ⟨h', hi'⟩
  · exact absurd h' (lt_asymm h)
  · exact absurd h' h.ne'
  · exact absurd h h'.ne'
  · exact Prod.ext h' (BitVec.eq_of_toInt_eq (le_antisymm hi hi'))

theorem arg_step (a b : Ideal .f32 × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨x, i⟩ := a
  obtain ⟨y, j⟩ := b
  unfold reducer_argmax_f32_i32
  simp only [Ideal.cmpf_def, Ideal.cmp, IntOp.ori, IntOp.andi, Scalar.select, IntOp.cmpi]
  rcases lt_trichotomy x y with h | h | h
  · simp [h.not_gt, h.ne, Beats, h]
  · subst h
    by_cases hs : i.slt j
    · have := (BitVec.slt_iff_toInt_lt.mp hs).le
      simp [hs, Beats, this]
    · have : j.toInt ≤ i.toInt := not_lt.mp fun h => hs (BitVec.slt_iff_toInt_lt.mpr h)
      simp [hs, Beats, this]
  · simp [h, h.ne', Beats]

theorem foldl_best (L : List (Ideal .f32 × BitVec 32)) (z : Ideal .f32 × BitVec 32) :
    (L.foldl reducer_argmax_f32_i32 z = z ∨ L.foldl reducer_argmax_f32_i32 z ∈ L)
      ∧ Beats (L.foldl reducer_argmax_f32_i32 z) z ∧ ∀ x ∈ L, Beats (L.foldl reducer_argmax_f32_i32 z) x := by
  induction L generalizing z with
  | nil => exact ⟨Or.inl rfl, Beats.refl z, fun x hx => absurd hx List.not_mem_nil⟩
  | cons y L ih =>
    obtain ⟨h1, h2, h3⟩ := ih (reducer_argmax_f32_i32 z y)
    obtain ⟨s1, s2, s3⟩ := arg_step z y
    rw [List.foldl_cons]
    refine ⟨?_, h2.trans s2, fun x hx => ?_⟩
    · rcases h1 with h1 | h1
      · rcases s1 with s1 | s1
        · exact Or.inl (h1.trans s1)
        · exact Or.inr (by rw [h1, s1]; exact List.mem_cons_self)
      · exact Or.inr (List.mem_cons_of_mem _ h1)
    · rcases List.mem_cons.mp hx with e | hx
      · rw [e]; exact h2.trans s3
      · exact h3 x hx

theorem argReduce_first (x : FVec Ideal S16384x33 .f32) (y : IVec S16384x33 32) (ix : S_.Idx → Ideal .f32) (iy : S_.Idx → BitVec 32)
    (h : S16384x33.ReducesTo [1] S16384) (hu : 0 < S_.numel) (t : Fin 33 → ℝ) (a : Fin 16384) (hix : ∀ z, ix z = ⊥)
    (hx : ∀ k : Fin 33, x (ix2 a k) = ((t k : ℝ) : EReal)) (hy : ∀ k : Fin 33, y (ix2 a k) = BitVec.ofNat 32 k.val)
    (k : Fin 33) (hk : IsFirst t k) :
    (Host.argReduce reducer_argmax_f32_i32 x y ix iy h hu (ix1 a)).2 = BitVec.ofNat 32 k.val := by
  rw [Ideal.argReduce_eq_reduce2, Host.reduce2_eq_foldl_fiber]
  have hfib : ∀ p, p ∈ Host.argReduceFiber x y h (ix1 a) ↔ ∃ j : Fin 33, p = (((t j : ℝ) : EReal), BitVec.ofNat 32 j.val) := by
    intro p
    unfold Host.argReduceFiber
    rw [List.mem_map]
    constructor
    · rintro ⟨n, hn, rfl⟩
      have hd := of_decide_eq_true (List.mem_filter.mp hn).2
      obtain ⟨j, hj⟩ := (Shape.ReducesTo.fiber_r2_a1 h _ _).mp hd
      rw [← hj]
      exact ⟨j, Prod.ext (hx j) (hy j)⟩
    · rintro ⟨j, rfl⟩
      refine ⟨S16384x33.rowMajor (ix2 a j), List.mem_filter.mpr ⟨List.mem_finRange _, decide_eq_true ?_⟩, ?_⟩
      · rw [Equiv.symm_apply_apply]
        exact (Shape.ReducesTo.fiber_r2_a1 h _ _).mpr ⟨j, rfl⟩
      · rw [Equiv.symm_apply_apply]; exact Prod.ext (hx j) (hy j)
  obtain ⟨h1, h2, h3⟩ := foldl_best (Host.argReduceFiber x y h (ix1 a)) (ix (Shape.Idx.first hu), iy (Shape.Idx.first hu))
  have hm := (hfib _).mpr ⟨k, rfl⟩
  have hb := h3 _ hm
  have hw : ∀ j : Fin 33, Beats (((t k : ℝ) : EReal), BitVec.ofNat 32 k.val) (((t j : ℝ) : EReal), BitVec.ofNat 32 j.val) := by
    intro j
    by_cases hj : j < k
    · exact Or.inl (EReal.coe_lt_coe_iff.mpr (hk.2 j hj))
    · rcases (hk.1 j).lt_or_eq with he | he
      · exact Or.inl (EReal.coe_lt_coe_iff.mpr he)
      · refine Or.inr ⟨by simp only [he], ?_⟩
        dsimp only
        rw [toInt_small _ (by have := k.isLt; omega), toInt_small _ (by have := j.isLt; omega)]
        exact_mod_cast not_lt.mp hj
  have : (Host.argReduceFiber x y h (ix1 a)).foldl reducer_argmax_f32_i32 (ix (Shape.Idx.first hu), iy (Shape.Idx.first hu))
      = (((t k : ℝ) : EReal), BitVec.ofNat 32 k.val) := by
    refine hb.antisymm ?_
    rcases h1 with h1 | h1
    · rw [h1]
      exact Or.inl (by rw [hix]; exact EReal.bot_lt_coe _)
    · obtain ⟨j, hj⟩ := (hfib _).mp h1
      rw [hj]; exact hw j
  rw [this]

/-! ## The stages -/

theorem r_L1 (x1 x2 x3) (u : ℕ → Fin 99 → ℝ) (w : Fin 99 → Fin 128 → ℝ) (b : Fin 128 → ℝ)
    (hx : ∀ (a : Fin 16384) i, x1 (ix2 a i) = ((u a.val i : ℝ) : EReal)) (hw : ∀ i j, x2 (ix2 i j) = ((w i j : ℝ) : EReal))
    (hb : ∀ j, x3 (ix1 j) = ((b j : ℝ) : EReal)) (a : Fin 16384) (j : Fin 128) :
    fL1 (F := Ideal) x1 x2 x3 (ix2 a j) = ((lr (lin (u a.val) w b j) : ℝ) : EReal) := by
  pointwise [fL1]
  simp only [hx, hw, hb, ← EReal.coe_mul, e_sum, ← EReal.coe_add, lr_ite]
  rfl
theorem r_L2 (x1 x2 x3) (u : ℕ → Fin 128 → ℝ) (w : Fin 128 → Fin 128 → ℝ) (b : Fin 128 → ℝ)
    (hx : ∀ (a : Fin 16384) i, x1 (ix2 a i) = ((u a.val i : ℝ) : EReal)) (hw : ∀ i j, x2 (ix2 i j) = ((w i j : ℝ) : EReal))
    (hb : ∀ j, x3 (ix1 j) = ((b j : ℝ) : EReal)) (a : Fin 16384) (j : Fin 128) :
    fL2 (F := Ideal) x1 x2 x3 (ix2 a j) = ((lr (lin (u a.val) w b j) : ℝ) : EReal) := by
  pointwise [fL2]
  simp only [hx, hw, hb, ← EReal.coe_mul, e_sum, ← EReal.coe_add, lr_ite]
  rfl
theorem r_L3 (x0 v17 x2 x3) (u0 u : ℕ → Fin 128 → ℝ) (w : Fin 256 → Fin 512 → ℝ) (b : Fin 512 → ℝ)
    (hx0 : ∀ (a : Fin 16384) i, x0 (ix2 a i) = ((u0 a.val i : ℝ) : EReal))
    (hx : ∀ (a : Fin 16384) i, v17 (ix2 a i) = ((u a.val i : ℝ) : EReal)) (hw : ∀ i j, x2 (ix2 i j) = ((w i j : ℝ) : EReal))
    (hb : ∀ j, x3 (ix1 j) = ((b j : ℝ) : EReal)) (a : Fin 16384) (j : Fin 512) :
    fL3 (F := Ideal) x0 v17 x2 x3 (ix2 a j) = ((lr (∑ i : Fin 128, u0 a.val i * w ⟨i.val, by have := i.isLt; omega⟩ j
      + ∑ i : Fin 128, u a.val i * w ⟨128 + i.val, by have := i.isLt; omega⟩ j + b j) : ℝ) : EReal) := by
  pointwise [fL3, fCat]
  simp only [hx0, hx, hw, hb, ← EReal.coe_mul, e_sum, ← EReal.coe_add, lr_ite]
theorem r_L4 (x1 x2 x3) (u : ℕ → Fin 512 → ℝ) (w : Fin 512 → Fin 256 → ℝ) (b : Fin 256 → ℝ)
    (hx : ∀ (a : Fin 16384) i, x1 (ix2 a i) = ((u a.val i : ℝ) : EReal)) (hw : ∀ i j, x2 (ix2 i j) = ((w i j : ℝ) : EReal))
    (hb : ∀ j, x3 (ix1 j) = ((b j : ℝ) : EReal)) (a : Fin 16384) (j : Fin 256) :
    fL4 (F := Ideal) x1 x2 x3 (ix2 a j) = ((lr (lin (u a.val) w b j) : ℝ) : EReal) := by
  pointwise [fL4]
  simp only [hx, hw, hb, ← EReal.coe_mul, e_sum, ← EReal.coe_add, lr_ite]
  rfl
theorem r_L5 (x1 x2 x3) (u : ℕ → Fin 256 → ℝ) (w : Fin 256 → Fin 128 → ℝ) (b : Fin 128 → ℝ)
    (hx : ∀ (a : Fin 16384) i, x1 (ix2 a i) = ((u a.val i : ℝ) : EReal)) (hw : ∀ i j, x2 (ix2 i j) = ((w i j : ℝ) : EReal))
    (hb : ∀ j, x3 (ix1 j) = ((b j : ℝ) : EReal)) (a : Fin 16384) (j : Fin 128) :
    fL5 (F := Ideal) x1 x2 x3 (ix2 a j) = ((lr (lin (u a.val) w b j) : ℝ) : EReal) := by
  pointwise [fL5]
  simp only [hx, hw, hb, ← EReal.coe_mul, e_sum, ← EReal.coe_add, lr_ite]
  rfl
theorem r_LG (x1 x2 x3) (u : ℕ → Fin 128 → ℝ) (w : Fin 128 → Fin 33 → ℝ) (b : Fin 33 → ℝ)
    (hx : ∀ (a : Fin 16384) i, x1 (ix2 a i) = ((u a.val i : ℝ) : EReal)) (hw : ∀ i j, x2 (ix2 i j) = ((w i j : ℝ) : EReal))
    (hb : ∀ j, x3 (ix1 j) = ((b j : ℝ) : EReal)) (a : Fin 16384) (j : Fin 33) :
    fLG (F := Ideal) x1 x2 x3 (ix2 a j) = ((lin (u a.val) w b j : ℝ) : EReal) := by
  pointwise [fLG]
  simp only [hx, hw, hb, ← EReal.coe_mul, e_sum, ← EReal.coe_add]
  rfl

theorem zero16 : (FloatOps.sitofp (F := Ideal) FTy.f32 0#32) = ((0 : ℝ) : EReal) := by
  show (((0#32 : BitVec 32).toInt : ℝ) : EReal) = _
  simp

theorem r_mean1 (x) (u : ℕ → Fin 512 → ℝ) (hx : ∀ (a : Fin 16384) i, x (ix2 a i) = ((u a.val i : ℝ) : EReal)) (j : Fin 512) :
    fMean1 (F := Ideal) x (ix2 0 j) = ((mean (fun a => u a j) : ℝ) : EReal) := by
  pointwise [fMean1]
  simp only [hx, e_sum, kB]
  rw [e_div _ _ (by norm_num), mean, Finset.sum_range]
theorem r_mean2 (x) (u : ℕ → Fin 256 → ℝ) (hx : ∀ (a : Fin 16384) i, x (ix2 a i) = ((u a.val i : ℝ) : EReal)) (j : Fin 256) :
    fMean2 (F := Ideal) x (ix2 0 j) = ((mean (fun a => u a j) : ℝ) : EReal) := by
  pointwise [fMean2]
  simp only [hx, e_sum, kB]
  rw [e_div _ _ (by norm_num), mean, Finset.sum_range]
theorem r_var1 (x) (u : ℕ → Fin 512 → ℝ) (hx : ∀ (a : Fin 16384) i, x (ix2 a i) = ((u a.val i : ℝ) : EReal)) (j : Fin 512) :
    fVar1 (F := Ideal) x (ix2 0 j) = ((var (fun a => u a j) : ℝ) : EReal) := by
  pointwise [fVar1]
  simp only [hx, e_sum, kB, zero16, ← EReal.coe_sub, sub_zero, e_div _ _ (show (16384 : ℝ) ≠ 0 by norm_num), ← EReal.coe_mul]
  rw [if_pos (EReal.coe_pos.mpr (by norm_num))]
  simp only [var, mean, Finset.sum_range, sq]
theorem r_var2 (x) (u : ℕ → Fin 256 → ℝ) (hx : ∀ (a : Fin 16384) i, x (ix2 a i) = ((u a.val i : ℝ) : EReal)) (j : Fin 256) :
    fVar2 (F := Ideal) x (ix2 0 j) = ((var (fun a => u a j) : ℝ) : EReal) := by
  pointwise [fVar2]
  simp only [hx, e_sum, kB, zero16, ← EReal.coe_sub, sub_zero, e_div _ _ (show (16384 : ℝ) ≠ 0 by norm_num), ← EReal.coe_mul]
  rw [if_pos (EReal.coe_pos.mpr (by norm_num))]
  simp only [var, mean, Finset.sum_range, sq]
theorem r_norm1 (x m v g h) (u : ℕ → Fin 512 → ℝ) (r s : Fin 512 → ℝ)
    (hx : ∀ (a : Fin 16384) i, x (ix2 a i) = ((u a.val i : ℝ) : EReal))
    (hm : ∀ j, m (ix2 0 j) = ((mean (fun a => u a j) : ℝ) : EReal)) (hv : ∀ j, v (ix2 0 j) = ((var (fun a => u a j) : ℝ) : EReal))
    (hg : ∀ j, g (ix1 j) = ((r j : ℝ) : EReal)) (hh : ∀ j, h (ix1 j) = ((s j : ℝ) : EReal)) (a : Fin 16384) (j : Fin 512) :
    fNorm1 (F := Ideal) x m v g h (ix2 a j) = ((nrm (fun a => u a j) (r j) (s j) a.val : ℝ) : EReal) := by
  pointwise [fNorm1]
  simp only [hx, hm, hv, hg, hh, kEps, ← EReal.coe_mul, ← EReal.coe_add, ← EReal.coe_sub]
  rw [e_sqrt _ (var_eps_pos _).le, e_div _ _ (sqrt_ne _), ← EReal.coe_add, nrm]
theorem r_norm2 (x m v g h) (u : ℕ → Fin 256 → ℝ) (r s : Fin 256 → ℝ)
    (hx : ∀ (a : Fin 16384) i, x (ix2 a i) = ((u a.val i : ℝ) : EReal))
    (hm : ∀ j, m (ix2 0 j) = ((mean (fun a => u a j) : ℝ) : EReal)) (hv : ∀ j, v (ix2 0 j) = ((var (fun a => u a j) : ℝ) : EReal))
    (hg : ∀ j, g (ix1 j) = ((r j : ℝ) : EReal)) (hh : ∀ j, h (ix1 j) = ((s j : ℝ) : EReal)) (a : Fin 16384) (j : Fin 256) :
    fNorm2 (F := Ideal) x m v g h (ix2 a j) = ((nrm (fun a => u a j) (r j) (s j) a.val : ℝ) : EReal) := by
  pointwise [fNorm2]
  simp only [hx, hm, hv, hg, hh, kEps, ← EReal.coe_mul, ← EReal.coe_add, ← EReal.coe_sub]
  rw [e_sqrt _ (var_eps_pos _).le, e_div _ _ (sqrt_ne _), ← EReal.coe_add, nrm]

/-! ## The rounds -/

theorem r_ex (x) (u : ℕ → Fin 33 → ℝ) (hx : ∀ (a : Fin 16384) i, x (ix2 a i) = ((u a.val i : ℝ) : EReal)) (a : Fin 16384) (j : Fin 33) :
    fEx (F := Ideal) x (ix2 a j) = ((Real.exp (u a.val j - top (u a.val)) : ℝ) : EReal) := by
  pointwise [fEx]
  simp only [hx, e_div_one]
  rw [e_fold (u a.val) _ (pick_first _), kBot, max_eq_right bot_le, ← EReal.coe_sub, e_exp, top]
theorem r_sm (x) (u : ℕ → Fin 33 → ℝ) (hu : ∀ a, 0 < ∑ j, u a j) (hx : ∀ (a : Fin 16384) i, x (ix2 a i) = ((u a.val i : ℝ) : EReal)) (a : Fin 16384) (j : Fin 33) :
    fSM (F := Ideal) x (ix2 a j) = ((u a.val j / ∑ j, u a.val j : ℝ) : EReal) := by
  pointwise [fSM]
  simp only [hx, e_sum]
  rw [e_div _ _ (hu _).ne']
theorem r_log (x) (u : ℕ → Fin 33 → ℝ) (hu : ∀ a j, 0 ≤ u a j) (hx : ∀ (a : Fin 16384) i, x (ix2 a i) = ((u a.val i : ℝ) : EReal)) (a : Fin 16384) (j : Fin 33) :
    fLog (F := Ideal) x (ix2 a j) = ((Real.log (u a.val j / max c10 (∑ j, u a.val j) + c12) : ℝ) : EReal) := by
  have hm : 0 < max c10 (∑ j, u a.val j) := lt_max_of_lt_left c10_pos
  pointwise [fLog]
  rw [show id (constant (F := Ideal) S_ .f32 786163455#32) ix0 = Ideal.ofBits .f32 786163455#32 from rfl]
  simp only [hx, e_sum, k10, k12, e_max]
  rw [e_div _ _ hm.ne', ← EReal.coe_add, e_log _ (add_pos_of_nonneg_of_pos (div_nonneg (hu _ _) hm.le) c12_pos)]
theorem r_arg (x y) (t : Fin 33 → ℝ) (s : Fin 33 → ℝ) (a : Fin 16384) (hx : ∀ k, x (ix2 a k) = ((t k : ℝ) : EReal))
    (hy : ∀ k, y (ix2 a k) = ((s k : ℝ) : EReal)) :
    fArg (F := Ideal) x y (ix1 a) = BitVec.ofNat 32 (pick fun k => t k + s k).val := by
  pointwise [fArg]
  refine argReduce_first _ _ _ _ _ _ (fun k => t k + s k) a (fun z => ?_) (fun k => ?_) (fun k => ?_) _ (pick_first _)
  · show Ideal.ofBits .f32 4286578688#32 = ⊥
    exact kBot
  · show x (ix2 a k) + y (ix2 a k) = _
    rw [hx, hy, EReal.coe_add]
  · rfl
theorem r_next (x y) (a : Fin 16384) (t : Fin 33 → ℝ) (k : Fin 33) (hx : ∀ k, x (ix2 a k) = ((t k : ℝ) : EReal))
    (hy : y (ix1 a) = BitVec.ofNat 32 k.val) (j : Fin 33) :
    fNext (F := Ideal) x y (ix2 a j) = (((if j = k then 0 else t j) : ℝ) : EReal) := by
  pointwise [fNext]
  rw [hx, hy]
  by_cases h : j = k
  · subst h
    rw [if_pos rfl]
    have : FloatOps.uitofp (F := Ideal) FTy.f32 (IntOp.cmpi .eq (BitVec.ofNat 32 j.val) (BitVec.ofNat 32 j.val)) = ((1 : ℝ) : EReal) := by
      show (((IntOp.cmpi .eq (BitVec.ofNat 32 j.val) (BitVec.ofNat 32 j.val)).toNat : ℝ) : EReal) = _
      simp [IntOp.cmpi]
    rw [this, ← EReal.coe_one, ← EReal.coe_sub, ← EReal.coe_mul, sub_self, mul_zero]
  · rw [if_neg h]
    have hne : BitVec.ofNat 32 k.val ≠ BitVec.ofNat 32 j.val := fun e => h (Fin.ext (by
      have := congrArg BitVec.toInt e
      rw [toInt_small _ (by have := k.isLt; omega), toInt_small _ (by have := j.isLt; omega)] at this
      omega))
    have : FloatOps.uitofp (F := Ideal) FTy.f32 (IntOp.cmpi .eq (BitVec.ofNat 32 k.val) (BitVec.ofNat 32 j.val)) = ((0 : ℝ) : EReal) := by
      show (((IntOp.cmpi .eq (BitVec.ofNat 32 k.val) (BitVec.ofNat 32 j.val)).toNat : ℝ) : EReal) = _
      simp [IntOp.cmpi, hne]
    rw [this, ← EReal.coe_one, ← EReal.coe_sub, ← EReal.coe_mul, sub_zero, mul_one]

/-! ## The whole -/

section Whole
open Idealize.ShloMosaic.StableHlo
variable (V : Valuation τ sig (Elt Ideal)) (I : In)
  (H : Holds I (arg V main_arg0) (arg V main_arg1) (arg V main_arg2) (arg V main_arg3) (arg V main_arg4) (arg V main_arg5) (arg V main_arg6)
    (arg V main_arg7) (arg V main_arg8) (arg V main_arg9) (arg V main_arg10) (arg V main_arg11) (arg V main_arg12) (arg V main_arg13)
    (arg V main_arg14) (arg V main_arg15) (arg V main_arg16) (arg V main_arg17) (arg V main_arg18))
include H

theorem v_H2 (a : Fin 16384) (j : Fin 128) : rH2 V (ix2 a j) = ((h2 I a.val j : ℝ) : EReal) :=
  r_L2 _ _ _ (h1 I) I.w2 I.b2 (fun a j => r_L1 _ _ _ I.x1 I.w1 I.b1 H.x1 H.w1 H.b1 a j) H.w2 H.b2 a j
theorem v_H3 (a : Fin 16384) (j : Fin 512) : rH3 V (ix2 a j) = ((h3 I a.val j : ℝ) : EReal) :=
  r_L3 _ _ _ _ I.x0 (h2 I) I.w3 I.b3 H.x0 (v_H2 V I H) H.w3 H.b3 a j
theorem v_N3 (a : Fin 16384) (j : Fin 512) : rN3 V (ix2 a j) = ((n3 I a.val j : ℝ) : EReal) :=
  r_norm1 _ _ _ _ _ (h3 I) I.g3 I.e3 (v_H3 V I H) (r_mean1 _ _ (v_H3 V I H)) (r_var1 _ _ (v_H3 V I H)) H.g3 H.e3 a j
theorem v_H4 (a : Fin 16384) (j : Fin 256) : rH4 V (ix2 a j) = ((h4 I a.val j : ℝ) : EReal) :=
  r_L4 _ _ _ (n3 I) I.w4 I.b4 (v_N3 V I H) H.w4 H.b4 a j
theorem v_N4 (a : Fin 16384) (j : Fin 256) : rN4 V (ix2 a j) = ((n4 I a.val j : ℝ) : EReal) :=
  r_norm2 _ _ _ _ _ (h4 I) I.g4 I.e4 (v_H4 V I H) (r_mean2 _ _ (v_H4 V I H)) (r_var2 _ _ (v_H4 V I H)) H.g4 H.e4 a j
theorem v_Lg (a : Fin 16384) (k : Fin 33) : rLg V (ix2 a k) = ((lgt I a.val k : ℝ) : EReal) :=
  r_LG _ _ _ (h5 I) I.w6 I.b6 (fun a j => r_L5 _ _ _ (n4 I) I.w5 I.b5 (v_N4 V I H) H.w5 H.b5 a j) H.w6 H.b6 a k

theorem v_slab (n : ℕ) (hn : n < 6) (a : Fin 16384) (k : Fin 33) : slab (arg V main_arg18) n (ix2 a k) = ((I.ns n a.val k : ℝ) : EReal) := by
  interval_cases n
  · unfold slab; pointwise [fSlab0]; exact H.ns 0 a k
  · unfold slab; pointwise [fSlab1]; exact H.ns 1 a k
  · unfold slab; pointwise [fSlab2]; exact H.ns 2 a k
  · unfold slab; pointwise [fSlab3]; exact H.ns 3 a k
  · unfold slab; pointwise [fSlab4]; exact H.ns 4 a k
  · unfold slab; pointwise [fSlab5]; exact H.ns 5 a k

/-- The shares before a round, and its choice. -/
theorem v_I_of (n : ℕ) (hn : n < 6) (hP : ∀ (a : Fin 16384) k, rP V n (ix2 a k) = ((left I a.val n k / tot I a.val : ℝ) : EReal)) (a : Fin 16384) :
    fArg (fLog (rP V n)) (slab (arg V main_arg18) n) (ix1 a) = BitVec.ofNat 32 (choice I a.val n).val := by
  have h := r_arg (fLog (rP V n)) (slab (arg V main_arg18) n) _ _ a
    (r_log _ (fun a k => left I a n k / tot I a) (fun a k => div_nonneg (left_nonneg I a n k) (tot_pos I a).le) hP a) (v_slab V I H n hn a)
  rw [h, choice_eq]
  rfl
theorem v_P (n : ℕ) (hn : n < 6) (a : Fin 16384) (k : Fin 33) : rP V n (ix2 a k) = ((left I a.val n k / tot I a.val : ℝ) : EReal) := by
  induction n generalizing a k with
  | zero =>
    rw [left_zero]
    exact r_sm _ (wt I) (tot_pos I) (fun a j => r_ex _ (lgt I) (v_Lg V I H) a j) a k
  | succ n ih =>
    have h := r_next (rP V n) _ a _ _ (ih (by omega) a) (v_I_of V I H n (by omega) (ih (by omega)) a) k
    refine h.trans ?_
    rw [left_succ]
    split <;> simp
theorem v_I (n : ℕ) (hn : n < 6) (a : Fin 16384) : rI V n (ix1 a) = BitVec.ofNat 32 (choice I a.val n).val :=
  v_I_of V I H n hn (v_P V I H n hn) a
/-- The reference's result: the choices of the six rounds. -/
theorem v_Out (a : Fin 16384) (b : Fin 6) : rOut V (ix2 a b) = BitVec.ofNat 32 (choice I a.val b.val).val := by
  unfold rOut
  pointwise [fOut, fStack]
  simp only [v_I V I H _ (show 0 < 6 by norm_num), v_I V I H _ (show 1 < 6 by norm_num), v_I V I H _ (show 2 < 6 by norm_num), v_I V I H _ (show 3 < 6 by norm_num), v_I V I H _ (show 4 < 6 by norm_num), v_I V I H _ (show 5 < 6 by norm_num)]
  fin_vals b with hb <;> simp [hb, Fin.ext_iff]

end Whole

end Cert.ReferenceIdeal.Hand
end
-- ==== Proof.Finite.lean ====
/- The precondition, read: every element of every argument is a real number. -/
module

public import proofs.«01_k».proof.Pre_all_finite
public import proofs.«01_k».proof.Proof.Gen.Pre_all_finite
public import Idealize.ShloMosaic.Lib.ReduceAll
public import Idealize.ShloMosaic.Lib.Pointwise

@[expose] public section
noncomputable section
namespace Cert.Pre_all_finite.Hand
open Cert.Pre_all_finite Idealize.ShloMosaic

instance : Subsingleton S_.Idx := ⟨fun a b => funext fun i => i.elim0⟩

theorem and_one (a b : IVec S_ 1) (i : S_.Idx) (h : andi a b i = 1#1) : a i = 1#1 ∧ b i = 1#1 := by
  have h' : a i &&& b i = 1#1 := h
  revert h'; generalize a i = x; generalize b i = y; revert x y; decide

theorem kTop : Ideal.ofBits .f32 2139095040#32 = ⊤ := by
  simp [Ideal.ofBits, Ideal.ieee]

theorem real_of_lt (x : EReal) (h : max x (-x) < ⊤) : (x.toReal : EReal) = x := by
  refine EReal.coe_toReal ?_ ?_
  · rintro rfl; simp at h
  · rintro rfl; simp at h

/-- One argument's test: all of `|x| < ∞`. -/
theorem real_of {s : Shape} {ax : List (Fin s.rank)} (x : FVec Ideal s .f32) (hb : S_.BroadcastsInDim s (![] : Fin 0 → Fin s.rank))
    (hr : s.ReducesTo ax S_) (hu : 0 < S_.numel) (j : S_.Idx)
    (h : Host.reduce IntOp.andi (cmpf .olt (Host.absf x) (broadcastInDim s ![] hb (constant S_ .f32 0x7F800000#32 : FVec Ideal S_ .f32))) (constantI S_ 1 1#1) hr hu j = 1#1)
    (i : s.Idx) : ((x i).toReal : EReal) = x i := by
  have h1 := Host.reduce_andi_all _ _ hr hu j h i
  have h2 : BitVec.ofBool (decide (max (x i) (-(x i)) < Ideal.ofBits .f32 2139095040#32)) = 1#1 := h1
  rw [kTop] at h2
  refine real_of_lt _ (by_contra fun hc => ?_)
  rw [decide_eq_false hc] at h2
  exact absurd h2 (by decide)

/-- Where the precondition holds, no argument has an infinity. -/
theorem reals (a0 : FVec Ideal S16384x128 .f32) (a1 : FVec Ideal S16384x99 .f32) (a2 : FVec Ideal S99x128 .f32) (a3 : FVec Ideal S128 .f32) (a4 : FVec Ideal S128x128 .f32) (a5 : FVec Ideal S128 .f32) (a6 : FVec Ideal S256x512 .f32) (a7 : FVec Ideal S512 .f32) (a8 : FVec Ideal S512 .f32) (a9 : FVec Ideal S512 .f32) (a10 : FVec Ideal S512x256 .f32) (a11 : FVec Ideal S256 .f32) (a12 : FVec Ideal S256 .f32) (a13 : FVec Ideal S256 .f32) (a14 : FVec Ideal S256x128 .f32) (a15 : FVec Ideal S128 .f32) (a16 : FVec Ideal S128x33 .f32) (a17 : FVec Ideal S33 .f32) (a18 : FVec Ideal S6x16384x33 .f32)
    (j : S_.Idx) (h : fn (F := Ideal) a0 a1 a2 a3 a4 a5 a6 a7 a8 a9 a10 a11 a12 a13 a14 a15 a16 a17 a18 j = 1#1) :
    (∀ i, ((a0 i).toReal : EReal) = a0 i)
      ∧ (∀ i, ((a1 i).toReal : EReal) = a1 i)
      ∧ (∀ i, ((a2 i).toReal : EReal) = a2 i)
      ∧ (∀ i, ((a3 i).toReal : EReal) = a3 i)
      ∧ (∀ i, ((a4 i).toReal : EReal) = a4 i)
      ∧ (∀ i, ((a5 i).toReal : EReal) = a5 i)
      ∧ (∀ i, ((a6 i).toReal : EReal) = a6 i)
      ∧ (∀ i, ((a7 i).toReal : EReal) = a7 i)
      ∧ (∀ i, ((a8 i).toReal : EReal) = a8 i)
      ∧ (∀ i, ((a9 i).toReal : EReal) = a9 i)
      ∧ (∀ i, ((a10 i).toReal : EReal) = a10 i)
      ∧ (∀ i, ((a11 i).toReal : EReal) = a11 i)
      ∧ (∀ i, ((a12 i).toReal : EReal) = a12 i)
      ∧ (∀ i, ((a13 i).toReal : EReal) = a13 i)
      ∧ (∀ i, ((a14 i).toReal : EReal) = a14 i)
      ∧ (∀ i, ((a15 i).toReal : EReal) = a15 i)
      ∧ (∀ i, ((a16 i).toReal : EReal) = a16 i)
      ∧ (∀ i, ((a17 i).toReal : EReal) = a17 i)
      ∧ (∀ i, ((a18 i).toReal : EReal) = a18 i) := by
  unfold fn fn_part1 fn_part2 fn_part3 fn_part4 fn_part5 at h
  dsimp only at h
  obtain ⟨h, h18⟩ := and_one _ _ _ h
  obtain ⟨h, h17⟩ := and_one _ _ _ h
  obtain ⟨h, h16⟩ := and_one _ _ _ h
  obtain ⟨h, h15⟩ := and_one _ _ _ h
  obtain ⟨h, h14⟩ := and_one _ _ _ h
  obtain ⟨h, h13⟩ := and_one _ _ _ h
  obtain ⟨h, h12⟩ := and_one _ _ _ h
  obtain ⟨h, h11⟩ := and_one _ _ _ h
  obtain ⟨h, h10⟩ := and_one _ _ _ h
  obtain ⟨h, h9⟩ := and_one _ _ _ h
  obtain ⟨h, h8⟩ := and_one _ _ _ h
  obtain ⟨h, h7⟩ := and_one _ _ _ h
  obtain ⟨h, h6⟩ := and_one _ _ _ h
  obtain ⟨h, h5⟩ := and_one _ _ _ h
  obtain ⟨h, h4⟩ := and_one _ _ _ h
  obtain ⟨h, h3⟩ := and_one _ _ _ h
  obtain ⟨h, h2⟩ := and_one _ _ _ h
  obtain ⟨h, h1⟩ := and_one _ _ _ h
  exact ⟨real_of _ _ _ _ _ h, real_of _ _ _ _ _ h1, real_of _ _ _ _ _ h2, real_of _ _ _ _ _ h3, real_of _ _ _ _ _ h4, real_of _ _ _ _ _ h5, real_of _ _ _ _ _ h6, real_of _ _ _ _ _ h7, real_of _ _ _ _ _ h8, real_of _ _ _ _ _ h9, real_of _ _ _ _ _ h10, real_of _ _ _ _ _ h11, real_of _ _ _ _ _ h12, real_of _ _ _ _ _ h13, real_of _ _ _ _ _ h14, real_of _ _ _ _ _ h15, real_of _ _ _ _ _ h16, real_of _ _ _ _ _ h17, real_of _ _ _ _ _ h18⟩

end Cert.Pre_all_finite.Hand
end
-- ==== Proof.lean ====
/- The proof of the claims: the frames of the three programs, and the kernel's result against the reference's over the reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_all_finite
public import proofs.«01_k».proof.Proof.TrackK
public import proofs.«01_k».proof.Proof.KerArr
public import proofs.«01_k».proof.Proof.RefVal
public import proofs.«01_k».proof.Proof.Finite

@[expose] public section

noncomputable section

namespace Cert.Proof

open Idealize.ShloMosaic Idealize.ShloMosaic.TcCoe Idealize.SL.Sem Cert.Mo

/-- Where the precondition holds, the arguments are real numbers. -/
theorem holds (m : (ℓ : Loc Cert.KernelIdeal.nD Cert.KernelIdeal.τ Cert.KernelIdeal.sig) → Buf (Elt Ideal) ℓ)
    (hm : Pre_KernelIdeal_all_finite m) (c : Dev Cert.KernelIdeal.nD) :
    ∃ I, Holds I (Cert.KernelIdeal.Hand.marg m c Cert.KernelIdeal.main_arg0) (Cert.KernelIdeal.Hand.marg m c Cert.KernelIdeal.main_arg1) (Cert.KernelIdeal.Hand.marg m c Cert.KernelIdeal.main_arg2) (Cert.KernelIdeal.Hand.marg m c Cert.KernelIdeal.main_arg3) (Cert.KernelIdeal.Hand.marg m c Cert.KernelIdeal.main_arg4) (Cert.KernelIdeal.Hand.marg m c Cert.KernelIdeal.main_arg5) (Cert.KernelIdeal.Hand.marg m c Cert.KernelIdeal.main_arg6) (Cert.KernelIdeal.Hand.marg m c Cert.KernelIdeal.main_arg7) (Cert.KernelIdeal.Hand.marg m c Cert.KernelIdeal.main_arg8) (Cert.KernelIdeal.Hand.marg m c Cert.KernelIdeal.main_arg9) (Cert.KernelIdeal.Hand.marg m c Cert.KernelIdeal.main_arg10) (Cert.KernelIdeal.Hand.marg m c Cert.KernelIdeal.main_arg11) (Cert.KernelIdeal.Hand.marg m c Cert.KernelIdeal.main_arg12) (Cert.KernelIdeal.Hand.marg m c Cert.KernelIdeal.main_arg13) (Cert.KernelIdeal.Hand.marg m c Cert.KernelIdeal.main_arg14) (Cert.KernelIdeal.Hand.marg m c Cert.KernelIdeal.main_arg15) (Cert.KernelIdeal.Hand.marg m c Cert.KernelIdeal.main_arg16) (Cert.KernelIdeal.Hand.marg m c Cert.KernelIdeal.main_arg17) (Cert.KernelIdeal.Hand.marg m c Cert.KernelIdeal.main_arg18) := by
  obtain ⟨f0, f1, f2, f3, f4, f5, f6, f7, f8, f9, f10, f11, f12, f13, f14, f15, f16, f17, f18⟩ := Cert.Pre_all_finite.Hand.reals _ _ _ _ _ _ _ _ _ _ _ _ _ _ _ _ _ _ _ (fun i => i.elim0) (congrFun (hm c) _)
  exact exists_holds _ _ _ _ _ _ _ _ _ _ _ _ _ _ _ _ _ _ _ f0 f1 f2 f3 f4 f5 f6 f7 f8 f9 f10 f11 f12 f13 f14 f15 f16 f17 f18

/-- The kernel's result is the reference's. -/
theorem equal : algebraic_KernelIdeal_ReferenceIdeal_pre_all_finite := by
  intro m g m' g' hm hargs
  refine ⟨fun c => Cert.ReferenceIdeal.Hand.rOut (StableHlo.launchContents m' c), ?_, ?_⟩
  · refine θ_run_mono (Cert.KernelIdeal.Hand.run_main m g) fun r hr c => ⟨?_, Cert.KernelIdeal.Hand.args_of m r hr.1 c⟩
    obtain ⟨I, H⟩ := holds m hm c
    obtain ⟨e0, e1, e2, e3, e4, e5, e6, e7, e8, e9, e10, e11, e12, e13, e14, e15, e16, e17, e18⟩ := hargs c
    have H' : Holds I (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) := by
      rw [e0, e1, e2, e3, e4, e5, e6, e7, e8, e9, e10, e11, e12, e13, e14, e15, e16, e17, e18]
      exact H
    funext i
    obtain ⟨a, b, rfl⟩ : ∃ (a : Fin 16384) (b : Fin 6), i = ix2 a b := ⟨i 0, i 1, eq_ix2 i⟩
    exact (Cert.KernelIdeal.Hand.result m c I H r hr.1 (ix2 a b)).trans (Cert.ReferenceIdeal.Hand.v_Out (StableHlo.launchContents m' c) I H' a b).symm
  · exact θ_run_mono (Cert.ReferenceIdeal.Hand.run m' g') fun r hr c => hr.1 c

theorem claim : Cert.Claim := ⟨Cert.Kernel.Gen.facts, Cert.KernelIdeal.Gen.facts, Cert.ReferenceIdeal.Gen.facts, Cert.Pre_all_finite.Gen.facts,
  fun m g _ => Cert.Kernel.Hand.frame m g, fun m g _ => Cert.KernelIdeal.Hand.frame m g, fun m g _ => Cert.KernelIdeal.Hand.frame m g,
  fun m g _ => θ_run_mono (Cert.ReferenceIdeal.Hand.run m g) fun r hr => ⟨fun c => (hr.1 c).2, hr.2⟩,
  fun m g _ => θ_run_mono (Cert.ReferenceIdeal.Hand.run m g) fun r hr => ⟨fun c => (hr.1 c).2, hr.2⟩, trivial, equal⟩

end Cert.Proof

end
